-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small_sums_KernelIdeal [hPre_small_sums_KernelIdeal : Cert.Pre_small_sums_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_small_sums_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_small_sums_ReferenceIdeal [hPre_small_sums_ReferenceIdeal : Cert.Pre_small_sums_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small_sums_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_small_sums_KernelIdeal [hKernelIdeal : Cert.KernelIdeal.Facts] [hPre_small_sums_KernelIdeal : Cert.Pre_small_sums_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_sums_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_small_sums_ReferenceIdeal [hReferenceIdeal : Cert.ReferenceIdeal.Facts] [hPre_small_sums_ReferenceIdeal : Cert.Pre_small_sums_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small_sums_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_small_sums_KernelIdeal [hKernelIdeal : Cert.KernelIdeal.Facts] [hReferenceIdeal : Cert.ReferenceIdeal.Facts] [hPre_small_sums_KernelIdeal : Cert.Pre_small_sums_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small_sums_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![8192, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![8192, 4096]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_small_sums_KernelIdeal : Cert.Pre_small_sums_KernelIdeal.Facts) (hPre_small_sums_ReferenceIdeal : Cert.Pre_small_sums_ReferenceIdeal.Facts),
    quiescent_Kernel (hKernel := hKernel)
    ∧ quiescent_KernelIdeal (hKernelIdeal := hKernelIdeal)
    ∧ quiescent_KernelIdeal_pre_small_sums_KernelIdeal (hKernelIdeal := hKernelIdeal) (hPre_small_sums_KernelIdeal := hPre_small_sums_KernelIdeal)
    ∧ quiescent_ReferenceIdeal (hReferenceIdeal := hReferenceIdeal)
    ∧ quiescent_ReferenceIdeal_pre_small_sums_ReferenceIdeal (hReferenceIdeal := hReferenceIdeal) (hPre_small_sums_ReferenceIdeal := hPre_small_sums_ReferenceIdeal)
    ∧ preserves_Kernel_KernelIdeal
    ∧ algebraic_KernelIdeal_ReferenceIdeal_pre_small_sums_KernelIdeal (hKernelIdeal := hKernelIdeal) (hReferenceIdeal := hReferenceIdeal) (hPre_small_sums_KernelIdeal := hPre_small_sums_KernelIdeal)
-- ==== Pre_small_sums_KernelIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  dot_S8192x1024_S1024x4096_S8192x4096_1_0_0_1_n_n_wf : DotDims.WF S8192x1024 S1024x4096 S8192x4096 [1] [0] [0] [1] [] []

variable [Facts]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def fn {F : FTy → Type} [FloatOps F] (main_arg0 : FVec F S8192x1024 .f32) (main_arg1 : FVec F S1024x4096 .f32) : IVec S8192x4096 1 :=
  let main_v0 : FVec F S8192x4096 .f32 := (fun l r => Host.dotGeneral dot_S8192x1024_S1024x4096_S8192x4096_1_0_0_1_n_n none l r) main_arg0 main_arg1
  let main_v1 : FVec F S8192x4096 .f32 := Host.absf main_v0
  let main_cst : FVec F S_ .f32 := constant S_ .f32 0x40F00000#32
  let main_v2 : FVec F S8192x4096 .f32 := broadcastInDim S8192x4096 ![] bcast_S_S8192x4096 main_cst
  let main_v3 : IVec S8192x4096 1 := cmpf .ole main_v1 main_v2
  main_v3
-- ==== Pre_small_sums_ReferenceIdeal.lean ====
abbrev S8192x8192 : Shape := ⟨2, ![8192, 8192]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  dot_S8192x8192_S8192x4096_S8192x4096_1_0_0_1_n_n_wf : DotDims.WF S8192x8192 S8192x4096 S8192x4096 [1] [0] [0] [1] [] []

variable [Facts]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def fn {F : FTy → Type} [FloatOps F] (main_arg0 : FVec F S8192x8192 .f32) (main_arg1 : FVec F S8192x4096 .f32) : IVec S8192x4096 1 :=
  let main_v0 : FVec F S8192x4096 .f32 := (fun l r => Host.dotGeneral dot_S8192x8192_S8192x4096_S8192x4096_1_0_0_1_n_n none l r) main_arg0 main_arg1
  let main_v1 : FVec F S8192x4096 .f32 := Host.absf main_v0
  let main_cst : FVec F S_ .f32 := constant S_ .f32 0x40F00000#32
  let main_v2 : FVec F S8192x4096 .f32 := broadcastInDim S8192x4096 ![] bcast_S_S8192x4096 main_cst
  let main_v3 : IVec S8192x4096 1 := cmpf .ole main_v1 main_v2
  main_v3
-- ==== Kernel.lean ====
abbrev S8192x1024 : Shape := ⟨2, ![8192, 1024]⟩
abbrev S1024x4096 : Shape := ⟨2, ![1024, 4096]⟩
abbrev S8192x4096 : Shape := ⟨2, ![8192, 4096]⟩
abbrev S4096x4096 : Shape := ⟨2, ![4096, 4096]⟩
abbrev S2048x4096 : Shape := ⟨2, ![2048, 4096]⟩
abbrev S512x1024 : Shape := ⟨2, ![512, 1024]⟩
abbrev S512x1408 : Shape := ⟨2, ![512, 1408]⟩
abbrev S2 : Shape := ⟨1, ![2]⟩
abbrev S3x13 : Shape := ⟨2, ![3, 13]⟩
abbrev S_ : Shape := ⟨0, ![]⟩
abbrev S1 : Shape := ⟨1, ![1]⟩
abbrev S1024x1408 : Shape := ⟨2, ![1024, 1408]⟩
abbrev S1x1 : Shape := ⟨2, ![1, 1]⟩
abbrev S2048x1408 : Shape := ⟨2, ![2048, 1408]⟩
abbrev S1024x1280 : Shape := ⟨2, ![1024, 1280]⟩
abbrev S512x1280 : Shape := ⟨2, ![512, 1280]⟩
abbrev S2048x1280 : Shape := ⟨2, ![2048, 1280]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S4096x4096, .f32⟩
  | .hbm, ⟨4, _⟩ => ⟨S2048x4096, .f32⟩
  | .hbm, ⟨5, _⟩ => ⟨S1024x4096, .f32⟩
  | .local _ .vmem, ⟨0, _⟩ => ⟨S1024x4096, .f32⟩
  | .local _ .vmem, ⟨1, _⟩ => ⟨S512x1024, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  (ofTc nBuf bufTy 1 81 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v79 : BitVec 32 := Scalar.xori v2 c1_i32_33
  let c1_i32_35 : BitVec 32 := 1#32
  let v81 : BitVec 32 := Scalar.muli v79 c1_i32_35
  let v82 : BitVec 32 := Scalar.addi c0_i32_36 v81
  v82.toNat
def k0_dev2 (d0 : Dev nD) : Nat :=
  let c0_i32_39 : BitVec 32 := 0#32
  let c4_i32_32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v76 : BitVec 32 := Scalar.muli c4_i32_32 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v77 : BitVec 32 := Scalar.subi c3_i32 v29
  let v78 : BitVec 32 := Scalar.addi v76 v77
  let c1_i32_38 : BitVec 32 := 1#32
  let v83 : BitVec 32 := Scalar.muli v78 c1_i32_38
  let v84 : BitVec 32 := Scalar.addi c0_i32_39 v83
  v84.toNat
def k0_dev3 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_31 : BitVec 32 := 4#32
  let v75 : BitVec 32 := Scalar.xori v2 c4_i32_31
  let c1_i32_41 : BitVec 32 := 1#32
  let v85 : BitVec 32 := Scalar.muli v75 c1_i32_41
  let v86 : BitVec 32 := Scalar.addi c0_i32_42 v85
  v86.toNat
@[reducible] def k0_t1_loop : Scf.Loop 32 :=
  let c0_i32_70 : BitVec 32 := 0#32
  let c4_i32_71 : BitVec 32 := 4#32
  let v129 : BitVec 32 := Scalar.addi c0_i32_70 c4_i32_71
  let c1_i32_72 : BitVec 32 := 1#32
  ⟨c0_i32_70, v129, c1_i32_72⟩
def k0_off1 (d0 : Dev nD) (k0_t1 : Fin k0_t1_loop.trips) : Fin 2 → Nat :=
  let c1_i32_44 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v92 : BitVec 32 := Scalar.subi c1_i32_44 v19
  let c4096_i32_45 : BitVec 32 := 4096#32
  let v93 : BitVec 32 := Scalar.muli v92 c4096_i32_45
  let c1_i32_68 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v126 : BitVec 32 := Scalar.subi c1_i32_68 v46
  let c2048_i32_69 : BitVec 32 := 2048#32
  let v127 : BitVec 32 := Scalar.muli v126 c2048_i32_69
  let v128 : BitVec 32 := Scalar.addi v93 v127
  let c0_i32_70 : BitVec 32 := 0#32
  let c1_i32_72 : BitVec 32 := 1#32
  let arg13 : BitVec 32 := Scf.iv c0_i32_70 c1_i32_72 k0_t1
  let c512_i32_1533 : BitVec 32 := 512#32
  let v1374 : BitVec 32 := Scalar.muli arg13 c512_i32_1533
  let v1375 : BitVec 32 := Scalar.addi v128 v1374
  let c0_i32_1535 : BitVec 32 := 0#32
  ![v1375.toNat, 0]
def k0_off2 (d0 : Dev nD) (k0_t1 : Fin k0_t1_loop.trips) : Fin 2 → Nat :=
  let c1_i32_44 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v92 : BitVec 32 := Scalar.subi c1_i32_44 v19
  let c4096_i32_45 : BitVec 32 := 4096#32
  let v93 : BitVec 32 := Scalar.muli v92 c4096_i32_45
  let c1_i32_68 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v126 : BitVec 32 := Scalar.subi c1_i32_68 v46
  let c2048_i32_69 : BitVec 32 := 2048#32
  let v127 : BitVec 32 := Scalar.muli v126 c2048_i32_69
  let v128 : BitVec 32 := Scalar.addi v93 v127
  let c0_i32_70 : BitVec 32 := 0#32
  let c1_i32_72 : BitVec 32 := 1#32
  let arg13 : BitVec 32 := Scf.iv c0_i32_70 c1_i32_72 k0_t1
  let c512_i32_1533 : BitVec 32 := 512#32
  let v1374 : BitVec 32 := Scalar.muli arg13 c512_i32_1533
  let v1375 : BitVec 32 := Scalar.addi v128 v1374
  let c0_i32_1545 : BitVec 32 := 0#32
  ![v1375.toNat, 0]
def k0_off3 (d0 : Dev nD) : Fin 2 → Nat :=
  let c1_i32_74 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v130 : BitVec 32 := Scalar.subi c1_i32_74 v46
  let c2048_i32_75 : BitVec 32 := 2048#32
  let v131 : BitVec 32 := Scalar.muli v130 c2048_i32_75
  let c0_i32_82 : BitVec 32 := 0#32
  ![v131.toNat, 0]
def k0_off4 (d0 : Dev nD) : Fin 2 → Nat :=
  let c1_i32_44 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v92 : BitVec 32 := Scalar.subi c1_i32_44 v19
  let c4096_i32_45 : BitVec 32 := 4096#32
  let v93 : BitVec 32 := Scalar.muli v92 c4096_i32_45
  let c1_i32_68 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v126 : BitVec 32 := Scalar.subi c1_i32_68 v46
  let c2048_i32_69 : BitVec 32 := 2048#32
  let v127 : BitVec 32 := Scalar.muli v126 c2048_i32_69
  let v128 : BitVec 32 := Scalar.addi v93 v127
  let c0_i32_83 : BitVec 32 := 0#32
  ![v128.toNat, 0]
def k0_dev4 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_31 : BitVec 32 := 4#32
  let v75 : BitVec 32 := Scalar.xori v2 c4_i32_31
  let c1_i32_80 : BitVec 32 := 1#32
  let v132 : BitVec 32 := Scalar.muli v75 c1_i32_80
  let v133 : BitVec 32 := Scalar.addi c0_i32_81 v132
  v133.toNat
@[reducible] def k0_t2_loop : Scf.Loop 32 :=
  let c0_i32_86 : BitVec 32 := 0#32
  let c4_i32_87 : BitVec 32 := 4#32
  let v143 : BitVec 32 := Scalar.addi c0_i32_86 c4_i32_87
  let c1_i32_88 : BitVec 32 := 1#32
  ⟨c0_i32_86, v143, c1_i32_88⟩
def k0_off5 (d0 : Dev nD) (k0_t2 : Fin k0_t2_loop.trips) : Fin 2 → Nat :=
  let c1_i32_53 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v105 : BitVec 32 := Scalar.subi c1_i32_53 v74
  let c4096_i32_54 : BitVec 32 := 4096#32
  let v106 : BitVec 32 := Scalar.muli v105 c4096_i32_54
  let c1_i32_84 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v140 : BitVec 32 := Scalar.subi c1_i32_84 v19
  let c2048_i32_85 : BitVec 32 := 2048#32
  let v141 : BitVec 32 := Scalar.muli v140 c2048_i32_85
  let v142 : BitVec 32 := Scalar.addi v106 v141
  let c0_i32_86 : BitVec 32 := 0#32
  let c1_i32_88 : BitVec 32 := 1#32
  let arg13 : BitVec 32 := Scf.iv c0_i32_86 c1_i32_88 k0_t2
  let c512_i32_1533 : BitVec 32 := 512#32
  let v1374 : BitVec 32 := Scalar.muli arg13 c512_i32_1533
  let v1375 : BitVec 32 := Scalar.addi v142 v1374
  let c0_i32_1535 : BitVec 32 := 0#32
  ![v1375.toNat, 0]
def k0_off6 (d0 : Dev nD) (k0_t2 : Fin k0_t2_loop.trips) : Fin 2 → Nat :=
  let c1_i32_53 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v105 : BitVec 32 := Scalar.subi c1_i32_53 v74
  let c4096_i32_54 : BitVec 32 := 4096#32
  let v106 : BitVec 32 := Scalar.muli v105 c4096_i32_54
  let c1_i32_84 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v140 : BitVec 32 := Scalar.subi c1_i32_84 v19
  let c2048_i32_85 : BitVec 32 := 2048#32
  let v141 : BitVec 32 := Scalar.muli v140 c2048_i32_85
  let v142 : BitVec 32 := Scalar.addi v106 v141
  let c0_i32_86 : BitVec 32 := 0#32
  let c1_i32_88 : BitVec 32 := 1#32
  let arg13 : BitVec 32 := Scf.iv c0_i32_86 c1_i32_88 k0_t2
  let c512_i32_1533 : BitVec 32 := 512#32
  let v1374 : BitVec 32 := Scalar.muli arg13 c512_i32_1533
  let v1375 : BitVec 32 := Scalar.addi v142 v1374
  let c1408_i32_1544 : BitVec 32 := 1408#32
  ![v1375.toNat, 1408]
def k0_off7 (d0 : Dev nD) : Fin 2 → Nat :=
  let c1_i32_90 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v144 : BitVec 32 := Scalar.subi c1_i32_90 v19
  let c2048_i32_91 : BitVec 32 := 2048#32
  let v145 : BitVec 32 := Scalar.muli v144 c2048_i32_91
  let c1408_i32 : BitVec 32 := 1408#32
  ![v145.toNat, 1408]
def k0_off8 (d0 : Dev nD) : Fin 2 → Nat :=
  let c1_i32_53 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v105 : BitVec 32 := Scalar.subi c1_i32_53 v74
  let c4096_i32_54 : BitVec 32 := 4096#32
  let v106 : BitVec 32 := Scalar.muli v105 c4096_i32_54
  let c1_i32_84 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v140 : BitVec 32 := Scalar.subi c1_i32_84 v19
  let c2048_i32_85 : BitVec 32 := 2048#32
  let v141 : BitVec 32 := Scalar.muli v140 c2048_i32_85
  let v142 : BitVec 32 := Scalar.addi v106 v141
  let c1408_i32_98 : BitVec 32 := 1408#32
  ![v142.toNat, 1408]
def k0_dev5 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v79 : BitVec 32 := Scalar.xori v2 c1_i32_33
  let c1_i32_96 : BitVec 32 := 1#32
  let v146 : BitVec 32 := Scalar.muli v79 c1_i32_96
  let v147 : BitVec 32 := Scalar.addi c0_i32_97 v146
  v147.toNat
@[reducible] def k0_t3_loop : Scf.Loop 32 :=
  let c0_i32_101 : BitVec 32 := 0#32
  let c4_i32_102 : BitVec 32 := 4#32
  let v157 : BitVec 32 := Scalar.addi c0_i32_101 c4_i32_102
  let c1_i32_103 : BitVec 32 := 1#32
  ⟨c0_i32_101, v157, c1_i32_103⟩
def k0_off9 (d0 : Dev nD) (k0_t3 : Fin k0_t3_loop.trips) : Fin 2 → Nat :=
  let c1_i32_62 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v118 : BitVec 32 := Scalar.subi c1_i32_62 v46
  let c4096_i32_63 : BitVec 32 := 4096#32
  let v119 : BitVec 32 := Scalar.muli v118 c4096_i32_63
  let c1_i32_99 : BitVec 32 := 1#32
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v154 : BitVec 32 := Scalar.subi c1_i32_99 v74
  let c2048_i32_100 : BitVec 32 := 2048#32
  let v155 : BitVec 32 := Scalar.muli v154 c2048_i32_100
  let v156 : BitVec 32 := Scalar.addi v119 v155
  let c0_i32_101 : BitVec 32 := 0#32
  let c1_i32_103 : BitVec 32 := 1#32
  let arg13 : BitVec 32 := Scf.iv c0_i32_101 c1_i32_103 k0_t3
  let c512_i32_1533 : BitVec 32 := 512#32
  let v1374 : BitVec 32 := Scalar.muli arg13 c512_i32_1533
  let v1375 : BitVec 32 := Scalar.addi v156 v1374
  let c0_i32_1535 : BitVec 32 := 0#32
  ![v1375.toNat, 0]
def k0_off10 (d0 : Dev nD) (k0_t3 : Fin k0_t3_loop.trips) : Fin 2 → Nat :=
  let c1_i32_62 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v118 : BitVec 32 := Scalar.subi c1_i32_62 v46
  let c4096_i32_63 : BitVec 32 := 4096#32
  let v119 : BitVec 32 := Scalar.muli v118 c4096_i32_63
  let c1_i32_99 : BitVec 32 := 1#32
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v154 : BitVec 32 := Scalar.subi c1_i32_99 v74
  let c2048_i32_100 : BitVec 32 := 2048#32
  let v155 : BitVec 32 := Scalar.muli v154 c2048_i32_100
  let v156 : BitVec 32 := Scalar.addi v119 v155
  let c0_i32_101 : BitVec 32 := 0#32
  let c1_i32_103 : BitVec 32 := 1#32
  let arg13 : BitVec 32 := Scf.iv c0_i32_101 c1_i32_103 k0_t3
  let c512_i32_1533 : BitVec 32 := 512#32
  let v1374 : BitVec 32 := Scalar.muli arg13 c512_i32_1533
  let v1375 : BitVec 32 := Scalar.addi v156 v1374
  let c2816_i32_1544 : BitVec 32 := 2816#32
  ![v1375.toNat, 2816]
def k0_off11 (d0 : Dev nD) : Fin 2 → Nat :=
  let c1_i32_105 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v158 : BitVec 32 := Scalar.subi c1_i32_105 v74
  let c2048_i32_106 : BitVec 32 := 2048#32
  let v159 : BitVec 32 := Scalar.muli v158 c2048_i32_106
  let c2816_i32 : BitVec 32 := 2816#32
  ![v159.toNat, 2816]
def k0_off12 (d0 : Dev nD) : Fin 2 → Nat :=
  let c1_i32_62 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v118 : BitVec 32 := Scalar.subi c1_i32_62 v46
  let c4096_i32_63 : BitVec 32 := 4096#32
  let v119 : BitVec 32 := Scalar.muli v118 c4096_i32_63
  let c1_i32_99 : BitVec 32 := 1#32
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v154 : BitVec 32 := Scalar.subi c1_i32_99 v74
  let c2048_i32_100 : BitVec 32 := 2048#32
  let v155 : BitVec 32 := Scalar.muli v154 c2048_i32_100
  let v156 : BitVec 32 := Scalar.addi v119 v155
  let c2816_i32_113 : BitVec 32 := 2816#32
  ![v156.toNat, 2816]
def k0_dev6 (d0 : Dev nD) : Nat :=
  let c0_i32_112 : BitVec 32 := 0#32
  let c4_i32_32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v76 : BitVec 32 := Scalar.muli c4_i32_32 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v77 : BitVec 32 := Scalar.subi c3_i32 v29
  let v78 : BitVec 32 := Scalar.addi v76 v77
  let c1_i32_111 : BitVec 32 := 1#32
  let v160 : BitVec 32 := Scalar.muli v78 c1_i32_111
  let v161 : BitVec 32 := Scalar.addi c0_i32_112 v160
  v161.toNat
@[reducible] def k0_t4_loop : Scf.Loop 32 :=
  let c0_i32_115 : BitVec 32 := 0#32
  let c4_i32_116 : BitVec 32 := 4#32
  let v170 : BitVec 32 := Scalar.addi c0_i32_115 c4_i32_116
  let c1_i32_117 : BitVec 32 := 1#32
  ⟨c0_i32_115, v170, c1_i32_117⟩
def k0_off13 (d0 : Dev nD) (k0_t4 : Fin k0_t4_loop.trips) : Fin 2 → Nat :=
  let c1_i32_44 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v92 : BitVec 32 := Scalar.subi c1_i32_44 v19
  let c4096_i32_45 : BitVec 32 := 4096#32
  let v93 : BitVec 32 := Scalar.muli v92 c4096_i32_45
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32_114 : BitVec 32 := 2048#32
  let v168 : BitVec 32 := Scalar.muli v46 c2048_i32_114
  let v169 : BitVec 32 := Scalar.addi v93 v168
  let c0_i32_115 : BitVec 32 := 0#32
  let c1_i32_117 : BitVec 32 := 1#32
  let arg13 : BitVec 32 := Scf.iv c0_i32_115 c1_i32_117 k0_t4
  let c512_i32_1533 : BitVec 32 := 512#32
  let v1374 : BitVec 32 := Scalar.muli arg13 c512_i32_1533
  let v1375 : BitVec 32 := Scalar.addi v169 v1374
  let c0_i32_1535 : BitVec 32 := 0#32
  ![v1375.toNat, 0]
def k0_off14 (d0 : Dev nD) (k0_t4 : Fin k0_t4_loop.trips) : Fin 2 → Nat :=
  let c1_i32_44 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v92 : BitVec 32 := Scalar.subi c1_i32_44 v19
  let c4096_i32_45 : BitVec 32 := 4096#32
  let v93 : BitVec 32 := Scalar.muli v92 c4096_i32_45
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32_114 : BitVec 32 := 2048#32
  let v168 : BitVec 32 := Scalar.muli v46 c2048_i32_114
  let v169 : BitVec 32 := Scalar.addi v93 v168
  let c0_i32_115 : BitVec 32 := 0#32
  let c1_i32_117 : BitVec 32 := 1#32
  let arg13 : BitVec 32 := Scf.iv c0_i32_115 c1_i32_117 k0_t4
  let c512_i32_1533 : BitVec 32 := 512#32
  let v1374 : BitVec 32 := Scalar.muli arg13 c512_i32_1533
  let v1375 : BitVec 32 := Scalar.addi v169 v1374
  let c0_i32_1545 : BitVec 32 := 0#32
  ![v1375.toNat, 0]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32_119 : BitVec 32 := 2048#32
  let v171 : BitVec 32 := Scalar.muli v46 c2048_i32_119
  let c0_i32_126 : BitVec 32 := 0#32
  ![v171.toNat, 0]
def k0_off16 (d0 : Dev nD) : Fin 2 → Nat :=
  let c1_i32_44 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v92 : BitVec 32 := Scalar.subi c1_i32_44 v19
  let c4096_i32_45 : BitVec 32 := 4096#32
  let v93 : BitVec 32 := Scalar.muli v92 c4096_i32_45
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32_114 : BitVec 32 := 2048#32
  let v168 : BitVec 32 := Scalar.muli v46 c2048_i32_114
  let v169 : BitVec 32 := Scalar.addi v93 v168
  let c0_i32_127 : BitVec 32 := 0#32
  ![v169.toNat, 0]
def k0_dev7 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_31 : BitVec 32 := 4#32
  let v75 : BitVec 32 := Scalar.xori v2 c4_i32_31
  let c1_i32_124 : BitVec 32 := 1#32
  let v172 : BitVec 32 := Scalar.muli v75 c1_i32_124
  let v173 : BitVec 32 := Scalar.addi c0_i32_125 v172
  v173.toNat
@[reducible] def k0_t5_loop : Scf.Loop 32 :=
  let c0_i32_129 : BitVec 32 := 0#32
  let c4_i32_130 : BitVec 32 := 4#32
  let v182 : BitVec 32 := Scalar.addi c0_i32_129 c4_i32_130
  let c1_i32_131 : BitVec 32 := 1#32
  ⟨c0_i32_129, v182, c1_i32_131⟩
def k0_off17 (d0 : Dev nD) (k0_t5 : Fin k0_t5_loop.trips) : Fin 2 → Nat :=
  let c1_i32_53 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v105 : BitVec 32 := Scalar.subi c1_i32_53 v74
  let c4096_i32_54 : BitVec 32 := 4096#32
  let v106 : BitVec 32 := Scalar.muli v105 c4096_i32_54
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_128 : BitVec 32 := 2048#32
  let v180 : BitVec 32 := Scalar.muli v19 c2048_i32_128
  let v181 : BitVec 32 := Scalar.addi v106 v180
  let c0_i32_129 : BitVec 32 := 0#32
  let c1_i32_131 : BitVec 32 := 1#32
  let arg13 : BitVec 32 := Scf.iv c0_i32_129 c1_i32_131 k0_t5
  let c512_i32_1533 : BitVec 32 := 512#32
  let v1374 : BitVec 32 := Scalar.muli arg13 c512_i32_1533
  let v1375 : BitVec 32 := Scalar.addi v181 v1374
  let c0_i32_1535 : BitVec 32 := 0#32
  ![v1375.toNat, 0]
def k0_off18 (d0 : Dev nD) (k0_t5 : Fin k0_t5_loop.trips) : Fin 2 → Nat :=
  let c1_i32_53 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v105 : BitVec 32 := Scalar.subi c1_i32_53 v74
  let c4096_i32_54 : BitVec 32 := 4096#32
  let v106 : BitVec 32 := Scalar.muli v105 c4096_i32_54
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_128 : BitVec 32 := 2048#32
  let v180 : BitVec 32 := Scalar.muli v19 c2048_i32_128
  let v181 : BitVec 32 := Scalar.addi v106 v180
  let c0_i32_129 : BitVec 32 := 0#32
  let c1_i32_131 : BitVec 32 := 1#32
  let arg13 : BitVec 32 := Scf.iv c0_i32_129 c1_i32_131 k0_t5
  let c512_i32_1533 : BitVec 32 := 512#32
  let v1374 : BitVec 32 := Scalar.muli arg13 c512_i32_1533
  let v1375 : BitVec 32 := Scalar.addi v181 v1374
  let c1408_i32_1544 : BitVec 32 := 1408#32
  ![v1375.toNat, 1408]
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_133 : BitVec 32 := 2048#32
  let v183 : BitVec 32 := Scalar.muli v19 c2048_i32_133
  let c1408_i32_140 : BitVec 32 := 1408#32
  ![v183.toNat, 1408]
def k0_off20 (d0 : Dev nD) : Fin 2 → Nat :=
  let c1_i32_53 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v105 : BitVec 32 := Scalar.subi c1_i32_53 v74
  let c4096_i32_54 : BitVec 32 := 4096#32
  let v106 : BitVec 32 := Scalar.muli v105 c4096_i32_54
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_128 : BitVec 32 := 2048#32
  let v180 : BitVec 32 := Scalar.muli v19 c2048_i32_128
  let v181 : BitVec 32 := Scalar.addi v106 v180
  let c1408_i32_141 : BitVec 32 := 1408#32
  ![v181.toNat, 1408]
def k0_dev8 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v79 : BitVec 32 := Scalar.xori v2 c1_i32_33
  let c1_i32_138 : BitVec 32 := 1#32
  let v184 : BitVec 32 := Scalar.muli v79 c1_i32_138
  let v185 : BitVec 32 := Scalar.addi c0_i32_139 v184
  v185.toNat
@[reducible] def k0_t6_loop : Scf.Loop 32 :=
  let c0_i32_143 : BitVec 32 := 0#32
  let c4_i32_144 : BitVec 32 := 4#32
  let v194 : BitVec 32 := Scalar.addi c0_i32_143 c4_i32_144
  let c1_i32_145 : BitVec 32 := 1#32
  ⟨c0_i32_143, v194, c1_i32_145⟩
def k0_off21 (d0 : Dev nD) (k0_t6 : Fin k0_t6_loop.trips) : Fin 2 → Nat :=
  let c1_i32_62 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v118 : BitVec 32 := Scalar.subi c1_i32_62 v46
  let c4096_i32_63 : BitVec 32 := 4096#32
  let v119 : BitVec 32 := Scalar.muli v118 c4096_i32_63
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c2048_i32_142 : BitVec 32 := 2048#32
  let v192 : BitVec 32 := Scalar.muli v74 c2048_i32_142
  let v193 : BitVec 32 := Scalar.addi v119 v192
  let c0_i32_143 : BitVec 32 := 0#32
  let c1_i32_145 : BitVec 32 := 1#32
  let arg13 : BitVec 32 := Scf.iv c0_i32_143 c1_i32_145 k0_t6
  let c512_i32_1533 : BitVec 32 := 512#32
  let v1374 : BitVec 32 := Scalar.muli arg13 c512_i32_1533
  let v1375 : BitVec 32 := Scalar.addi v193 v1374
  let c0_i32_1535 : BitVec 32 := 0#32
  ![v1375.toNat, 0]
def k0_off22 (d0 : Dev nD) (k0_t6 : Fin k0_t6_loop.trips) : Fin 2 → Nat :=
  let c1_i32_62 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v118 : BitVec 32 := Scalar.subi c1_i32_62 v46
  let c4096_i32_63 : BitVec 32 := 4096#32
  let v119 : BitVec 32 := Scalar.muli v118 c4096_i32_63
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c2048_i32_142 : BitVec 32 := 2048#32
  let v192 : BitVec 32 := Scalar.muli v74 c2048_i32_142
  let v193 : BitVec 32 := Scalar.addi v119 v192
  let c0_i32_143 : BitVec 32 := 0#32
  let c1_i32_145 : BitVec 32 := 1#32
  let arg13 : BitVec 32 := Scf.iv c0_i32_143 c1_i32_145 k0_t6
  let c512_i32_1533 : BitVec 32 := 512#32
  let v1374 : BitVec 32 := Scalar.muli arg13 c512_i32_1533
  let v1375 : BitVec 32 := Scalar.addi v193 v1374
  let c2816_i32_1544 : BitVec 32 := 2816#32
  ![v1375.toNat, 2816]
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c2048_i32_147 : BitVec 32 := 2048#32
  let v195 : BitVec 32 := Scalar.muli v74 c2048_i32_147
  let c2816_i32_154 : BitVec 32 := 2816#32
  ![v195.toNat, 2816]
def k0_off24 (d0 : Dev nD) : Fin 2 → Nat :=
  let c1_i32_62 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v118 : BitVec 32 := Scalar.subi c1_i32_62 v46
  let c4096_i32_63 : BitVec 32 := 4096#32
  let v119 : BitVec 32 := Scalar.muli v118 c4096_i32_63
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c2048_i32_142 : BitVec 32 := 2048#32
  let v192 : BitVec 32 := Scalar.muli v74 c2048_i32_142
  let v193 : BitVec 32 := Scalar.addi v119 v192
  let c2816_i32_155 : BitVec 32 := 2816#32
  ![v193.toNat, 2816]
def k0_dev9 (d0 : Dev nD) : Nat :=
  let c0_i32_153 : BitVec 32 := 0#32
  let c4_i32_32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v76 : BitVec 32 := Scalar.muli c4_i32_32 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v77 : BitVec 32 := Scalar.subi c3_i32 v29
  let v78 : BitVec 32 := Scalar.addi v76 v77
  let c1_i32_152 : BitVec 32 := 1#32
  let v196 : BitVec 32 := Scalar.muli v78 c1_i32_152
  let v197 : BitVec 32 := Scalar.addi c0_i32_153 v196
  v197.toNat
@[reducible] def k0_t7_loop : Scf.Loop 32 :=
  let c0_i32_156 : BitVec 32 := 0#32
  let c8_i32_157 : BitVec 32 := 8#32
  let v204 : BitVec 32 := Scalar.addi c0_i32_156 c8_i32_157
  let c1_i32_158 : BitVec 32 := 1#32
  ⟨c0_i32_156, v204, c1_i32_158⟩
def k0_off25 (d0 : Dev nD) (k0_t7 : Fin k0_t7_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c0_i32_156 : BitVec 32 := 0#32
  let c1_i32_158 : BitVec 32 := 1#32
  let arg13 : BitVec 32 := Scf.iv c0_i32_156 c1_i32_158 k0_t7
  let c512_i32_1533 : BitVec 32 := 512#32
  let v1374 : BitVec 32 := Scalar.muli arg13 c512_i32_1533
  let v1375 : BitVec 32 := Scalar.addi v87 v1374
  let c0_i32_1535 : BitVec 32 := 0#32
  ![v1375.toNat, 0]
def k0_off26 (d0 : Dev nD) (k0_t7 : Fin k0_t7_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c0_i32_156 : BitVec 32 := 0#32
  let c1_i32_158 : BitVec 32 := 1#32
  let arg13 : BitVec 32 := Scf.iv c0_i32_156 c1_i32_158 k0_t7
  let c512_i32_1533 : BitVec 32 := 512#32
  let v1374 : BitVec 32 := Scalar.muli arg13 c512_i32_1533
  let v1375 : BitVec 32 := Scalar.addi v87 v1374
  let c0_i32_1545 : BitVec 32 := 0#32
  ![v1375.toNat, 0]
@[reducible] def k0_t8_loop : Scf.Loop 32 :=
  let c0_i32_160 : BitVec 32 := 0#32
  let c8_i32_161 : BitVec 32 := 8#32
  let v205 : BitVec 32 := Scalar.addi c0_i32_160 c8_i32_161
  let c1_i32_162 : BitVec 32 := 1#32
  ⟨c0_i32_160, v205, c1_i32_162⟩
def k0_off27 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c0_i32_160 : BitVec 32 := 0#32
  let c1_i32_162 : BitVec 32 := 1#32
  let arg13 : BitVec 32 := Scf.iv c0_i32_160 c1_i32_162 k0_t8
  let c512_i32_1533 : BitVec 32 := 512#32
  let v1374 : BitVec 32 := Scalar.muli arg13 c512_i32_1533
  let v1375 : BitVec 32 := Scalar.addi v100 v1374
  let c0_i32_1535 : BitVec 32 := 0#32
  ![v1375.toNat, 0]
def k0_off28 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c0_i32_160 : BitVec 32 := 0#32
  let c1_i32_162 : BitVec 32 := 1#32
  let arg13 : BitVec 32 := Scf.iv c0_i32_160 c1_i32_162 k0_t8
  let c512_i32_1533 : BitVec 32 := 512#32
  let v1374 : BitVec 32 := Scalar.muli arg13 c512_i32_1533
  let v1375 : BitVec 32 := Scalar.addi v100 v1374
  let c1408_i32_1544 : BitVec 32 := 1408#32
  ![v1375.toNat, 1408]
@[reducible] def k0_t9_loop : Scf.Loop 32 :=
  let c0_i32_164 : BitVec 32 := 0#32
  let c8_i32_165 : BitVec 32 := 8#32
  let v206 : BitVec 32 := Scalar.addi c0_i32_164 c8_i32_165
  let c1_i32_166 : BitVec 32 := 1#32
  ⟨c0_i32_164, v206, c1_i32_166⟩
def k0_off29 (d0 : Dev nD) (k0_t9 : Fin k0_t9_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c0_i32_164 : BitVec 32 := 0#32
  let c1_i32_166 : BitVec 32 := 1#32
  let arg13 : BitVec 32 := Scf.iv c0_i32_164 c1_i32_166 k0_t9
  let c512_i32_1533 : BitVec 32 := 512#32
  let v1374 : BitVec 32 := Scalar.muli arg13 c512_i32_1533
  let v1375 : BitVec 32 := Scalar.addi v113 v1374
  let c0_i32_1535 : BitVec 32 := 0#32
  ![v1375.toNat, 0]
def k0_off30 (d0 : Dev nD) (k0_t9 : Fin k0_t9_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c0_i32_164 : BitVec 32 := 0#32
  let c1_i32_166 : BitVec 32 := 1#32
  let arg13 : BitVec 32 := Scf.iv c0_i32_164 c1_i32_166 k0_t9
  let c512_i32_1533 : BitVec 32 := 512#32
  let v1374 : BitVec 32 := Scalar.muli arg13 c512_i32_1533
  let v1375 : BitVec 32 := Scalar.addi v113 v1374
  let c2816_i32_1544 : BitVec 32 := 2816#32
  ![v1375.toNat, 2816]
@[reducible] def k0_t10_loop : Scf.Loop 32 :=
  let c0_i32_186 : BitVec 32 := 0#32
  let c2_i32_187 : BitVec 32 := 2#32
  let v223 : BitVec 32 := Scalar.addi c0_i32_186 c2_i32_187
  let c1_i32_188 : BitVec 32 := 1#32
  ⟨c0_i32_186, v223, c1_i32_188⟩
def k0_off31 (d0 : Dev nD) (k0_t10 : Fin k0_t10_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c1_i32_46 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v94 : BitVec 32 := Scalar.subi c1_i32_46 v46
  let c2048_i32_47 : BitVec 32 := 2048#32
  let v95 : BitVec 32 := Scalar.muli v94 c2048_i32_47
  let v96 : BitVec 32 := Scalar.addi v87 v95
  let c1_i32_183 : BitVec 32 := 1#32
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v217 : BitVec 32 := Scalar.subi c1_i32_183 v74
  let c1024_i32_184 : BitVec 32 := 1024#32
  let v218 : BitVec 32 := Scalar.muli v217 c1024_i32_184
  let v219 : BitVec 32 := Scalar.addi v96 v218
  let c0_i32_186 : BitVec 32 := 0#32
  let c1_i32_188 : BitVec 32 := 1#32
  let arg13 : BitVec 32 := Scf.iv c0_i32_186 c1_i32_188 k0_t10
  let c512_i32_1533 : BitVec 32 := 512#32
  let v1374 : BitVec 32 := Scalar.muli arg13 c512_i32_1533
  let v1375 : BitVec 32 := Scalar.addi v219 v1374
  let c0_i32_1538 : BitVec 32 := 0#32
  ![v1375.toNat, 0]
def k0_off32 (d0 : Dev nD) (k0_t10 : Fin k0_t10_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c1_i32_46 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v94 : BitVec 32 := Scalar.subi c1_i32_46 v46
  let c2048_i32_47 : BitVec 32 := 2048#32
  let v95 : BitVec 32 := Scalar.muli v94 c2048_i32_47
  let v96 : BitVec 32 := Scalar.addi v87 v95
  let c1_i32_183 : BitVec 32 := 1#32
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v217 : BitVec 32 := Scalar.subi c1_i32_183 v74
  let c1024_i32_184 : BitVec 32 := 1024#32
  let v218 : BitVec 32 := Scalar.muli v217 c1024_i32_184
  let v219 : BitVec 32 := Scalar.addi v96 v218
  let v222 : BitVec 32 := Scalar.subi v219 v87
  let c0_i32_186 : BitVec 32 := 0#32
  let c1_i32_188 : BitVec 32 := 1#32
  let arg13 : BitVec 32 := Scf.iv c0_i32_186 c1_i32_188 k0_t10
  let c512_i32_1534 : BitVec 32 := 512#32
  let v1376 : BitVec 32 := Scalar.muli arg13 c512_i32_1534
  let v1377 : BitVec 32 := Scalar.addi v222 v1376
  let c0_i32_1542 : BitVec 32 := 0#32
  ![v1377.toNat, 0]
def k0_off33 (d0 : Dev nD) : Fin 2 → Nat :=
  let c1_i32_190 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v224 : BitVec 32 := Scalar.subi c1_i32_190 v74
  let c1024_i32_191 : BitVec 32 := 1024#32
  let v225 : BitVec 32 := Scalar.muli v224 c1024_i32_191
  let c0_i32_198 : BitVec 32 := 0#32
  ![v225.toNat, 0]
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c1_i32_46 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v94 : BitVec 32 := Scalar.subi c1_i32_46 v46
  let c2048_i32_47 : BitVec 32 := 2048#32
  let v95 : BitVec 32 := Scalar.muli v94 c2048_i32_47
  let v96 : BitVec 32 := Scalar.addi v87 v95
  let c1_i32_183 : BitVec 32 := 1#32
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v217 : BitVec 32 := Scalar.subi c1_i32_183 v74
  let c1024_i32_184 : BitVec 32 := 1024#32
  let v218 : BitVec 32 := Scalar.muli v217 c1024_i32_184
  let v219 : BitVec 32 := Scalar.addi v96 v218
  let c0_i32_199 : BitVec 32 := 0#32
  ![v219.toNat, 0]
def k0_dev10 (d0 : Dev nD) : Nat :=
  let c0_i32_197 : BitVec 32 := 0#32
  let c4_i32_32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v76 : BitVec 32 := Scalar.muli c4_i32_32 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v77 : BitVec 32 := Scalar.subi c3_i32 v29
  let v78 : BitVec 32 := Scalar.addi v76 v77
  let c1_i32_196 : BitVec 32 := 1#32
  let v226 : BitVec 32 := Scalar.muli v78 c1_i32_196
  let v227 : BitVec 32 := Scalar.addi c0_i32_197 v226
  v227.toNat
@[reducible] def k0_t11_loop : Scf.Loop 32 :=
  let c0_i32_200 : BitVec 32 := 0#32
  let c2_i32_201 : BitVec 32 := 2#32
  let v235 : BitVec 32 := Scalar.addi c0_i32_200 c2_i32_201
  let c1_i32_202 : BitVec 32 := 1#32
  ⟨c0_i32_200, v235, c1_i32_202⟩
def k0_off35 (d0 : Dev nD) (k0_t11 : Fin k0_t11_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c1_i32_46 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v94 : BitVec 32 := Scalar.subi c1_i32_46 v46
  let c2048_i32_47 : BitVec 32 := 2048#32
  let v95 : BitVec 32 := Scalar.muli v94 c2048_i32_47
  let v96 : BitVec 32 := Scalar.addi v87 v95
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1024_i32_185 : BitVec 32 := 1024#32
  let v220 : BitVec 32 := Scalar.muli v74 c1024_i32_185
  let v221 : BitVec 32 := Scalar.addi v96 v220
  let c0_i32_200 : BitVec 32 := 0#32
  let c1_i32_202 : BitVec 32 := 1#32
  let arg13 : BitVec 32 := Scf.iv c0_i32_200 c1_i32_202 k0_t11
  let c512_i32_1533 : BitVec 32 := 512#32
  let v1374 : BitVec 32 := Scalar.muli arg13 c512_i32_1533
  let v1375 : BitVec 32 := Scalar.addi v221 v1374
  let c0_i32_1538 : BitVec 32 := 0#32
  ![v1375.toNat, 0]
def k0_off36 (d0 : Dev nD) (k0_t11 : Fin k0_t11_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c1_i32_46 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v94 : BitVec 32 := Scalar.subi c1_i32_46 v46
  let c2048_i32_47 : BitVec 32 := 2048#32
  let v95 : BitVec 32 := Scalar.muli v94 c2048_i32_47
  let v96 : BitVec 32 := Scalar.addi v87 v95
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1024_i32_185 : BitVec 32 := 1024#32
  let v220 : BitVec 32 := Scalar.muli v74 c1024_i32_185
  let v221 : BitVec 32 := Scalar.addi v96 v220
  let v234 : BitVec 32 := Scalar.subi v221 v87
  let c0_i32_200 : BitVec 32 := 0#32
  let c1_i32_202 : BitVec 32 := 1#32
  let arg13 : BitVec 32 := Scf.iv c0_i32_200 c1_i32_202 k0_t11
  let c512_i32_1534 : BitVec 32 := 512#32
  let v1376 : BitVec 32 := Scalar.muli arg13 c512_i32_1534
  let v1377 : BitVec 32 := Scalar.addi v234 v1376
  let c0_i32_1542 : BitVec 32 := 0#32
  ![v1377.toNat, 0]
def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1024_i32_204 : BitVec 32 := 1024#32
  let v236 : BitVec 32 := Scalar.muli v74 c1024_i32_204
  let c0_i32_211 : BitVec 32 := 0#32
  ![v236.toNat, 0]
def k0_off38 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c1_i32_46 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v94 : BitVec 32 := Scalar.subi c1_i32_46 v46
  let c2048_i32_47 : BitVec 32 := 2048#32
  let v95 : BitVec 32 := Scalar.muli v94 c2048_i32_47
  let v96 : BitVec 32 := Scalar.addi v87 v95
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1024_i32_185 : BitVec 32 := 1024#32
  let v220 : BitVec 32 := Scalar.muli v74 c1024_i32_185
  let v221 : BitVec 32 := Scalar.addi v96 v220
  let c0_i32_212 : BitVec 32 := 0#32
  ![v221.toNat, 0]
def k0_dev11 (d0 : Dev nD) : Nat :=
  let c0_i32_210 : BitVec 32 := 0#32
  let c4_i32_32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v76 : BitVec 32 := Scalar.muli c4_i32_32 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v77 : BitVec 32 := Scalar.subi c3_i32 v29
  let v78 : BitVec 32 := Scalar.addi v76 v77
  let c1_i32_209 : BitVec 32 := 1#32
  let v237 : BitVec 32 := Scalar.muli v78 c1_i32_209
  let v238 : BitVec 32 := Scalar.addi c0_i32_210 v237
  v238.toNat
@[reducible] def k0_t12_loop : Scf.Loop 32 :=
  let c0_i32_231 : BitVec 32 := 0#32
  let c2_i32_232 : BitVec 32 := 2#32
  let v261 : BitVec 32 := Scalar.addi c0_i32_231 c2_i32_232
  let c1_i32_233 : BitVec 32 := 1#32
  ⟨c0_i32_231, v261, c1_i32_233⟩
def k0_off39 (d0 : Dev nD) (k0_t12 : Fin k0_t12_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c1_i32_55 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v107 : BitVec 32 := Scalar.subi c1_i32_55 v19
  let c2048_i32_56 : BitVec 32 := 2048#32
  let v108 : BitVec 32 := Scalar.muli v107 c2048_i32_56
  let v109 : BitVec 32 := Scalar.addi v100 v108
  let c1_i32_228 : BitVec 32 := 1#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v255 : BitVec 32 := Scalar.subi c1_i32_228 v46
  let c1024_i32_229 : BitVec 32 := 1024#32
  let v256 : BitVec 32 := Scalar.muli v255 c1024_i32_229
  let v257 : BitVec 32 := Scalar.addi v109 v256
  let c0_i32_231 : BitVec 32 := 0#32
  let c1_i32_233 : BitVec 32 := 1#32
  let arg13 : BitVec 32 := Scf.iv c0_i32_231 c1_i32_233 k0_t12
  let c512_i32_1533 : BitVec 32 := 512#32
  let v1374 : BitVec 32 := Scalar.muli arg13 c512_i32_1533
  let v1375 : BitVec 32 := Scalar.addi v257 v1374
  let c1408_i32_1538 : BitVec 32 := 1408#32
  ![v1375.toNat, 1408]
def k0_off40 (d0 : Dev nD) (k0_t12 : Fin k0_t12_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c1_i32_55 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v107 : BitVec 32 := Scalar.subi c1_i32_55 v19
  let c2048_i32_56 : BitVec 32 := 2048#32
  let v108 : BitVec 32 := Scalar.muli v107 c2048_i32_56
  let v109 : BitVec 32 := Scalar.addi v100 v108
  let c1_i32_228 : BitVec 32 := 1#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v255 : BitVec 32 := Scalar.subi c1_i32_228 v46
  let c1024_i32_229 : BitVec 32 := 1024#32
  let v256 : BitVec 32 := Scalar.muli v255 c1024_i32_229
  let v257 : BitVec 32 := Scalar.addi v109 v256
  let v260 : BitVec 32 := Scalar.subi v257 v100
  let c0_i32_231 : BitVec 32 := 0#32
  let c1_i32_233 : BitVec 32 := 1#32
  let arg13 : BitVec 32 := Scf.iv c0_i32_231 c1_i32_233 k0_t12
  let c512_i32_1534 : BitVec 32 := 512#32
  let v1376 : BitVec 32 := Scalar.muli arg13 c512_i32_1534
  let v1377 : BitVec 32 := Scalar.addi v260 v1376
  let c1408_i32_1542 : BitVec 32 := 1408#32
  ![v1377.toNat, 1408]
def k0_off41 (d0 : Dev nD) : Fin 2 → Nat :=
  let c1_i32_235 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v262 : BitVec 32 := Scalar.subi c1_i32_235 v46
  let c1024_i32_236 : BitVec 32 := 1024#32
  let v263 : BitVec 32 := Scalar.muli v262 c1024_i32_236
  let c1408_i32_243 : BitVec 32 := 1408#32
  ![v263.toNat, 1408]
def k0_off42 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c1_i32_55 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v107 : BitVec 32 := Scalar.subi c1_i32_55 v19
  let c2048_i32_56 : BitVec 32 := 2048#32
  let v108 : BitVec 32 := Scalar.muli v107 c2048_i32_56
  let v109 : BitVec 32 := Scalar.addi v100 v108
  let c1_i32_228 : BitVec 32 := 1#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v255 : BitVec 32 := Scalar.subi c1_i32_228 v46
  let c1024_i32_229 : BitVec 32 := 1024#32
  let v256 : BitVec 32 := Scalar.muli v255 c1024_i32_229
  let v257 : BitVec 32 := Scalar.addi v109 v256
  let c1408_i32_244 : BitVec 32 := 1408#32
  ![v257.toNat, 1408]
def k0_dev12 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_31 : BitVec 32 := 4#32
  let v75 : BitVec 32 := Scalar.xori v2 c4_i32_31
  let c1_i32_241 : BitVec 32 := 1#32
  let v264 : BitVec 32 := Scalar.muli v75 c1_i32_241
  let v265 : BitVec 32 := Scalar.addi c0_i32_242 v264
  v265.toNat
@[reducible] def k0_t13_loop : Scf.Loop 32 :=
  let c0_i32_245 : BitVec 32 := 0#32
  let c2_i32_246 : BitVec 32 := 2#32
  let v273 : BitVec 32 := Scalar.addi c0_i32_245 c2_i32_246
  let c1_i32_247 : BitVec 32 := 1#32
  ⟨c0_i32_245, v273, c1_i32_247⟩
def k0_off43 (d0 : Dev nD) (k0_t13 : Fin k0_t13_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c1_i32_55 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v107 : BitVec 32 := Scalar.subi c1_i32_55 v19
  let c2048_i32_56 : BitVec 32 := 2048#32
  let v108 : BitVec 32 := Scalar.muli v107 c2048_i32_56
  let v109 : BitVec 32 := Scalar.addi v100 v108
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1024_i32_230 : BitVec 32 := 1024#32
  let v258 : BitVec 32 := Scalar.muli v46 c1024_i32_230
  let v259 : BitVec 32 := Scalar.addi v109 v258
  let c0_i32_245 : BitVec 32 := 0#32
  let c1_i32_247 : BitVec 32 := 1#32
  let arg13 : BitVec 32 := Scf.iv c0_i32_245 c1_i32_247 k0_t13
  let c512_i32_1533 : BitVec 32 := 512#32
  let v1374 : BitVec 32 := Scalar.muli arg13 c512_i32_1533
  let v1375 : BitVec 32 := Scalar.addi v259 v1374
  let c1408_i32_1538 : BitVec 32 := 1408#32
  ![v1375.toNat, 1408]
def k0_off44 (d0 : Dev nD) (k0_t13 : Fin k0_t13_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c1_i32_55 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v107 : BitVec 32 := Scalar.subi c1_i32_55 v19
  let c2048_i32_56 : BitVec 32 := 2048#32
  let v108 : BitVec 32 := Scalar.muli v107 c2048_i32_56
  let v109 : BitVec 32 := Scalar.addi v100 v108
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1024_i32_230 : BitVec 32 := 1024#32
  let v258 : BitVec 32 := Scalar.muli v46 c1024_i32_230
  let v259 : BitVec 32 := Scalar.addi v109 v258
  let v272 : BitVec 32 := Scalar.subi v259 v100
  let c0_i32_245 : BitVec 32 := 0#32
  let c1_i32_247 : BitVec 32 := 1#32
  let arg13 : BitVec 32 := Scf.iv c0_i32_245 c1_i32_247 k0_t13
  let c512_i32_1534 : BitVec 32 := 512#32
  let v1376 : BitVec 32 := Scalar.muli arg13 c512_i32_1534
  let v1377 : BitVec 32 := Scalar.addi v272 v1376
  let c1408_i32_1542 : BitVec 32 := 1408#32
  ![v1377.toNat, 1408]
def k0_off45 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1024_i32_249 : BitVec 32 := 1024#32
  let v274 : BitVec 32 := Scalar.muli v46 c1024_i32_249
  let c1408_i32_256 : BitVec 32 := 1408#32
  ![v274.toNat, 1408]
def k0_off46 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c1_i32_55 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v107 : BitVec 32 := Scalar.subi c1_i32_55 v19
  let c2048_i32_56 : BitVec 32 := 2048#32
  let v108 : BitVec 32 := Scalar.muli v107 c2048_i32_56
  let v109 : BitVec 32 := Scalar.addi v100 v108
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1024_i32_230 : BitVec 32 := 1024#32
  let v258 : BitVec 32 := Scalar.muli v46 c1024_i32_230
  let v259 : BitVec 32 := Scalar.addi v109 v258
  let c1408_i32_257 : BitVec 32 := 1408#32
  ![v259.toNat, 1408]
def k0_dev13 (d0 : Dev nD) : Nat :=
  let c0_i32_255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_31 : BitVec 32 := 4#32
  let v75 : BitVec 32 := Scalar.xori v2 c4_i32_31
  let c1_i32_254 : BitVec 32 := 1#32
  let v275 : BitVec 32 := Scalar.muli v75 c1_i32_254
  let v276 : BitVec 32 := Scalar.addi c0_i32_255 v275
  v276.toNat
@[reducible] def k0_t14_loop : Scf.Loop 32 :=
  let c0_i32_276 : BitVec 32 := 0#32
  let c2_i32_277 : BitVec 32 := 2#32
  let v299 : BitVec 32 := Scalar.addi c0_i32_276 c2_i32_277
  let c1_i32_278 : BitVec 32 := 1#32
  ⟨c0_i32_276, v299, c1_i32_278⟩
def k0_off47 (d0 : Dev nD) (k0_t14 : Fin k0_t14_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_64 : BitVec 32 := 1#32
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v120 : BitVec 32 := Scalar.subi c1_i32_64 v74
  let c2048_i32_65 : BitVec 32 := 2048#32
  let v121 : BitVec 32 := Scalar.muli v120 c2048_i32_65
  let v122 : BitVec 32 := Scalar.addi v113 v121
  let c1_i32_273 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v293 : BitVec 32 := Scalar.subi c1_i32_273 v19
  let c1024_i32_274 : BitVec 32 := 1024#32
  let v294 : BitVec 32 := Scalar.muli v293 c1024_i32_274
  let v295 : BitVec 32 := Scalar.addi v122 v294
  let c0_i32_276 : BitVec 32 := 0#32
  let c1_i32_278 : BitVec 32 := 1#32
  let arg13 : BitVec 32 := Scf.iv c0_i32_276 c1_i32_278 k0_t14
  let c512_i32_1533 : BitVec 32 := 512#32
  let v1374 : BitVec 32 := Scalar.muli arg13 c512_i32_1533
  let v1375 : BitVec 32 := Scalar.addi v295 v1374
  let c2816_i32_1538 : BitVec 32 := 2816#32
  ![v1375.toNat, 2816]
def k0_off48 (d0 : Dev nD) (k0_t14 : Fin k0_t14_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_64 : BitVec 32 := 1#32
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v120 : BitVec 32 := Scalar.subi c1_i32_64 v74
  let c2048_i32_65 : BitVec 32 := 2048#32
  let v121 : BitVec 32 := Scalar.muli v120 c2048_i32_65
  let v122 : BitVec 32 := Scalar.addi v113 v121
  let c1_i32_273 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v293 : BitVec 32 := Scalar.subi c1_i32_273 v19
  let c1024_i32_274 : BitVec 32 := 1024#32
  let v294 : BitVec 32 := Scalar.muli v293 c1024_i32_274
  let v295 : BitVec 32 := Scalar.addi v122 v294
  let v298 : BitVec 32 := Scalar.subi v295 v113
  let c0_i32_276 : BitVec 32 := 0#32
  let c1_i32_278 : BitVec 32 := 1#32
  let arg13 : BitVec 32 := Scf.iv c0_i32_276 c1_i32_278 k0_t14
  let c512_i32_1534 : BitVec 32 := 512#32
  let v1376 : BitVec 32 := Scalar.muli arg13 c512_i32_1534
  let v1377 : BitVec 32 := Scalar.addi v298 v1376
  let c2816_i32_1542 : BitVec 32 := 2816#32
  ![v1377.toNat, 2816]
def k0_off49 (d0 : Dev nD) : Fin 2 → Nat :=
  let c1_i32_280 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v300 : BitVec 32 := Scalar.subi c1_i32_280 v19
  let c1024_i32_281 : BitVec 32 := 1024#32
  let v301 : BitVec 32 := Scalar.muli v300 c1024_i32_281
  let c2816_i32_288 : BitVec 32 := 2816#32
  ![v301.toNat, 2816]
def k0_off50 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_64 : BitVec 32 := 1#32
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v120 : BitVec 32 := Scalar.subi c1_i32_64 v74
  let c2048_i32_65 : BitVec 32 := 2048#32
  let v121 : BitVec 32 := Scalar.muli v120 c2048_i32_65
  let v122 : BitVec 32 := Scalar.addi v113 v121
  let c1_i32_273 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v293 : BitVec 32 := Scalar.subi c1_i32_273 v19
  let c1024_i32_274 : BitVec 32 := 1024#32
  let v294 : BitVec 32 := Scalar.muli v293 c1024_i32_274
  let v295 : BitVec 32 := Scalar.addi v122 v294
  let c2816_i32_289 : BitVec 32 := 2816#32
  ![v295.toNat, 2816]
def k0_dev14 (d0 : Dev nD) : Nat :=
  let c0_i32_287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v79 : BitVec 32 := Scalar.xori v2 c1_i32_33
  let c1_i32_286 : BitVec 32 := 1#32
  let v302 : BitVec 32 := Scalar.muli v79 c1_i32_286
  let v303 : BitVec 32 := Scalar.addi c0_i32_287 v302
  v303.toNat
@[reducible] def k0_t15_loop : Scf.Loop 32 :=
  let c0_i32_290 : BitVec 32 := 0#32
  let c2_i32_291 : BitVec 32 := 2#32
  let v311 : BitVec 32 := Scalar.addi c0_i32_290 c2_i32_291
  let c1_i32_292 : BitVec 32 := 1#32
  ⟨c0_i32_290, v311, c1_i32_292⟩
def k0_off51 (d0 : Dev nD) (k0_t15 : Fin k0_t15_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_64 : BitVec 32 := 1#32
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v120 : BitVec 32 := Scalar.subi c1_i32_64 v74
  let c2048_i32_65 : BitVec 32 := 2048#32
  let v121 : BitVec 32 := Scalar.muli v120 c2048_i32_65
  let v122 : BitVec 32 := Scalar.addi v113 v121
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_275 : BitVec 32 := 1024#32
  let v296 : BitVec 32 := Scalar.muli v19 c1024_i32_275
  let v297 : BitVec 32 := Scalar.addi v122 v296
  let c0_i32_290 : BitVec 32 := 0#32
  let c1_i32_292 : BitVec 32 := 1#32
  let arg13 : BitVec 32 := Scf.iv c0_i32_290 c1_i32_292 k0_t15
  let c512_i32_1533 : BitVec 32 := 512#32
  let v1374 : BitVec 32 := Scalar.muli arg13 c512_i32_1533
  let v1375 : BitVec 32 := Scalar.addi v297 v1374
  let c2816_i32_1538 : BitVec 32 := 2816#32
  ![v1375.toNat, 2816]
def k0_off52 (d0 : Dev nD) (k0_t15 : Fin k0_t15_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_64 : BitVec 32 := 1#32
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v120 : BitVec 32 := Scalar.subi c1_i32_64 v74
  let c2048_i32_65 : BitVec 32 := 2048#32
  let v121 : BitVec 32 := Scalar.muli v120 c2048_i32_65
  let v122 : BitVec 32 := Scalar.addi v113 v121
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_275 : BitVec 32 := 1024#32
  let v296 : BitVec 32 := Scalar.muli v19 c1024_i32_275
  let v297 : BitVec 32 := Scalar.addi v122 v296
  let v310 : BitVec 32 := Scalar.subi v297 v113
  let c0_i32_290 : BitVec 32 := 0#32
  let c1_i32_292 : BitVec 32 := 1#32
  let arg13 : BitVec 32 := Scf.iv c0_i32_290 c1_i32_292 k0_t15
  let c512_i32_1534 : BitVec 32 := 512#32
  let v1376 : BitVec 32 := Scalar.muli arg13 c512_i32_1534
  let v1377 : BitVec 32 := Scalar.addi v310 v1376
  let c2816_i32_1542 : BitVec 32 := 2816#32
  ![v1377.toNat, 2816]
def k0_off53 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_294 : BitVec 32 := 1024#32
  let v312 : BitVec 32 := Scalar.muli v19 c1024_i32_294
  let c2816_i32_301 : BitVec 32 := 2816#32
  ![v312.toNat, 2816]
def k0_off54 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_64 : BitVec 32 := 1#32
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v120 : BitVec 32 := Scalar.subi c1_i32_64 v74
  let c2048_i32_65 : BitVec 32 := 2048#32
  let v121 : BitVec 32 := Scalar.muli v120 c2048_i32_65
  let v122 : BitVec 32 := Scalar.addi v113 v121
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_275 : BitVec 32 := 1024#32
  let v296 : BitVec 32 := Scalar.muli v19 c1024_i32_275
  let v297 : BitVec 32 := Scalar.addi v122 v296
  let c2816_i32_302 : BitVec 32 := 2816#32
  ![v297.toNat, 2816]
def k0_dev15 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v79 : BitVec 32 := Scalar.xori v2 c1_i32_33
  let c1_i32_299 : BitVec 32 := 1#32
  let v313 : BitVec 32 := Scalar.muli v79 c1_i32_299
  let v314 : BitVec 32 := Scalar.addi c0_i32_300 v313
  v314.toNat
@[reducible] def k0_t16_loop : Scf.Loop 32 :=
  let c0_i32_318 : BitVec 32 := 0#32
  let c4_i32_319 : BitVec 32 := 4#32
  let v332 : BitVec 32 := Scalar.addi c0_i32_318 c4_i32_319
  let c1_i32_320 : BitVec 32 := 1#32
  ⟨c0_i32_318, v332, c1_i32_320⟩
def k0_off55 (d0 : Dev nD) (k0_t16 : Fin k0_t16_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32 : BitVec 32 := 2048#32
  let v88 : BitVec 32 := Scalar.muli v46 c2048_i32
  let v89 : BitVec 32 := Scalar.addi v87 v88
  let c0_i32_318 : BitVec 32 := 0#32
  let c1_i32_320 : BitVec 32 := 1#32
  let arg13 : BitVec 32 := Scf.iv c0_i32_318 c1_i32_320 k0_t16
  let c512_i32_1533 : BitVec 32 := 512#32
  let v1374 : BitVec 32 := Scalar.muli arg13 c512_i32_1533
  let v1375 : BitVec 32 := Scalar.addi v89 v1374
  let c0_i32_1538 : BitVec 32 := 0#32
  ![v1375.toNat, 0]
def k0_off56 (d0 : Dev nD) (k0_t16 : Fin k0_t16_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32 : BitVec 32 := 2048#32
  let v88 : BitVec 32 := Scalar.muli v46 c2048_i32
  let v89 : BitVec 32 := Scalar.addi v87 v88
  let v331 : BitVec 32 := Scalar.subi v89 v87
  let c0_i32_318 : BitVec 32 := 0#32
  let c1_i32_320 : BitVec 32 := 1#32
  let arg13 : BitVec 32 := Scf.iv c0_i32_318 c1_i32_320 k0_t16
  let c512_i32_1534 : BitVec 32 := 512#32
  let v1376 : BitVec 32 := Scalar.muli arg13 c512_i32_1534
  let v1377 : BitVec 32 := Scalar.addi v331 v1376
  let c0_i32_1542 : BitVec 32 := 0#32
  ![v1377.toNat, 0]
@[reducible] def k0_t17_loop : Scf.Loop 32 :=
  let c0_i32_337 : BitVec 32 := 0#32
  let c4_i32_338 : BitVec 32 := 4#32
  let v344 : BitVec 32 := Scalar.addi c0_i32_337 c4_i32_338
  let c1_i32_339 : BitVec 32 := 1#32
  ⟨c0_i32_337, v344, c1_i32_339⟩
def k0_off57 (d0 : Dev nD) (k0_t17 : Fin k0_t17_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_51 : BitVec 32 := 2048#32
  let v101 : BitVec 32 := Scalar.muli v19 c2048_i32_51
  let v102 : BitVec 32 := Scalar.addi v100 v101
  let c0_i32_337 : BitVec 32 := 0#32
  let c1_i32_339 : BitVec 32 := 1#32
  let arg13 : BitVec 32 := Scf.iv c0_i32_337 c1_i32_339 k0_t17
  let c512_i32_1533 : BitVec 32 := 512#32
  let v1374 : BitVec 32 := Scalar.muli arg13 c512_i32_1533
  let v1375 : BitVec 32 := Scalar.addi v102 v1374
  let c1408_i32_1538 : BitVec 32 := 1408#32
  ![v1375.toNat, 1408]
def k0_off58 (d0 : Dev nD) (k0_t17 : Fin k0_t17_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_51 : BitVec 32 := 2048#32
  let v101 : BitVec 32 := Scalar.muli v19 c2048_i32_51
  let v102 : BitVec 32 := Scalar.addi v100 v101
  let v343 : BitVec 32 := Scalar.subi v102 v100
  let c0_i32_337 : BitVec 32 := 0#32
  let c1_i32_339 : BitVec 32 := 1#32
  let arg13 : BitVec 32 := Scf.iv c0_i32_337 c1_i32_339 k0_t17
  let c512_i32_1534 : BitVec 32 := 512#32
  let v1376 : BitVec 32 := Scalar.muli arg13 c512_i32_1534
  let v1377 : BitVec 32 := Scalar.addi v343 v1376
  let c1408_i32_1542 : BitVec 32 := 1408#32
  ![v1377.toNat, 1408]
@[reducible] def k0_t18_loop : Scf.Loop 32 :=
  let c0_i32_356 : BitVec 32 := 0#32
  let c4_i32_357 : BitVec 32 := 4#32
  let v356 : BitVec 32 := Scalar.addi c0_i32_356 c4_i32_357
  let c1_i32_358 : BitVec 32 := 1#32
  ⟨c0_i32_356, v356, c1_i32_358⟩
def k0_off59 (d0 : Dev nD) (k0_t18 : Fin k0_t18_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c2048_i32_60 : BitVec 32 := 2048#32
  let v114 : BitVec 32 := Scalar.muli v74 c2048_i32_60
  let v115 : BitVec 32 := Scalar.addi v113 v114
  let c0_i32_356 : BitVec 32 := 0#32
  let c1_i32_358 : BitVec 32 := 1#32
  let arg13 : BitVec 32 := Scf.iv c0_i32_356 c1_i32_358 k0_t18
  let c512_i32_1533 : BitVec 32 := 512#32
  let v1374 : BitVec 32 := Scalar.muli arg13 c512_i32_1533
  let v1375 : BitVec 32 := Scalar.addi v115 v1374
  let c2816_i32_1538 : BitVec 32 := 2816#32
  ![v1375.toNat, 2816]
def k0_off60 (d0 : Dev nD) (k0_t18 : Fin k0_t18_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c2048_i32_60 : BitVec 32 := 2048#32
  let v114 : BitVec 32 := Scalar.muli v74 c2048_i32_60
  let v115 : BitVec 32 := Scalar.addi v113 v114
  let v355 : BitVec 32 := Scalar.subi v115 v113
  let c0_i32_356 : BitVec 32 := 0#32
  let c1_i32_358 : BitVec 32 := 1#32
  let arg13 : BitVec 32 := Scf.iv c0_i32_356 c1_i32_358 k0_t18
  let c512_i32_1534 : BitVec 32 := 512#32
  let v1376 : BitVec 32 := Scalar.muli arg13 c512_i32_1534
  let v1377 : BitVec 32 := Scalar.addi v355 v1376
  let c2816_i32_1542 : BitVec 32 := 2816#32
  ![v1377.toNat, 2816]
def k0_off61 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32 : BitVec 32 := 2048#32
  let v88 : BitVec 32 := Scalar.muli v46 c2048_i32
  let v89 : BitVec 32 := Scalar.addi v87 v88
  let c1_i32_48 : BitVec 32 := 1#32
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v97 : BitVec 32 := Scalar.subi c1_i32_48 v74
  let c1024_i32_49 : BitVec 32 := 1024#32
  let v98 : BitVec 32 := Scalar.muli v97 c1024_i32_49
  let v99 : BitVec 32 := Scalar.addi v89 v98
  let c0_i32_375 : BitVec 32 := 0#32
  let c512_i32 : BitVec 32 := 512#32
  let v368 : BitVec 32 := Scalar.muli c0_i32_375 c512_i32
  let v369 : BitVec 32 := Scalar.addi v99 v368
  let c0_i32_380 : BitVec 32 := 0#32
  ![v369.toNat, 0]
def k0_off62 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32 : BitVec 32 := 2048#32
  let v88 : BitVec 32 := Scalar.muli v46 c2048_i32
  let v89 : BitVec 32 := Scalar.addi v87 v88
  let c1_i32_48 : BitVec 32 := 1#32
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v97 : BitVec 32 := Scalar.subi c1_i32_48 v74
  let c1024_i32_49 : BitVec 32 := 1024#32
  let v98 : BitVec 32 := Scalar.muli v97 c1024_i32_49
  let v99 : BitVec 32 := Scalar.addi v89 v98
  let v367 : BitVec 32 := Scalar.subi v99 v89
  let c0_i32_375 : BitVec 32 := 0#32
  let c512_i32_376 : BitVec 32 := 512#32
  let v370 : BitVec 32 := Scalar.muli c0_i32_375 c512_i32_376
  let v371 : BitVec 32 := Scalar.addi v367 v370
  let c0_i32_384 : BitVec 32 := 0#32
  ![v371.toNat, 0]
def k0_off63 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32 : BitVec 32 := 2048#32
  let v88 : BitVec 32 := Scalar.muli v46 c2048_i32
  let v89 : BitVec 32 := Scalar.addi v87 v88
  let c1_i32_48 : BitVec 32 := 1#32
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v97 : BitVec 32 := Scalar.subi c1_i32_48 v74
  let c1024_i32_49 : BitVec 32 := 1024#32
  let v98 : BitVec 32 := Scalar.muli v97 c1024_i32_49
  let v99 : BitVec 32 := Scalar.addi v89 v98
  let c0_i32_416 : BitVec 32 := 0#32
  ![v99.toNat, 0]
def k0_dev16 (d0 : Dev nD) : Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v79 : BitVec 32 := Scalar.xori v2 c1_i32_33
  let c1_i32_412 : BitVec 32 := 1#32
  let v404 : BitVec 32 := Scalar.muli v79 c1_i32_412
  let v405 : BitVec 32 := Scalar.addi c0_i32_413 v404
  v405.toNat
def k0_off64 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32 : BitVec 32 := 2048#32
  let v88 : BitVec 32 := Scalar.muli v46 c2048_i32
  let v89 : BitVec 32 := Scalar.addi v87 v88
  let c1_i32_48 : BitVec 32 := 1#32
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v97 : BitVec 32 := Scalar.subi c1_i32_48 v74
  let c1024_i32_49 : BitVec 32 := 1024#32
  let v98 : BitVec 32 := Scalar.muli v97 c1024_i32_49
  let v99 : BitVec 32 := Scalar.addi v89 v98
  let c512_i32_418 : BitVec 32 := 512#32
  let v414 : BitVec 32 := Scalar.addi v99 c512_i32_418
  let c0_i32_419 : BitVec 32 := 0#32
  let c512_i32_420 : BitVec 32 := 512#32
  let v415 : BitVec 32 := Scalar.muli c0_i32_419 c512_i32_420
  let v416 : BitVec 32 := Scalar.addi v414 v415
  let c0_i32_425 : BitVec 32 := 0#32
  ![v416.toNat, 0]
def k0_off65 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32 : BitVec 32 := 2048#32
  let v88 : BitVec 32 := Scalar.muli v46 c2048_i32
  let v89 : BitVec 32 := Scalar.addi v87 v88
  let c1_i32_48 : BitVec 32 := 1#32
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v97 : BitVec 32 := Scalar.subi c1_i32_48 v74
  let c1024_i32_49 : BitVec 32 := 1024#32
  let v98 : BitVec 32 := Scalar.muli v97 c1024_i32_49
  let v99 : BitVec 32 := Scalar.addi v89 v98
  let c512_i32_417 : BitVec 32 := 512#32
  let v412 : BitVec 32 := Scalar.addi v99 c512_i32_417
  let v413 : BitVec 32 := Scalar.subi v412 v89
  let c0_i32_419 : BitVec 32 := 0#32
  let c512_i32_421 : BitVec 32 := 512#32
  let v417 : BitVec 32 := Scalar.muli c0_i32_419 c512_i32_421
  let v418 : BitVec 32 := Scalar.addi v413 v417
  let c0_i32_429 : BitVec 32 := 0#32
  ![v418.toNat, 0]
def k0_off66 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32 : BitVec 32 := 2048#32
  let v88 : BitVec 32 := Scalar.muli v46 c2048_i32
  let v89 : BitVec 32 := Scalar.addi v87 v88
  let c1_i32_48 : BitVec 32 := 1#32
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v97 : BitVec 32 := Scalar.subi c1_i32_48 v74
  let c1024_i32_49 : BitVec 32 := 1024#32
  let v98 : BitVec 32 := Scalar.muli v97 c1024_i32_49
  let v99 : BitVec 32 := Scalar.addi v89 v98
  let c512_i32_454 : BitVec 32 := 512#32
  let v451 : BitVec 32 := Scalar.addi v99 c512_i32_454
  let c0_i32_462 : BitVec 32 := 0#32
  ![v451.toNat, 0]
def k0_dev17 (d0 : Dev nD) : Nat :=
  let c0_i32_459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v79 : BitVec 32 := Scalar.xori v2 c1_i32_33
  let c1_i32_458 : BitVec 32 := 1#32
  let v452 : BitVec 32 := Scalar.muli v79 c1_i32_458
  let v453 : BitVec 32 := Scalar.addi c0_i32_459 v452
  v453.toNat
def k0_off67 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_51 : BitVec 32 := 2048#32
  let v101 : BitVec 32 := Scalar.muli v19 c2048_i32_51
  let v102 : BitVec 32 := Scalar.addi v100 v101
  let c1_i32_57 : BitVec 32 := 1#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v110 : BitVec 32 := Scalar.subi c1_i32_57 v46
  let c1024_i32_58 : BitVec 32 := 1024#32
  let v111 : BitVec 32 := Scalar.muli v110 c1024_i32_58
  let v112 : BitVec 32 := Scalar.addi v102 v111
  let c0_i32_478 : BitVec 32 := 0#32
  let c512_i32_479 : BitVec 32 := 512#32
  let v471 : BitVec 32 := Scalar.muli c0_i32_478 c512_i32_479
  let v472 : BitVec 32 := Scalar.addi v112 v471
  let c1408_i32_484 : BitVec 32 := 1408#32
  ![v472.toNat, 1408]
def k0_off68 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_51 : BitVec 32 := 2048#32
  let v101 : BitVec 32 := Scalar.muli v19 c2048_i32_51
  let v102 : BitVec 32 := Scalar.addi v100 v101
  let c1_i32_57 : BitVec 32 := 1#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v110 : BitVec 32 := Scalar.subi c1_i32_57 v46
  let c1024_i32_58 : BitVec 32 := 1024#32
  let v111 : BitVec 32 := Scalar.muli v110 c1024_i32_58
  let v112 : BitVec 32 := Scalar.addi v102 v111
  let v470 : BitVec 32 := Scalar.subi v112 v102
  let c0_i32_478 : BitVec 32 := 0#32
  let c512_i32_480 : BitVec 32 := 512#32
  let v473 : BitVec 32 := Scalar.muli c0_i32_478 c512_i32_480
  let v474 : BitVec 32 := Scalar.addi v470 v473
  let c1408_i32_488 : BitVec 32 := 1408#32
  ![v474.toNat, 1408]
def k0_off69 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_51 : BitVec 32 := 2048#32
  let v101 : BitVec 32 := Scalar.muli v19 c2048_i32_51
  let v102 : BitVec 32 := Scalar.addi v100 v101
  let c1_i32_57 : BitVec 32 := 1#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v110 : BitVec 32 := Scalar.subi c1_i32_57 v46
  let c1024_i32_58 : BitVec 32 := 1024#32
  let v111 : BitVec 32 := Scalar.muli v110 c1024_i32_58
  let v112 : BitVec 32 := Scalar.addi v102 v111
  let c1408_i32_521 : BitVec 32 := 1408#32
  ![v112.toNat, 1408]
def k0_dev18 (d0 : Dev nD) : Nat :=
  let c0_i32_518 : BitVec 32 := 0#32
  let c4_i32_32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v76 : BitVec 32 := Scalar.muli c4_i32_32 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v77 : BitVec 32 := Scalar.subi c3_i32 v29
  let v78 : BitVec 32 := Scalar.addi v76 v77
  let c1_i32_517 : BitVec 32 := 1#32
  let v507 : BitVec 32 := Scalar.muli v78 c1_i32_517
  let v508 : BitVec 32 := Scalar.addi c0_i32_518 v507
  v508.toNat
def k0_off70 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_51 : BitVec 32 := 2048#32
  let v101 : BitVec 32 := Scalar.muli v19 c2048_i32_51
  let v102 : BitVec 32 := Scalar.addi v100 v101
  let c1_i32_57 : BitVec 32 := 1#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v110 : BitVec 32 := Scalar.subi c1_i32_57 v46
  let c1024_i32_58 : BitVec 32 := 1024#32
  let v111 : BitVec 32 := Scalar.muli v110 c1024_i32_58
  let v112 : BitVec 32 := Scalar.addi v102 v111
  let c512_i32_523 : BitVec 32 := 512#32
  let v517 : BitVec 32 := Scalar.addi v112 c512_i32_523
  let c0_i32_524 : BitVec 32 := 0#32
  let c512_i32_525 : BitVec 32 := 512#32
  let v518 : BitVec 32 := Scalar.muli c0_i32_524 c512_i32_525
  let v519 : BitVec 32 := Scalar.addi v517 v518
  let c1408_i32_530 : BitVec 32 := 1408#32
  ![v519.toNat, 1408]
def k0_off71 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_51 : BitVec 32 := 2048#32
  let v101 : BitVec 32 := Scalar.muli v19 c2048_i32_51
  let v102 : BitVec 32 := Scalar.addi v100 v101
  let c1_i32_57 : BitVec 32 := 1#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v110 : BitVec 32 := Scalar.subi c1_i32_57 v46
  let c1024_i32_58 : BitVec 32 := 1024#32
  let v111 : BitVec 32 := Scalar.muli v110 c1024_i32_58
  let v112 : BitVec 32 := Scalar.addi v102 v111
  let c512_i32_522 : BitVec 32 := 512#32
  let v515 : BitVec 32 := Scalar.addi v112 c512_i32_522
  let v516 : BitVec 32 := Scalar.subi v515 v102
  let c0_i32_524 : BitVec 32 := 0#32
  let c512_i32_526 : BitVec 32 := 512#32
  let v520 : BitVec 32 := Scalar.muli c0_i32_524 c512_i32_526
  let v521 : BitVec 32 := Scalar.addi v516 v520
  let c1408_i32_534 : BitVec 32 := 1408#32
  ![v521.toNat, 1408]
def k0_off72 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_51 : BitVec 32 := 2048#32
  let v101 : BitVec 32 := Scalar.muli v19 c2048_i32_51
  let v102 : BitVec 32 := Scalar.addi v100 v101
  let c1_i32_57 : BitVec 32 := 1#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v110 : BitVec 32 := Scalar.subi c1_i32_57 v46
  let c1024_i32_58 : BitVec 32 := 1024#32
  let v111 : BitVec 32 := Scalar.muli v110 c1024_i32_58
  let v112 : BitVec 32 := Scalar.addi v102 v111
  let c512_i32_559 : BitVec 32 := 512#32
  let v554 : BitVec 32 := Scalar.addi v112 c512_i32_559
  let c1408_i32_568 : BitVec 32 := 1408#32
  ![v554.toNat, 1408]
def k0_dev19 (d0 : Dev nD) : Nat :=
  let c0_i32_565 : BitVec 32 := 0#32
  let c4_i32_32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v76 : BitVec 32 := Scalar.muli c4_i32_32 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v77 : BitVec 32 := Scalar.subi c3_i32 v29
  let v78 : BitVec 32 := Scalar.addi v76 v77
  let c1_i32_564 : BitVec 32 := 1#32
  let v555 : BitVec 32 := Scalar.muli v78 c1_i32_564
  let v556 : BitVec 32 := Scalar.addi c0_i32_565 v555
  v556.toNat
def k0_off73 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c2048_i32_60 : BitVec 32 := 2048#32
  let v114 : BitVec 32 := Scalar.muli v74 c2048_i32_60
  let v115 : BitVec 32 := Scalar.addi v113 v114
  let c1_i32_66 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v123 : BitVec 32 := Scalar.subi c1_i32_66 v19
  let c1024_i32_67 : BitVec 32 := 1024#32
  let v124 : BitVec 32 := Scalar.muli v123 c1024_i32_67
  let v125 : BitVec 32 := Scalar.addi v115 v124
  let c0_i32_584 : BitVec 32 := 0#32
  let c512_i32_585 : BitVec 32 := 512#32
  let v574 : BitVec 32 := Scalar.muli c0_i32_584 c512_i32_585
  let v575 : BitVec 32 := Scalar.addi v125 v574
  let c2816_i32_590 : BitVec 32 := 2816#32
  ![v575.toNat, 2816]
def k0_off74 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c2048_i32_60 : BitVec 32 := 2048#32
  let v114 : BitVec 32 := Scalar.muli v74 c2048_i32_60
  let v115 : BitVec 32 := Scalar.addi v113 v114
  let c1_i32_66 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v123 : BitVec 32 := Scalar.subi c1_i32_66 v19
  let c1024_i32_67 : BitVec 32 := 1024#32
  let v124 : BitVec 32 := Scalar.muli v123 c1024_i32_67
  let v125 : BitVec 32 := Scalar.addi v115 v124
  let v573 : BitVec 32 := Scalar.subi v125 v115
  let c0_i32_584 : BitVec 32 := 0#32
  let c512_i32_586 : BitVec 32 := 512#32
  let v576 : BitVec 32 := Scalar.muli c0_i32_584 c512_i32_586
  let v577 : BitVec 32 := Scalar.addi v573 v576
  let c2816_i32_594 : BitVec 32 := 2816#32
  ![v577.toNat, 2816]
def k0_off75 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c2048_i32_60 : BitVec 32 := 2048#32
  let v114 : BitVec 32 := Scalar.muli v74 c2048_i32_60
  let v115 : BitVec 32 := Scalar.addi v113 v114
  let c1_i32_66 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v123 : BitVec 32 := Scalar.subi c1_i32_66 v19
  let c1024_i32_67 : BitVec 32 := 1024#32
  let v124 : BitVec 32 := Scalar.muli v123 c1024_i32_67
  let v125 : BitVec 32 := Scalar.addi v115 v124
  let c2816_i32_627 : BitVec 32 := 2816#32
  ![v125.toNat, 2816]
def k0_dev20 (d0 : Dev nD) : Nat :=
  let c0_i32_624 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_31 : BitVec 32 := 4#32
  let v75 : BitVec 32 := Scalar.xori v2 c4_i32_31
  let c1_i32_623 : BitVec 32 := 1#32
  let v610 : BitVec 32 := Scalar.muli v75 c1_i32_623
  let v611 : BitVec 32 := Scalar.addi c0_i32_624 v610
  v611.toNat
def k0_off76 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c2048_i32_60 : BitVec 32 := 2048#32
  let v114 : BitVec 32 := Scalar.muli v74 c2048_i32_60
  let v115 : BitVec 32 := Scalar.addi v113 v114
  let c1_i32_66 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v123 : BitVec 32 := Scalar.subi c1_i32_66 v19
  let c1024_i32_67 : BitVec 32 := 1024#32
  let v124 : BitVec 32 := Scalar.muli v123 c1024_i32_67
  let v125 : BitVec 32 := Scalar.addi v115 v124
  let c512_i32_629 : BitVec 32 := 512#32
  let v620 : BitVec 32 := Scalar.addi v125 c512_i32_629
  let c0_i32_630 : BitVec 32 := 0#32
  let c512_i32_631 : BitVec 32 := 512#32
  let v621 : BitVec 32 := Scalar.muli c0_i32_630 c512_i32_631
  let v622 : BitVec 32 := Scalar.addi v620 v621
  let c2816_i32_636 : BitVec 32 := 2816#32
  ![v622.toNat, 2816]
def k0_off77 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c2048_i32_60 : BitVec 32 := 2048#32
  let v114 : BitVec 32 := Scalar.muli v74 c2048_i32_60
  let v115 : BitVec 32 := Scalar.addi v113 v114
  let c1_i32_66 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v123 : BitVec 32 := Scalar.subi c1_i32_66 v19
  let c1024_i32_67 : BitVec 32 := 1024#32
  let v124 : BitVec 32 := Scalar.muli v123 c1024_i32_67
  let v125 : BitVec 32 := Scalar.addi v115 v124
  let c512_i32_628 : BitVec 32 := 512#32
  let v618 : BitVec 32 := Scalar.addi v125 c512_i32_628
  let v619 : BitVec 32 := Scalar.subi v618 v115
  let c0_i32_630 : BitVec 32 := 0#32
  let c512_i32_632 : BitVec 32 := 512#32
  let v623 : BitVec 32 := Scalar.muli c0_i32_630 c512_i32_632
  let v624 : BitVec 32 := Scalar.addi v619 v623
  let c2816_i32_640 : BitVec 32 := 2816#32
  ![v624.toNat, 2816]
def k0_off78 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c2048_i32_60 : BitVec 32 := 2048#32
  let v114 : BitVec 32 := Scalar.muli v74 c2048_i32_60
  let v115 : BitVec 32 := Scalar.addi v113 v114
  let c1_i32_66 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v123 : BitVec 32 := Scalar.subi c1_i32_66 v19
  let c1024_i32_67 : BitVec 32 := 1024#32
  let v124 : BitVec 32 := Scalar.muli v123 c1024_i32_67
  let v125 : BitVec 32 := Scalar.addi v115 v124
  let c512_i32_665 : BitVec 32 := 512#32
  let v657 : BitVec 32 := Scalar.addi v125 c512_i32_665
  let c2816_i32_674 : BitVec 32 := 2816#32
  ![v657.toNat, 2816]
def k0_dev21 (d0 : Dev nD) : Nat :=
  let c0_i32_671 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_31 : BitVec 32 := 4#32
  let v75 : BitVec 32 := Scalar.xori v2 c4_i32_31
  let c1_i32_670 : BitVec 32 := 1#32
  let v658 : BitVec 32 := Scalar.muli v75 c1_i32_670
  let v659 : BitVec 32 := Scalar.addi c0_i32_671 v658
  v659.toNat
@[reducible] def k0_t19_loop : Scf.Loop 32 :=
  let c0_i32_690 : BitVec 32 := 0#32
  let c2_i32_691 : BitVec 32 := 2#32
  let v677 : BitVec 32 := Scalar.addi c0_i32_690 c2_i32_691
  let c1_i32_692 : BitVec 32 := 1#32
  ⟨c0_i32_690, v677, c1_i32_692⟩
def k0_off79 (d0 : Dev nD) (k0_t19 : Fin k0_t19_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32 : BitVec 32 := 2048#32
  let v88 : BitVec 32 := Scalar.muli v46 c2048_i32
  let v89 : BitVec 32 := Scalar.addi v87 v88
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1024_i32 : BitVec 32 := 1024#32
  let v90 : BitVec 32 := Scalar.muli v74 c1024_i32
  let v91 : BitVec 32 := Scalar.addi v89 v90
  let c0_i32_690 : BitVec 32 := 0#32
  let c1_i32_692 : BitVec 32 := 1#32
  let arg13 : BitVec 32 := Scf.iv c0_i32_690 c1_i32_692 k0_t19
  let c512_i32_1533 : BitVec 32 := 512#32
  let v1374 : BitVec 32 := Scalar.muli arg13 c512_i32_1533
  let v1375 : BitVec 32 := Scalar.addi v91 v1374
  let c0_i32_1538 : BitVec 32 := 0#32
  ![v1375.toNat, 0]
def k0_off80 (d0 : Dev nD) (k0_t19 : Fin k0_t19_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32 : BitVec 32 := 2048#32
  let v88 : BitVec 32 := Scalar.muli v46 c2048_i32
  let v89 : BitVec 32 := Scalar.addi v87 v88
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1024_i32 : BitVec 32 := 1024#32
  let v90 : BitVec 32 := Scalar.muli v74 c1024_i32
  let v91 : BitVec 32 := Scalar.addi v89 v90
  let v676 : BitVec 32 := Scalar.subi v91 v89
  let c0_i32_690 : BitVec 32 := 0#32
  let c1_i32_692 : BitVec 32 := 1#32
  let arg13 : BitVec 32 := Scf.iv c0_i32_690 c1_i32_692 k0_t19
  let c512_i32_1534 : BitVec 32 := 512#32
  let v1376 : BitVec 32 := Scalar.muli arg13 c512_i32_1534
  let v1377 : BitVec 32 := Scalar.addi v676 v1376
  let c0_i32_1542 : BitVec 32 := 0#32
  ![v1377.toNat, 0]
@[reducible] def k0_t20_loop : Scf.Loop 32 :=
  let c0_i32_709 : BitVec 32 := 0#32
  let c2_i32_710 : BitVec 32 := 2#32
  let v689 : BitVec 32 := Scalar.addi c0_i32_709 c2_i32_710
  let c1_i32_711 : BitVec 32 := 1#32
  ⟨c0_i32_709, v689, c1_i32_711⟩
def k0_off81 (d0 : Dev nD) (k0_t20 : Fin k0_t20_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_51 : BitVec 32 := 2048#32
  let v101 : BitVec 32 := Scalar.muli v19 c2048_i32_51
  let v102 : BitVec 32 := Scalar.addi v100 v101
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1024_i32_52 : BitVec 32 := 1024#32
  let v103 : BitVec 32 := Scalar.muli v46 c1024_i32_52
  let v104 : BitVec 32 := Scalar.addi v102 v103
  let c0_i32_709 : BitVec 32 := 0#32
  let c1_i32_711 : BitVec 32 := 1#32
  let arg13 : BitVec 32 := Scf.iv c0_i32_709 c1_i32_711 k0_t20
  let c512_i32_1533 : BitVec 32 := 512#32
  let v1374 : BitVec 32 := Scalar.muli arg13 c512_i32_1533
  let v1375 : BitVec 32 := Scalar.addi v104 v1374
  let c1408_i32_1538 : BitVec 32 := 1408#32
  ![v1375.toNat, 1408]
def k0_off82 (d0 : Dev nD) (k0_t20 : Fin k0_t20_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_51 : BitVec 32 := 2048#32
  let v101 : BitVec 32 := Scalar.muli v19 c2048_i32_51
  let v102 : BitVec 32 := Scalar.addi v100 v101
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1024_i32_52 : BitVec 32 := 1024#32
  let v103 : BitVec 32 := Scalar.muli v46 c1024_i32_52
  let v104 : BitVec 32 := Scalar.addi v102 v103
  let v688 : BitVec 32 := Scalar.subi v104 v102
  let c0_i32_709 : BitVec 32 := 0#32
  let c1_i32_711 : BitVec 32 := 1#32
  let arg13 : BitVec 32 := Scf.iv c0_i32_709 c1_i32_711 k0_t20
  let c512_i32_1534 : BitVec 32 := 512#32
  let v1376 : BitVec 32 := Scalar.muli arg13 c512_i32_1534
  let v1377 : BitVec 32 := Scalar.addi v688 v1376
  let c1408_i32_1542 : BitVec 32 := 1408#32
  ![v1377.toNat, 1408]
@[reducible] def k0_t21_loop : Scf.Loop 32 :=
  let c0_i32_728 : BitVec 32 := 0#32
  let c2_i32_729 : BitVec 32 := 2#32
  let v701 : BitVec 32 := Scalar.addi c0_i32_728 c2_i32_729
  let c1_i32_730 : BitVec 32 := 1#32
  ⟨c0_i32_728, v701, c1_i32_730⟩
def k0_off83 (d0 : Dev nD) (k0_t21 : Fin k0_t21_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c2048_i32_60 : BitVec 32 := 2048#32
  let v114 : BitVec 32 := Scalar.muli v74 c2048_i32_60
  let v115 : BitVec 32 := Scalar.addi v113 v114
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_61 : BitVec 32 := 1024#32
  let v116 : BitVec 32 := Scalar.muli v19 c1024_i32_61
  let v117 : BitVec 32 := Scalar.addi v115 v116
  let c0_i32_728 : BitVec 32 := 0#32
  let c1_i32_730 : BitVec 32 := 1#32
  let arg13 : BitVec 32 := Scf.iv c0_i32_728 c1_i32_730 k0_t21
  let c512_i32_1533 : BitVec 32 := 512#32
  let v1374 : BitVec 32 := Scalar.muli arg13 c512_i32_1533
  let v1375 : BitVec 32 := Scalar.addi v117 v1374
  let c2816_i32_1538 : BitVec 32 := 2816#32
  ![v1375.toNat, 2816]
def k0_off84 (d0 : Dev nD) (k0_t21 : Fin k0_t21_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c2048_i32_60 : BitVec 32 := 2048#32
  let v114 : BitVec 32 := Scalar.muli v74 c2048_i32_60
  let v115 : BitVec 32 := Scalar.addi v113 v114
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_61 : BitVec 32 := 1024#32
  let v116 : BitVec 32 := Scalar.muli v19 c1024_i32_61
  let v117 : BitVec 32 := Scalar.addi v115 v116
  let v700 : BitVec 32 := Scalar.subi v117 v115
  let c0_i32_728 : BitVec 32 := 0#32
  let c1_i32_730 : BitVec 32 := 1#32
  let arg13 : BitVec 32 := Scf.iv c0_i32_728 c1_i32_730 k0_t21
  let c512_i32_1534 : BitVec 32 := 512#32
  let v1376 : BitVec 32 := Scalar.muli arg13 c512_i32_1534
  let v1377 : BitVec 32 := Scalar.addi v700 v1376
  let c2816_i32_1542 : BitVec 32 := 2816#32
  ![v1377.toNat, 2816]
def k0_off85 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32 : BitVec 32 := 2048#32
  let v88 : BitVec 32 := Scalar.muli v46 c2048_i32
  let v89 : BitVec 32 := Scalar.addi v87 v88
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1024_i32 : BitVec 32 := 1024#32
  let v90 : BitVec 32 := Scalar.muli v74 c1024_i32
  let v91 : BitVec 32 := Scalar.addi v89 v90
  let c0_i32_749 : BitVec 32 := 0#32
  let c512_i32_750 : BitVec 32 := 512#32
  let v712 : BitVec 32 := Scalar.muli c0_i32_749 c512_i32_750
  let v713 : BitVec 32 := Scalar.addi v91 v712
  let c0_i32_756 : BitVec 32 := 0#32
  ![v713.toNat, 0]
def k0_off86 (c0_i32_752 : BitVec 32) : Fin 2 → Nat :=
  let c0_i32_749 : BitVec 32 := 0#32
  let c512_i32_751 : BitVec 32 := 512#32
  let v714 : BitVec 32 := Scalar.muli c0_i32_749 c512_i32_751
  let v715 : BitVec 32 := Scalar.addi c0_i32_752 v714
  let c0_i32_760 : BitVec 32 := 0#32
  ![v715.toNat, 0]
def k0_off87 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32 : BitVec 32 := 2048#32
  let v88 : BitVec 32 := Scalar.muli v46 c2048_i32
  let v89 : BitVec 32 := Scalar.addi v87 v88
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1024_i32 : BitVec 32 := 1024#32
  let v90 : BitVec 32 := Scalar.muli v74 c1024_i32
  let v91 : BitVec 32 := Scalar.addi v89 v90
  let c0_i32_790 : BitVec 32 := 0#32
  ![v91.toNat, 0]
def k0_dev22 (d0 : Dev nD) : Nat :=
  let c0_i32_789 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v79 : BitVec 32 := Scalar.xori v2 c1_i32_33
  let c1_i32_788 : BitVec 32 := 1#32
  let v750 : BitVec 32 := Scalar.muli v79 c1_i32_788
  let v751 : BitVec 32 := Scalar.addi c0_i32_789 v750
  v751.toNat
def k0_off88 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_51 : BitVec 32 := 2048#32
  let v101 : BitVec 32 := Scalar.muli v19 c2048_i32_51
  let v102 : BitVec 32 := Scalar.addi v100 v101
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1024_i32_52 : BitVec 32 := 1024#32
  let v103 : BitVec 32 := Scalar.muli v46 c1024_i32_52
  let v104 : BitVec 32 := Scalar.addi v102 v103
  let c0_i32_809 : BitVec 32 := 0#32
  let c512_i32_810 : BitVec 32 := 512#32
  let v768 : BitVec 32 := Scalar.muli c0_i32_809 c512_i32_810
  let v769 : BitVec 32 := Scalar.addi v104 v768
  let c1408_i32_816 : BitVec 32 := 1408#32
  ![v769.toNat, 1408]
def k0_off89 (c0_i32_812 : BitVec 32) : Fin 2 → Nat :=
  let c0_i32_809 : BitVec 32 := 0#32
  let c512_i32_811 : BitVec 32 := 512#32
  let v770 : BitVec 32 := Scalar.muli c0_i32_809 c512_i32_811
  let v771 : BitVec 32 := Scalar.addi c0_i32_812 v770
  let c1408_i32_820 : BitVec 32 := 1408#32
  ![v771.toNat, 1408]
def k0_off90 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_51 : BitVec 32 := 2048#32
  let v101 : BitVec 32 := Scalar.muli v19 c2048_i32_51
  let v102 : BitVec 32 := Scalar.addi v100 v101
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1024_i32_52 : BitVec 32 := 1024#32
  let v103 : BitVec 32 := Scalar.muli v46 c1024_i32_52
  let v104 : BitVec 32 := Scalar.addi v102 v103
  let c1408_i32_851 : BitVec 32 := 1408#32
  ![v104.toNat, 1408]
def k0_dev23 (d0 : Dev nD) : Nat :=
  let c0_i32_850 : BitVec 32 := 0#32
  let c4_i32_32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v76 : BitVec 32 := Scalar.muli c4_i32_32 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v77 : BitVec 32 := Scalar.subi c3_i32 v29
  let v78 : BitVec 32 := Scalar.addi v76 v77
  let c1_i32_849 : BitVec 32 := 1#32
  let v806 : BitVec 32 := Scalar.muli v78 c1_i32_849
  let v807 : BitVec 32 := Scalar.addi c0_i32_850 v806
  v807.toNat
def k0_off91 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c2048_i32_60 : BitVec 32 := 2048#32
  let v114 : BitVec 32 := Scalar.muli v74 c2048_i32_60
  let v115 : BitVec 32 := Scalar.addi v113 v114
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_61 : BitVec 32 := 1024#32
  let v116 : BitVec 32 := Scalar.muli v19 c1024_i32_61
  let v117 : BitVec 32 := Scalar.addi v115 v116
  let c0_i32_870 : BitVec 32 := 0#32
  let c512_i32_871 : BitVec 32 := 512#32
  let v824 : BitVec 32 := Scalar.muli c0_i32_870 c512_i32_871
  let v825 : BitVec 32 := Scalar.addi v117 v824
  let c2816_i32_877 : BitVec 32 := 2816#32
  ![v825.toNat, 2816]
def k0_off92 (c0_i32_873 : BitVec 32) : Fin 2 → Nat :=
  let c0_i32_870 : BitVec 32 := 0#32
  let c512_i32_872 : BitVec 32 := 512#32
  let v826 : BitVec 32 := Scalar.muli c0_i32_870 c512_i32_872
  let v827 : BitVec 32 := Scalar.addi c0_i32_873 v826
  let c2816_i32_881 : BitVec 32 := 2816#32
  ![v827.toNat, 2816]
def k0_off93 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c2048_i32_60 : BitVec 32 := 2048#32
  let v114 : BitVec 32 := Scalar.muli v74 c2048_i32_60
  let v115 : BitVec 32 := Scalar.addi v113 v114
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_61 : BitVec 32 := 1024#32
  let v116 : BitVec 32 := Scalar.muli v19 c1024_i32_61
  let v117 : BitVec 32 := Scalar.addi v115 v116
  let c2816_i32_912 : BitVec 32 := 2816#32
  ![v117.toNat, 2816]
def k0_dev24 (d0 : Dev nD) : Nat :=
  let c0_i32_911 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_31 : BitVec 32 := 4#32
  let v75 : BitVec 32 := Scalar.xori v2 c4_i32_31
  let c1_i32_910 : BitVec 32 := 1#32
  let v862 : BitVec 32 := Scalar.muli v75 c1_i32_910
  let v863 : BitVec 32 := Scalar.addi c0_i32_911 v862
  v863.toNat
def k0_off94 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32 : BitVec 32 := 2048#32
  let v88 : BitVec 32 := Scalar.muli v46 c2048_i32
  let v89 : BitVec 32 := Scalar.addi v87 v88
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1024_i32 : BitVec 32 := 1024#32
  let v90 : BitVec 32 := Scalar.muli v74 c1024_i32
  let v91 : BitVec 32 := Scalar.addi v89 v90
  let c512_i32_931 : BitVec 32 := 512#32
  let v880 : BitVec 32 := Scalar.addi v91 c512_i32_931
  let c0_i32_932 : BitVec 32 := 0#32
  let c512_i32_933 : BitVec 32 := 512#32
  let v881 : BitVec 32 := Scalar.muli c0_i32_932 c512_i32_933
  let v882 : BitVec 32 := Scalar.addi v880 v881
  let c0_i32_939 : BitVec 32 := 0#32
  ![v882.toNat, 0]
def k0_off95 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32 : BitVec 32 := 2048#32
  let v88 : BitVec 32 := Scalar.muli v46 c2048_i32
  let v89 : BitVec 32 := Scalar.addi v87 v88
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1024_i32 : BitVec 32 := 1024#32
  let v90 : BitVec 32 := Scalar.muli v74 c1024_i32
  let v91 : BitVec 32 := Scalar.addi v89 v90
  let c512_i32_968 : BitVec 32 := 512#32
  let v919 : BitVec 32 := Scalar.addi v91 c512_i32_968
  let c0_i32_974 : BitVec 32 := 0#32
  ![v919.toNat, 0]
def k0_dev25 (d0 : Dev nD) : Nat :=
  let c0_i32_973 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v79 : BitVec 32 := Scalar.xori v2 c1_i32_33
  let c1_i32_972 : BitVec 32 := 1#32
  let v920 : BitVec 32 := Scalar.muli v79 c1_i32_972
  let v921 : BitVec 32 := Scalar.addi c0_i32_973 v920
  v921.toNat
def k0_off96 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32 : BitVec 32 := 2048#32
  let v88 : BitVec 32 := Scalar.muli v46 c2048_i32
  let v89 : BitVec 32 := Scalar.addi v87 v88
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1024_i32 : BitVec 32 := 1024#32
  let v90 : BitVec 32 := Scalar.muli v74 c1024_i32
  let v91 : BitVec 32 := Scalar.addi v89 v90
  let c0_i32_982 : BitVec 32 := 0#32
  ![v91.toNat, 0]
def k0_dev26 (d0 : Dev nD) : Nat :=
  let c0_i32_981 : BitVec 32 := 0#32
  let c4_i32_32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v76 : BitVec 32 := Scalar.muli c4_i32_32 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v77 : BitVec 32 := Scalar.subi c3_i32 v29
  let v78 : BitVec 32 := Scalar.addi v76 v77
  let c1_i32_980 : BitVec 32 := 1#32
  let v928 : BitVec 32 := Scalar.muli v78 c1_i32_980
  let v929 : BitVec 32 := Scalar.addi c0_i32_981 v928
  v929.toNat
def k0_dev27 (d0 : Dev nD) : Nat :=
  let c0_i32_988 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_31 : BitVec 32 := 4#32
  let v75 : BitVec 32 := Scalar.xori v2 c4_i32_31
  let c1_i32_987 : BitVec 32 := 1#32
  let v936 : BitVec 32 := Scalar.muli v75 c1_i32_987
  let v937 : BitVec 32 := Scalar.addi c0_i32_988 v936
  v937.toNat
def k0_off97 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_51 : BitVec 32 := 2048#32
  let v101 : BitVec 32 := Scalar.muli v19 c2048_i32_51
  let v102 : BitVec 32 := Scalar.addi v100 v101
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1024_i32_52 : BitVec 32 := 1024#32
  let v103 : BitVec 32 := Scalar.muli v46 c1024_i32_52
  let v104 : BitVec 32 := Scalar.addi v102 v103
  let c512_i32_1008 : BitVec 32 := 512#32
  let v954 : BitVec 32 := Scalar.addi v104 c512_i32_1008
  let c0_i32_1009 : BitVec 32 := 0#32
  let c512_i32_1010 : BitVec 32 := 512#32
  let v955 : BitVec 32 := Scalar.muli c0_i32_1009 c512_i32_1010
  let v956 : BitVec 32 := Scalar.addi v954 v955
  let c1408_i32_1016 : BitVec 32 := 1408#32
  ![v956.toNat, 1408]
def k0_off98 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_51 : BitVec 32 := 2048#32
  let v101 : BitVec 32 := Scalar.muli v19 c2048_i32_51
  let v102 : BitVec 32 := Scalar.addi v100 v101
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1024_i32_52 : BitVec 32 := 1024#32
  let v103 : BitVec 32 := Scalar.muli v46 c1024_i32_52
  let v104 : BitVec 32 := Scalar.addi v102 v103
  let c512_i32_1045 : BitVec 32 := 512#32
  let v993 : BitVec 32 := Scalar.addi v104 c512_i32_1045
  let c1408_i32_1052 : BitVec 32 := 1408#32
  ![v993.toNat, 1408]
def k0_dev28 (d0 : Dev nD) : Nat :=
  let c0_i32_1051 : BitVec 32 := 0#32
  let c4_i32_32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v76 : BitVec 32 := Scalar.muli c4_i32_32 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v77 : BitVec 32 := Scalar.subi c3_i32 v29
  let v78 : BitVec 32 := Scalar.addi v76 v77
  let c1_i32_1050 : BitVec 32 := 1#32
  let v994 : BitVec 32 := Scalar.muli v78 c1_i32_1050
  let v995 : BitVec 32 := Scalar.addi c0_i32_1051 v994
  v995.toNat
def k0_off99 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_51 : BitVec 32 := 2048#32
  let v101 : BitVec 32 := Scalar.muli v19 c2048_i32_51
  let v102 : BitVec 32 := Scalar.addi v100 v101
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1024_i32_52 : BitVec 32 := 1024#32
  let v103 : BitVec 32 := Scalar.muli v46 c1024_i32_52
  let v104 : BitVec 32 := Scalar.addi v102 v103
  let c1408_i32_1060 : BitVec 32 := 1408#32
  ![v104.toNat, 1408]
def k0_dev29 (d0 : Dev nD) : Nat :=
  let c0_i32_1059 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_31 : BitVec 32 := 4#32
  let v75 : BitVec 32 := Scalar.xori v2 c4_i32_31
  let c1_i32_1058 : BitVec 32 := 1#32
  let v1002 : BitVec 32 := Scalar.muli v75 c1_i32_1058
  let v1003 : BitVec 32 := Scalar.addi c0_i32_1059 v1002
  v1003.toNat
def k0_dev30 (d0 : Dev nD) : Nat :=
  let c0_i32_1067 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v79 : BitVec 32 := Scalar.xori v2 c1_i32_33
  let c1_i32_1066 : BitVec 32 := 1#32
  let v1010 : BitVec 32 := Scalar.muli v79 c1_i32_1066
  let v1011 : BitVec 32 := Scalar.addi c0_i32_1067 v1010
  v1011.toNat
def k0_off100 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c2048_i32_60 : BitVec 32 := 2048#32
  let v114 : BitVec 32 := Scalar.muli v74 c2048_i32_60
  let v115 : BitVec 32 := Scalar.addi v113 v114
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_61 : BitVec 32 := 1024#32
  let v116 : BitVec 32 := Scalar.muli v19 c1024_i32_61
  let v117 : BitVec 32 := Scalar.addi v115 v116
  let c512_i32_1087 : BitVec 32 := 512#32
  let v1028 : BitVec 32 := Scalar.addi v117 c512_i32_1087
  let c0_i32_1088 : BitVec 32 := 0#32
  let c512_i32_1089 : BitVec 32 := 512#32
  let v1029 : BitVec 32 := Scalar.muli c0_i32_1088 c512_i32_1089
  let v1030 : BitVec 32 := Scalar.addi v1028 v1029
  let c2816_i32_1095 : BitVec 32 := 2816#32
  ![v1030.toNat, 2816]
def k0_off101 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c2048_i32_60 : BitVec 32 := 2048#32
  let v114 : BitVec 32 := Scalar.muli v74 c2048_i32_60
  let v115 : BitVec 32 := Scalar.addi v113 v114
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_61 : BitVec 32 := 1024#32
  let v116 : BitVec 32 := Scalar.muli v19 c1024_i32_61
  let v117 : BitVec 32 := Scalar.addi v115 v116
  let c512_i32_1124 : BitVec 32 := 512#32
  let v1067 : BitVec 32 := Scalar.addi v117 c512_i32_1124
  let c2816_i32_1131 : BitVec 32 := 2816#32
  ![v1067.toNat, 2816]
def k0_dev31 (d0 : Dev nD) : Nat :=
  let c0_i32_1130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_31 : BitVec 32 := 4#32
  let v75 : BitVec 32 := Scalar.xori v2 c4_i32_31
  let c1_i32_1129 : BitVec 32 := 1#32
  let v1068 : BitVec 32 := Scalar.muli v75 c1_i32_1129
  let v1069 : BitVec 32 := Scalar.addi c0_i32_1130 v1068
  v1069.toNat
def k0_off102 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c2048_i32_60 : BitVec 32 := 2048#32
  let v114 : BitVec 32 := Scalar.muli v74 c2048_i32_60
  let v115 : BitVec 32 := Scalar.addi v113 v114
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_61 : BitVec 32 := 1024#32
  let v116 : BitVec 32 := Scalar.muli v19 c1024_i32_61
  let v117 : BitVec 32 := Scalar.addi v115 v116
  let c2816_i32_1139 : BitVec 32 := 2816#32
  ![v117.toNat, 2816]
def k0_dev32 (d0 : Dev nD) : Nat :=
  let c0_i32_1138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v79 : BitVec 32 := Scalar.xori v2 c1_i32_33
  let c1_i32_1137 : BitVec 32 := 1#32
  let v1076 : BitVec 32 := Scalar.muli v79 c1_i32_1137
  let v1077 : BitVec 32 := Scalar.addi c0_i32_1138 v1076
  v1077.toNat
def k0_dev33 (d0 : Dev nD) : Nat :=
  let c0_i32_1146 : BitVec 32 := 0#32
  let c4_i32_32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v76 : BitVec 32 := Scalar.muli c4_i32_32 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v77 : BitVec 32 := Scalar.subi c3_i32 v29
  let v78 : BitVec 32 := Scalar.addi v76 v77
  let c1_i32_1145 : BitVec 32 := 1#32
  let v1084 : BitVec 32 := Scalar.muli v78 c1_i32_1145
  let v1085 : BitVec 32 := Scalar.addi c0_i32_1146 v1084
  v1085.toNat
def k0_off103 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32 : BitVec 32 := 2048#32
  let v88 : BitVec 32 := Scalar.muli v46 c2048_i32
  let v89 : BitVec 32 := Scalar.addi v87 v88
  let c1_i32_48 : BitVec 32 := 1#32
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v97 : BitVec 32 := Scalar.subi c1_i32_48 v74
  let c1024_i32_49 : BitVec 32 := 1024#32
  let v98 : BitVec 32 := Scalar.muli v97 c1024_i32_49
  let v99 : BitVec 32 := Scalar.addi v89 v98
  let c0_i32_1184 : BitVec 32 := 0#32
  ![v99.toNat, 0]
def k0_dev34 (d0 : Dev nD) : Nat :=
  let c0_i32_1183 : BitVec 32 := 0#32
  let c4_i32_32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v76 : BitVec 32 := Scalar.muli c4_i32_32 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v77 : BitVec 32 := Scalar.subi c3_i32 v29
  let v78 : BitVec 32 := Scalar.addi v76 v77
  let c1_i32_1182 : BitVec 32 := 1#32
  let v1112 : BitVec 32 := Scalar.muli v78 c1_i32_1182
  let v1113 : BitVec 32 := Scalar.addi c0_i32_1183 v1112
  v1113.toNat
def k0_dev35 (d0 : Dev nD) : Nat :=
  let c0_i32_1190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_31 : BitVec 32 := 4#32
  let v75 : BitVec 32 := Scalar.xori v2 c4_i32_31
  let c1_i32_1189 : BitVec 32 := 1#32
  let v1120 : BitVec 32 := Scalar.muli v75 c1_i32_1189
  let v1121 : BitVec 32 := Scalar.addi c0_i32_1190 v1120
  v1121.toNat
def k0_off104 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_51 : BitVec 32 := 2048#32
  let v101 : BitVec 32 := Scalar.muli v19 c2048_i32_51
  let v102 : BitVec 32 := Scalar.addi v100 v101
  let c1_i32_57 : BitVec 32 := 1#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v110 : BitVec 32 := Scalar.subi c1_i32_57 v46
  let c1024_i32_58 : BitVec 32 := 1024#32
  let v111 : BitVec 32 := Scalar.muli v110 c1024_i32_58
  let v112 : BitVec 32 := Scalar.addi v102 v111
  let c1408_i32_1229 : BitVec 32 := 1408#32
  ![v112.toNat, 1408]
def k0_dev36 (d0 : Dev nD) : Nat :=
  let c0_i32_1228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_31 : BitVec 32 := 4#32
  let v75 : BitVec 32 := Scalar.xori v2 c4_i32_31
  let c1_i32_1227 : BitVec 32 := 1#32
  let v1148 : BitVec 32 := Scalar.muli v75 c1_i32_1227
  let v1149 : BitVec 32 := Scalar.addi c0_i32_1228 v1148
  v1149.toNat
def k0_dev37 (d0 : Dev nD) : Nat :=
  let c0_i32_1236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v79 : BitVec 32 := Scalar.xori v2 c1_i32_33
  let c1_i32_1235 : BitVec 32 := 1#32
  let v1156 : BitVec 32 := Scalar.muli v79 c1_i32_1235
  let v1157 : BitVec 32 := Scalar.addi c0_i32_1236 v1156
  v1157.toNat
def k0_off105 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c2048_i32_60 : BitVec 32 := 2048#32
  let v114 : BitVec 32 := Scalar.muli v74 c2048_i32_60
  let v115 : BitVec 32 := Scalar.addi v113 v114
  let c1_i32_66 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v123 : BitVec 32 := Scalar.subi c1_i32_66 v19
  let c1024_i32_67 : BitVec 32 := 1024#32
  let v124 : BitVec 32 := Scalar.muli v123 c1024_i32_67
  let v125 : BitVec 32 := Scalar.addi v115 v124
  let c2816_i32_1275 : BitVec 32 := 2816#32
  ![v125.toNat, 2816]
def k0_dev38 (d0 : Dev nD) : Nat :=
  let c0_i32_1274 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v79 : BitVec 32 := Scalar.xori v2 c1_i32_33
  let c1_i32_1273 : BitVec 32 := 1#32
  let v1184 : BitVec 32 := Scalar.muli v79 c1_i32_1273
  let v1185 : BitVec 32 := Scalar.addi c0_i32_1274 v1184
  v1185.toNat
def k0_dev39 (d0 : Dev nD) : Nat :=
  let c0_i32_1282 : BitVec 32 := 0#32
  let c4_i32_32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v76 : BitVec 32 := Scalar.muli c4_i32_32 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v77 : BitVec 32 := Scalar.subi c3_i32 v29
  let v78 : BitVec 32 := Scalar.addi v76 v77
  let c1_i32_1281 : BitVec 32 := 1#32
  let v1192 : BitVec 32 := Scalar.muli v78 c1_i32_1281
  let v1193 : BitVec 32 := Scalar.addi c0_i32_1282 v1192
  v1193.toNat
def k0_off106 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4096_i32 : BitVec 32 := 4096#32
  let v87 : BitVec 32 := Scalar.muli v19 c4096_i32
  let c1_i32_46 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v94 : BitVec 32 := Scalar.subi c1_i32_46 v46
  let c2048_i32_47 : BitVec 32 := 2048#32
  let v95 : BitVec 32 := Scalar.muli v94 c2048_i32_47
  let v96 : BitVec 32 := Scalar.addi v87 v95
  let c0_i32_1320 : BitVec 32 := 0#32
  ![v96.toNat, 0]
def k0_dev40 (d0 : Dev nD) : Nat :=
  let c0_i32_1319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_31 : BitVec 32 := 4#32
  let v75 : BitVec 32 := Scalar.xori v2 c4_i32_31
  let c1_i32_1318 : BitVec 32 := 1#32
  let v1220 : BitVec 32 := Scalar.muli v75 c1_i32_1318
  let v1221 : BitVec 32 := Scalar.addi c0_i32_1319 v1220
  v1221.toNat
def k0_off107 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4096_i32_50 : BitVec 32 := 4096#32
  let v100 : BitVec 32 := Scalar.muli v74 c4096_i32_50
  let c1_i32_55 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v107 : BitVec 32 := Scalar.subi c1_i32_55 v19
  let c2048_i32_56 : BitVec 32 := 2048#32
  let v108 : BitVec 32 := Scalar.muli v107 c2048_i32_56
  let v109 : BitVec 32 := Scalar.addi v100 v108
  let c1408_i32_1358 : BitVec 32 := 1408#32
  ![v109.toNat, 1408]
def k0_dev41 (d0 : Dev nD) : Nat :=
  let c0_i32_1357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v79 : BitVec 32 := Scalar.xori v2 c1_i32_33
  let c1_i32_1356 : BitVec 32 := 1#32
  let v1248 : BitVec 32 := Scalar.muli v79 c1_i32_1356
  let v1249 : BitVec 32 := Scalar.addi c0_i32_1357 v1248
  v1249.toNat
def k0_off108 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c4096_i32_59 : BitVec 32 := 4096#32
  let v113 : BitVec 32 := Scalar.muli v46 c4096_i32_59
  let c1_i32_64 : BitVec 32 := 1#32
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v120 : BitVec 32 := Scalar.subi c1_i32_64 v74
  let c2048_i32_65 : BitVec 32 := 2048#32
  let v121 : BitVec 32 := Scalar.muli v120 c2048_i32_65
  let v122 : BitVec 32 := Scalar.addi v113 v121
  let c2816_i32_1396 : BitVec 32 := 2816#32
  ![v122.toNat, 2816]
def k0_dev42 (d0 : Dev nD) : Nat :=
  let c0_i32_1395 : BitVec 32 := 0#32
  let c4_i32_32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v76 : BitVec 32 := Scalar.muli c4_i32_32 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v77 : BitVec 32 := Scalar.subi c3_i32 v29
  let v78 : BitVec 32 := Scalar.addi v76 v77
  let c1_i32_1394 : BitVec 32 := 1#32
  let v1276 : BitVec 32 := Scalar.muli v78 c1_i32_1394
  let v1277 : BitVec 32 := Scalar.addi c0_i32_1395 v1276
  v1277.toNat
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Prog.lean ====
/-
# The kernel's body as a chain of phases

The printed body is a straight line of some 350 memory operations. This module names the few shapes they come in —
a tile's product, a tile's addition, a remote copy, the two waits on a remote copy — as programs generic in the column
group and in the offsets, lists the body's phases as calls of them, and states that the printed body is that list.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The width of a column group. -/
abbrev Wd (g : Fin 3) : ℕ := match g with | 0 => 1408 | 1 => 1408 | 2 => 1280
/-- The first column of a column group. -/
abbrev C0 (g : Fin 3) : ℕ := match g with | 0 => 0 | 1 => 1408 | 2 => 2816

theorem Wd_pos (g : Fin 3) : 0 < Wd g := by revert g; decide
theorem Wd_le (g : Fin 3) : Wd g ≤ 1408 := by revert g; decide

/-- The kernel's operands: the input block, the staged weights, the result, the three landing buffers, and the four
    on-chip tiles. -/
abbrev xM : Memref sig .tc .hbm S8192x1024 .f32 := Memref.whole main_arg0
abbrev wM : Memref sig .tc .vmem S1024x4096 .f32 := Memref.whole cc0_stg0_0
abbrev oM : Memref sig .tc .hbm S8192x4096 .f32 := Memref.whole main_v1_0
abbrev r1M : Memref sig .tc .hbm S4096x4096 .f32 := Memref.whole main_v1_1
abbrev r2M : Memref sig .tc .hbm S2048x4096 .f32 := Memref.whole main_v1_2
abbrev r3M : Memref sig .tc .hbm S1024x4096 .f32 := Memref.whole main_v1_3
abbrev vx : Memref sig .tc .vmem S512x1024 .f32 := Memref.whole cc0_scratch0
abbrev vg : Memref sig .tc .vmem S512x1408 .f32 := Memref.whole cc0_scratch1
abbrev va : Memref sig .tc .vmem S512x1408 .f32 := Memref.whole cc0_scratch2
abbrev vb : Memref sig .tc .vmem S512x1408 .f32 := Memref.whole cc0_scratch3

/-- The runtime's barrier semaphore, the two local semaphores, and the send and receive semaphores of column group `g`'s
    stage `k`. -/
abbrev barS : Sem sig := (SemArray.scalar (sig.barrier 0 rfl) : Sems sig S_).sem
abbrev l0 : DmaSem sig := ((cc0_scratch4.slice (Rect.unit (s := S2) ![0] S1.size inb_S2_S1_0)).squeeze S_ squeezes_S1_S_).sem
abbrev l1 : DmaSem sig := ((cc0_scratch4.slice (Rect.unit (s := S2) ![1] S1.size inb_S2_S1_1)).squeeze S_ squeezes_S1_S_).sem

theorem inb_sem (g : Fin 3) (k : Fin 13) : ∀ a, (![g.val, k.val] : Fin 2 → ℕ) a + S1x1.size a ≤ S3x13.size a := by
  revert g k; decide

abbrev ssem (g : Fin 3) (k : Fin 13) : DmaSem sig :=
  ((cc0_scratch5.slice (Rect.unit (s := S3x13) ![g.val, k.val] S1x1.size (inb_sem g k))).squeeze S_ squeezes_S1x1_S_).sem
abbrev rsem (g : Fin 3) (k : Fin 13) : DmaSem sig :=
  ((cc0_scratch6.slice (Rect.unit (s := S3x13) ![g.val, k.val] S1x1.size (inb_sem g k))).squeeze S_ squeezes_S1x1_S_).sem

/-- The `n` rows by `w` columns at `off` of a buffer of `R` rows of 4096. -/
abbrev tile {R : ℕ} (M : Memref sig .tc .hbm ⟨2, ![R, 4096]⟩ .f32) (off : Fin 2 → ℕ) (n w : ℕ)
    (h : ∀ a, off a + (![n, w] : Fin 2 → ℕ) a ≤ (![R, 4096] : Fin 2 → ℕ) a) : Memref sig .tc .hbm ⟨2, ![n, w]⟩ .f32 :=
  M.slice (Rect.unit (s := ⟨2, ![R, 4096]⟩) off ![n, w] h) (fun _ => rfl)

/-- 512 rows of the input block. -/
abbrev xT (off : Fin 2 → ℕ) (h : ∀ a, off a + (![512, 1024] : Fin 2 → ℕ) a ≤ (![8192, 1024] : Fin 2 → ℕ) a) :
    Memref sig .tc .hbm ⟨2, ![512, 1024]⟩ .f32 :=
  xM.slice (Rect.unit (s := S8192x1024) off ![512, 1024] h) (fun _ => rfl)

theorem inb_v (g : Fin 3) : ∀ a, (![0, 0] : Fin 2 → ℕ) a + (![512, Wd g] : Fin 2 → ℕ) a ≤ (![512, 1408] : Fin 2 → ℕ) a := by
  revert g; decide
theorem inb_w (g : Fin 3) : ∀ a, (![0, C0 g] : Fin 2 → ℕ) a + (![1024, Wd g] : Fin 2 → ℕ) a ≤ (![1024, 4096] : Fin 2 → ℕ) a := by
  revert g; decide

/-- The part of an on-chip tile that column group `g` uses. -/
abbrev vR (g : Fin 3) : Rect S512x1408 := Rect.unit (s := S512x1408) ![0, 0] ![512, Wd g] (inb_v g)
abbrev wR (g : Fin 3) : Rect S1024x4096 := Rect.unit (s := S1024x4096) ![0, C0 g] ![1024, Wd g] (inb_w g)
abbrev xR : Rect S512x1024 := Rect.unit (s := S512x1024) ![0, 0] S512x1024.size inb_S512x1024_S512x1024_0_0
abbrev vT (M : Memref sig .tc .vmem S512x1408 .f32) (g : Fin 3) : Memref sig .tc .vmem ⟨2, ![512, Wd g]⟩ .f32 :=
  M.slice (vR g) (fun _ => rfl)

theorem numel_v (g : Fin 3) : 0 < (⟨2, ![512, Wd g]⟩ : Shape).numel := by
  match g with
  | 0 => exact h_S512x1408
  | 1 => exact h_S512x1408
  | 2 => exact h_S512x1280
theorem numel_w (g : Fin 3) : 0 < (⟨2, ![1024, Wd g]⟩ : Shape).numel := by
  match g with
  | 0 => exact h_S1024x1408
  | 1 => exact h_S1024x1408
  | 2 => exact h_S1024x1280

abbrev PR (F : FTy → Type) [FloatOps F] : Type 1 := Prog (TpuEff nD τ sig (Elt F) Λ₀ .tc) PUnit
/-- A tile of the product's operands and result, and of a sum's. -/
abbrev XV (F : FTy → Type) [FloatOps F] : Type := Vec F S512x1024 .f32
abbrev WV (F : FTy → Type) [FloatOps F] (g : Fin 3) : Type := Vec F ⟨2, ![1024, Wd g]⟩ .f32
abbrev TV (F : FTy → Type) [FloatOps F] (g : Fin 3) : Type := Vec F ⟨2, ![512, Wd g]⟩ .f32

/-- One tile of the product: fetch 512 rows of the input block, multiply by the group's columns of the weights, write the
    tile back to the result. -/
def gemmTrip (g : Fin 3) (pay : XV F → WV F g → TV F g) (offx offo : Fin 2 → ℕ)
    (hx : ∀ a, offx a + (![512, 1024] : Fin 2 → ℕ) a ≤ (![8192, 1024] : Fin 2 → ℕ) a)
    (ho : ∀ a, offo a + (![512, Wd g] : Fin 2 → ℕ) a ≤ (![8192, 4096] : Fin 2 → ℕ) a) : PR F := do
  Prog.lift (.enqueueDma (xT offx hx) (.here vx) (.dma l0) (View.wordExact_bits rfl) (Memref.isWhole_whole _).wordExact ⟨Or.inl rfl, trivial⟩)
  Prog.lift (.waitDma2 l0 (xT offx hx) vx (View.wordExact_bits rfl) (Memref.isWhole_whole _).wordExact)
  let a : XV F ← Prog.lift (.load vx xR.toLoadRect (View.loadsAt_vmem h_S512x1024))
  let b : WV F g ← Prog.lift (.load wM (wR g).toLoadRect (View.loadsAt_vmem (numel_w g)))
  let _z : TV F g ← Prog.lift (.load vg (vR g).toLoadRect (View.loadsAt_vmem (numel_v g)))
  Prog.lift (.store vg (vR g) (pay a b) Finset.univ (View.stores_vmem_bits_univ (numel_v g) rfl) (.inl rfl))
  Prog.lift (.enqueueDma (vT vg g) (.here (tile oM offo 512 (Wd g) ho)) (.dma l1) (View.wordExact_bits rfl) (View.wordExact_bits rfl) ⟨Or.inl rfl, trivial⟩)
  Prog.lift (.waitDma2 l1 (vT vg g) (tile oM offo 512 (Wd g) ho) (View.wordExact_bits rfl) (View.wordExact_bits rfl))
  pure ⟨⟩

/-- One tile of an addition: fetch the result's tile and the landed one, combine them, write the tile back to the result. -/
def addTrip (g : Fin 3) (pay : TV F g → TV F g → TV F g) {R : ℕ} (M : Memref sig .tc .hbm ⟨2, ![R, 4096]⟩ .f32) (offo offr : Fin 2 → ℕ)
    (ho : ∀ a, offo a + (![512, Wd g] : Fin 2 → ℕ) a ≤ (![8192, 4096] : Fin 2 → ℕ) a)
    (hr : ∀ a, offr a + (![512, Wd g] : Fin 2 → ℕ) a ≤ (![R, 4096] : Fin 2 → ℕ) a) : PR F := do
  Prog.lift (.enqueueDma (tile oM offo 512 (Wd g) ho) (.here (vT va g)) (.dma l0) (View.wordExact_bits rfl) (View.wordExact_bits rfl) ⟨Or.inl rfl, trivial⟩)
  Prog.lift (.enqueueDma (tile M offr 512 (Wd g) hr) (.here (vT vb g)) (.dma l1) (View.wordExact_bits rfl) (View.wordExact_bits rfl) ⟨Or.inl rfl, trivial⟩)
  Prog.lift (.waitDma2 l0 (tile oM offo 512 (Wd g) ho) (vT va g) (View.wordExact_bits rfl) (View.wordExact_bits rfl))
  Prog.lift (.waitDma2 l1 (tile M offr 512 (Wd g) hr) (vT vb g) (View.wordExact_bits rfl) (View.wordExact_bits rfl))
  let a : TV F g ← Prog.lift (.load va (vR g).toLoadRect (View.loadsAt_vmem (numel_v g)))
  let b : TV F g ← Prog.lift (.load vb (vR g).toLoadRect (View.loadsAt_vmem (numel_v g)))
  let _z : TV F g ← Prog.lift (.load va (vR g).toLoadRect (View.loadsAt_vmem (numel_v g)))
  Prog.lift (.store va (vR g) (pay a b) Finset.univ (View.stores_vmem_bits_univ (numel_v g) rfl) (.inl rfl))
  Prog.lift (.enqueueDma (vT va g) (.here (tile oM offo 512 (Wd g) ho)) (.dma l0) (View.wordExact_bits rfl) (View.wordExact_bits rfl) ⟨Or.inl rfl, trivial⟩)
  Prog.lift (.waitDma2 l0 (vT va g) (tile oM offo 512 (Wd g) ho) (View.wordExact_bits rfl) (View.wordExact_bits rfl))
  pure ⟨⟩

/-- The remote copy of stage `k` of column group `g`: `n` rows at `offs` of the result to `n` rows at `offd` of `M` on
    device `dv`. -/
def sendP (g : Fin 3) (k : Fin 13) (dv : Dev nD) {R : ℕ} (M : Memref sig .tc .hbm ⟨2, ![R, 4096]⟩ .f32) (n : ℕ) (offs offd : Fin 2 → ℕ)
    (hs : ∀ a, offs a + (![n, Wd g] : Fin 2 → ℕ) a ≤ (![8192, 4096] : Fin 2 → ℕ) a)
    (hd : ∀ a, offd a + (![n, Wd g] : Fin 2 → ℕ) a ≤ (![R, 4096] : Fin 2 → ℕ) a) : PR F :=
  Prog.lift (.enqueueDma (tile oM offs n (Wd g) hs) (.remote (Dev.tc dv) (tile M offd n (Wd g) hd) (.dma (ssem g k))) (.dma (rsem g k))
    (View.wordExact_bits rfl) (View.wordExact_bits rfl) ⟨⟨rfl, Or.inl rfl⟩, trivial⟩)

/-- The two waits on that copy: that the own one has left, that the partner's has arrived. -/
def waitP (g : Fin 3) (k : Fin 13) {R : ℕ} (M : Memref sig .tc .hbm ⟨2, ![R, 4096]⟩ .f32) (n : ℕ) (offs offd : Fin 2 → ℕ)
    (hs : ∀ a, offs a + (![n, Wd g] : Fin 2 → ℕ) a ≤ (![8192, 4096] : Fin 2 → ℕ) a)
    (hd : ∀ a, offd a + (![n, Wd g] : Fin 2 → ℕ) a ≤ (![R, 4096] : Fin 2 → ℕ) a) : PR F := do
  Prog.lift (.waitDma2 (ssem g k) (tile M offd n (Wd g) hd) (tile oM offs n (Wd g) hs) (View.wordExact_bits rfl) (View.wordExact_bits rfl))
  Prog.lift (.waitDma2 (rsem g k) (tile oM offs n (Wd g) hs) (tile M offd n (Wd g) hd) (View.wordExact_bits rfl) (View.wordExact_bits rfl))

/-- The opening handshake: a signal to each of three partners, a wait for the three of theirs. -/
def hand (d1 d2 d3 : Dev nD) : PR F := do
  semSignalWord d1 barS 1#32
  semSignalWord d2 barS 1#32
  semSignalWord d3 barS 1#32
  semWaitWord barS 3#32

/-- A counted loop of product tiles, of addition tiles. -/
def gemmLoop (g : Fin 3) (pay : XV F → WV F g → TV F g) (L : Scf.Loop 32) (hL : L.OK) (offx offo : Fin L.trips → Fin 2 → ℕ)
    (hx : ∀ t a, offx t a + (![512, 1024] : Fin 2 → ℕ) a ≤ (![8192, 1024] : Fin 2 → ℕ) a)
    (ho : ∀ t a, offo t a + (![512, Wd g] : Fin 2 → ℕ) a ≤ (![8192, 4096] : Fin 2 → ℕ) a) : PR F :=
  Scf.Loop.for L hL ⟨⟩ (fun t _ => gemmTrip g pay (offx t) (offo t) (hx t) (ho t))
def addLoop (g : Fin 3) (pay : TV F g → TV F g → TV F g) {R : ℕ} (M : Memref sig .tc .hbm ⟨2, ![R, 4096]⟩ .f32) (L : Scf.Loop 32) (hL : L.OK)
    (offo offr : Fin L.trips → Fin 2 → ℕ)
    (ho : ∀ t a, offo t a + (![512, Wd g] : Fin 2 → ℕ) a ≤ (![8192, 4096] : Fin 2 → ℕ) a)
    (hr : ∀ t a, offr t a + (![512, Wd g] : Fin 2 → ℕ) a ≤ (![R, 4096] : Fin 2 → ℕ) a) : PR F :=
  Scf.Loop.for L hL ⟨⟩ (fun t _ => addTrip g pay M (offo t) (offr t) (ho t) (hr t))

/-- The phases of the body with the offsets as the kernel computes them. -/
def printed (c : Dev nD) : List (PR F) :=
  [ hand ⟨k0_dev1 c, k0_dev1_lt c⟩ ⟨k0_dev2 c, k0_dev2_lt c⟩ ⟨k0_dev3 c, k0_dev3_lt c⟩,
    gemmLoop 0 k0_pay13 k0_t1_loop k0_t1_ok (k0_off1 c) (k0_off2 c) (k0_off1_inb c) (k0_off2_inb c),
    sendP 0 0 ⟨k0_dev4 c, k0_dev4_lt c⟩ r1M 2048 (k0_off4 c) (k0_off3 c) (k0_off4_inb c) (k0_off3_inb c),
    gemmLoop 1 k0_pay14 k0_t2_loop k0_t2_ok (k0_off5 c) (k0_off6 c) (k0_off5_inb c) (k0_off6_inb c),
    sendP 1 0 ⟨k0_dev5 c, k0_dev5_lt c⟩ r1M 2048 (k0_off8 c) (k0_off7 c) (k0_off8_inb c) (k0_off7_inb c),
    gemmLoop 2 k0_pay15 k0_t3_loop k0_t3_ok (k0_off9 c) (k0_off10 c) (k0_off9_inb c) (k0_off10_inb c),
    sendP 2 0 ⟨k0_dev6 c, k0_dev6_lt c⟩ r1M 2048 (k0_off12 c) (k0_off11 c) (k0_off12_inb c) (k0_off11_inb c),
    gemmLoop 0 k0_pay16 k0_t4_loop k0_t4_ok (k0_off13 c) (k0_off14 c) (k0_off13_inb c) (k0_off14_inb c),
    sendP 0 1 ⟨k0_dev7 c, k0_dev7_lt c⟩ r1M 2048 (k0_off16 c) (k0_off15 c) (k0_off16_inb c) (k0_off15_inb c),
    gemmLoop 1 k0_pay17 k0_t5_loop k0_t5_ok (k0_off17 c) (k0_off18 c) (k0_off17_inb c) (k0_off18_inb c),
    sendP 1 1 ⟨k0_dev8 c, k0_dev8_lt c⟩ r1M 2048 (k0_off20 c) (k0_off19 c) (k0_off20_inb c) (k0_off19_inb c),
    gemmLoop 2 k0_pay18 k0_t6_loop k0_t6_ok (k0_off21 c) (k0_off22 c) (k0_off21_inb c) (k0_off22_inb c),
    sendP 2 1 ⟨k0_dev9 c, k0_dev9_lt c⟩ r1M 2048 (k0_off24 c) (k0_off23 c) (k0_off24_inb c) (k0_off23_inb c),
    gemmLoop 0 k0_pay19 k0_t7_loop k0_t7_ok (k0_off25 c) (k0_off26 c) (k0_off25_inb c) (k0_off26_inb c),
    gemmLoop 1 k0_pay20 k0_t8_loop k0_t8_ok (k0_off27 c) (k0_off28 c) (k0_off27_inb c) (k0_off28_inb c),
    gemmLoop 2 k0_pay21 k0_t9_loop k0_t9_ok (k0_off29 c) (k0_off30 c) (k0_off29_inb c) (k0_off30_inb c),
    waitP 0 0 r1M 2048 (k0_off4 c) (k0_off3 c) (k0_off4_inb c) (k0_off3_inb c),
    addLoop 0 k0_pay1 r1M k0_t10_loop k0_t10_ok (k0_off31 c) (k0_off32 c) (k0_off31_inb c) (k0_off32_inb c),
    sendP 0 2 ⟨k0_dev10 c, k0_dev10_lt c⟩ r2M 1024 (k0_off34 c) (k0_off33 c) (k0_off34_inb c) (k0_off33_inb c),
    addLoop 0 k0_pay2 r1M k0_t11_loop k0_t11_ok (k0_off35 c) (k0_off36 c) (k0_off35_inb c) (k0_off36_inb c),
    sendP 0 3 ⟨k0_dev11 c, k0_dev11_lt c⟩ r2M 1024 (k0_off38 c) (k0_off37 c) (k0_off38_inb c) (k0_off37_inb c),
    waitP 1 0 r1M 2048 (k0_off8 c) (k0_off7 c) (k0_off8_inb c) (k0_off7_inb c),
    addLoop 1 k0_pay3 r1M k0_t12_loop k0_t12_ok (k0_off39 c) (k0_off40 c) (k0_off39_inb c) (k0_off40_inb c),
    sendP 1 2 ⟨k0_dev12 c, k0_dev12_lt c⟩ r2M 1024 (k0_off42 c) (k0_off41 c) (k0_off42_inb c) (k0_off41_inb c),
    addLoop 1 k0_pay4 r1M k0_t13_loop k0_t13_ok (k0_off43 c) (k0_off44 c) (k0_off43_inb c) (k0_off44_inb c),
    sendP 1 3 ⟨k0_dev13 c, k0_dev13_lt c⟩ r2M 1024 (k0_off46 c) (k0_off45 c) (k0_off46_inb c) (k0_off45_inb c),
    waitP 2 0 r1M 2048 (k0_off12 c) (k0_off11 c) (k0_off12_inb c) (k0_off11_inb c),
    addLoop 2 k0_pay5 r1M k0_t14_loop k0_t14_ok (k0_off47 c) (k0_off48 c) (k0_off47_inb c) (k0_off48_inb c),
    sendP 2 2 ⟨k0_dev14 c, k0_dev14_lt c⟩ r2M 1024 (k0_off50 c) (k0_off49 c) (k0_off50_inb c) (k0_off49_inb c),
    addLoop 2 k0_pay6 r1M k0_t15_loop k0_t15_ok (k0_off51 c) (k0_off52 c) (k0_off51_inb c) (k0_off52_inb c),
    sendP 2 3 ⟨k0_dev15 c, k0_dev15_lt c⟩ r2M 1024 (k0_off54 c) (k0_off53 c) (k0_off54_inb c) (k0_off53_inb c),
    waitP 0 1 r1M 2048 (k0_off16 c) (k0_off15 c) (k0_off16_inb c) (k0_off15_inb c),
    addLoop 0 k0_pay7 r1M k0_t16_loop k0_t16_ok (k0_off55 c) (k0_off56 c) (k0_off55_inb c) (k0_off56_inb c),
    waitP 1 1 r1M 2048 (k0_off20 c) (k0_off19 c) (k0_off20_inb c) (k0_off19_inb c),
    addLoop 1 k0_pay8 r1M k0_t17_loop k0_t17_ok (k0_off57 c) (k0_off58 c) (k0_off57_inb c) (k0_off58_inb c),
    waitP 2 1 r1M 2048 (k0_off24 c) (k0_off23 c) (k0_off24_inb c) (k0_off23_inb c),
    addLoop 2 k0_pay9 r1M k0_t18_loop k0_t18_ok (k0_off59 c) (k0_off60 c) (k0_off59_inb c) (k0_off60_inb c),
    waitP 0 2 r2M 1024 (k0_off34 c) (k0_off33 c) (k0_off34_inb c) (k0_off33_inb c),
    addTrip 0 k0_pay22 r2M (k0_off61 c) (k0_off62 c) (k0_off61_inb c) (k0_off62_inb c),
    sendP 0 4 ⟨k0_dev16 c, k0_dev16_lt c⟩ r3M 512 (k0_off63 c) ![0, 0] (k0_off63_inb c) inb_S1024x4096_S512x1408_0_0,
    addTrip 0 k0_pay23 r2M (k0_off64 c) (k0_off65 c) (k0_off64_inb c) (k0_off65_inb c),
    sendP 0 5 ⟨k0_dev17 c, k0_dev17_lt c⟩ r3M 512 (k0_off66 c) ![512, 0] (k0_off66_inb c) inb_S1024x4096_S512x1408_512_0,
    waitP 1 2 r2M 1024 (k0_off42 c) (k0_off41 c) (k0_off42_inb c) (k0_off41_inb c),
    addTrip 1 k0_pay24 r2M (k0_off67 c) (k0_off68 c) (k0_off67_inb c) (k0_off68_inb c),
    sendP 1 4 ⟨k0_dev18 c, k0_dev18_lt c⟩ r3M 512 (k0_off69 c) ![0, 1408] (k0_off69_inb c) inb_S1024x4096_S512x1408_0_1408,
    addTrip 1 k0_pay25 r2M (k0_off70 c) (k0_off71 c) (k0_off70_inb c) (k0_off71_inb c),
    sendP 1 5 ⟨k0_dev19 c, k0_dev19_lt c⟩ r3M 512 (k0_off72 c) ![512, 1408] (k0_off72_inb c) inb_S1024x4096_S512x1408_512_1408,
    waitP 2 2 r2M 1024 (k0_off50 c) (k0_off49 c) (k0_off50_inb c) (k0_off49_inb c),
    addTrip 2 k0_pay26 r2M (k0_off73 c) (k0_off74 c) (k0_off73_inb c) (k0_off74_inb c),
    sendP 2 4 ⟨k0_dev20 c, k0_dev20_lt c⟩ r3M 512 (k0_off75 c) ![0, 2816] (k0_off75_inb c) inb_S1024x4096_S512x1280_0_2816,
    addTrip 2 k0_pay27 r2M (k0_off76 c) (k0_off77 c) (k0_off76_inb c) (k0_off77_inb c),
    sendP 2 5 ⟨k0_dev21 c, k0_dev21_lt c⟩ r3M 512 (k0_off78 c) ![512, 2816] (k0_off78_inb c) inb_S1024x4096_S512x1280_512_2816,
    waitP 0 3 r2M 1024 (k0_off38 c) (k0_off37 c) (k0_off38_inb c) (k0_off37_inb c),
    addLoop 0 k0_pay10 r2M k0_t19_loop k0_t19_ok (k0_off79 c) (k0_off80 c) (k0_off79_inb c) (k0_off80_inb c),
    waitP 1 3 r2M 1024 (k0_off46 c) (k0_off45 c) (k0_off46_inb c) (k0_off45_inb c),
    addLoop 1 k0_pay11 r2M k0_t20_loop k0_t20_ok (k0_off81 c) (k0_off82 c) (k0_off81_inb c) (k0_off82_inb c),
    waitP 2 3 r2M 1024 (k0_off54 c) (k0_off53 c) (k0_off54_inb c) (k0_off53_inb c),
    addLoop 2 k0_pay12 r2M k0_t21_loop k0_t21_ok (k0_off83 c) (k0_off84 c) (k0_off83_inb c) (k0_off84_inb c),
    waitP 0 4 r3M 512 (k0_off63 c) ![0, 0] (k0_off63_inb c) inb_S1024x4096_S512x1408_0_0,
    addTrip 0 k0_pay28 r3M (k0_off85 c) (k0_off86 0#32) (k0_off85_inb c) (k0_off86_inb 0),
    sendP 0 6 ⟨k0_dev22 c, k0_dev22_lt c⟩ oM 512 (k0_off87 c) (k0_off87 c) (k0_off87_inb c) (k0_off87_inb c),
    waitP 1 4 r3M 512 (k0_off69 c) ![0, 1408] (k0_off69_inb c) inb_S1024x4096_S512x1408_0_1408,
    addTrip 1 k0_pay29 r3M (k0_off88 c) (k0_off89 0#32) (k0_off88_inb c) (k0_off89_inb 0),
    sendP 1 6 ⟨k0_dev23 c, k0_dev23_lt c⟩ oM 512 (k0_off90 c) (k0_off90 c) (k0_off90_inb c) (k0_off90_inb c),
    waitP 2 4 r3M 512 (k0_off75 c) ![0, 2816] (k0_off75_inb c) inb_S1024x4096_S512x1280_0_2816,
    addTrip 2 k0_pay30 r3M (k0_off91 c) (k0_off92 0#32) (k0_off91_inb c) (k0_off92_inb 0),
    sendP 2 6 ⟨k0_dev24 c, k0_dev24_lt c⟩ oM 512 (k0_off93 c) (k0_off93 c) (k0_off93_inb c) (k0_off93_inb c),
    waitP 0 5 r3M 512 (k0_off66 c) ![512, 0] (k0_off66_inb c) inb_S1024x4096_S512x1408_512_0,
    addTrip 0 k0_pay31 r3M (k0_off94 c) (k0_off86 512#32) (k0_off94_inb c) (k0_off86_inb 1),
    sendP 0 7 ⟨k0_dev25 c, k0_dev25_lt c⟩ oM 512 (k0_off95 c) (k0_off95 c) (k0_off95_inb c) (k0_off95_inb c),
    sendP 0 8 ⟨k0_dev26 c, k0_dev26_lt c⟩ oM 1024 (k0_off96 c) (k0_off96 c) (k0_off96_inb c) (k0_off96_inb c),
    sendP 0 10 ⟨k0_dev27 c, k0_dev27_lt c⟩ oM 1024 (k0_off96 c) (k0_off96 c) (k0_off96_inb c) (k0_off96_inb c),
    waitP 1 5 r3M 512 (k0_off72 c) ![512, 1408] (k0_off72_inb c) inb_S1024x4096_S512x1408_512_1408,
    addTrip 1 k0_pay32 r3M (k0_off97 c) (k0_off89 512#32) (k0_off97_inb c) (k0_off89_inb 1),
    sendP 1 7 ⟨k0_dev28 c, k0_dev28_lt c⟩ oM 512 (k0_off98 c) (k0_off98 c) (k0_off98_inb c) (k0_off98_inb c),
    sendP 1 8 ⟨k0_dev29 c, k0_dev29_lt c⟩ oM 1024 (k0_off99 c) (k0_off99 c) (k0_off99_inb c) (k0_off99_inb c),
    sendP 1 10 ⟨k0_dev30 c, k0_dev30_lt c⟩ oM 1024 (k0_off99 c) (k0_off99 c) (k0_off99_inb c) (k0_off99_inb c),
    waitP 2 5 r3M 512 (k0_off78 c) ![512, 2816] (k0_off78_inb c) inb_S1024x4096_S512x1280_512_2816,
    addTrip 2 k0_pay33 r3M (k0_off100 c) (k0_off92 512#32) (k0_off100_inb c) (k0_off92_inb 1),
    sendP 2 7 ⟨k0_dev31 c, k0_dev31_lt c⟩ oM 512 (k0_off101 c) (k0_off101 c) (k0_off101_inb c) (k0_off101_inb c),
    sendP 2 8 ⟨k0_dev32 c, k0_dev32_lt c⟩ oM 1024 (k0_off102 c) (k0_off102 c) (k0_off102_inb c) (k0_off102_inb c),
    sendP 2 10 ⟨k0_dev33 c, k0_dev33_lt c⟩ oM 1024 (k0_off102 c) (k0_off102 c) (k0_off102_inb c) (k0_off102_inb c),
    waitP 0 6 oM 512 (k0_off87 c) (k0_off87 c) (k0_off87_inb c) (k0_off87_inb c),
    waitP 0 7 oM 512 (k0_off95 c) (k0_off95 c) (k0_off95_inb c) (k0_off95_inb c),
    sendP 0 9 ⟨k0_dev34 c, k0_dev34_lt c⟩ oM 1024 (k0_off103 c) (k0_off103 c) (k0_off103_inb c) (k0_off103_inb c),
    sendP 0 11 ⟨k0_dev35 c, k0_dev35_lt c⟩ oM 1024 (k0_off103 c) (k0_off103 c) (k0_off103_inb c) (k0_off103_inb c),
    waitP 1 6 oM 512 (k0_off90 c) (k0_off90 c) (k0_off90_inb c) (k0_off90_inb c),
    waitP 1 7 oM 512 (k0_off98 c) (k0_off98 c) (k0_off98_inb c) (k0_off98_inb c),
    sendP 1 9 ⟨k0_dev36 c, k0_dev36_lt c⟩ oM 1024 (k0_off104 c) (k0_off104 c) (k0_off104_inb c) (k0_off104_inb c),
    sendP 1 11 ⟨k0_dev37 c, k0_dev37_lt c⟩ oM 1024 (k0_off104 c) (k0_off104 c) (k0_off104_inb c) (k0_off104_inb c),
    waitP 2 6 oM 512 (k0_off93 c) (k0_off93 c) (k0_off93_inb c) (k0_off93_inb c),
    waitP 2 7 oM 512 (k0_off101 c) (k0_off101 c) (k0_off101_inb c) (k0_off101_inb c),
    sendP 2 9 ⟨k0_dev38 c, k0_dev38_lt c⟩ oM 1024 (k0_off105 c) (k0_off105 c) (k0_off105_inb c) (k0_off105_inb c),
    sendP 2 11 ⟨k0_dev39 c, k0_dev39_lt c⟩ oM 1024 (k0_off105 c) (k0_off105 c) (k0_off105_inb c) (k0_off105_inb c),
    waitP 0 8 oM 1024 (k0_off96 c) (k0_off96 c) (k0_off96_inb c) (k0_off96_inb c),
    waitP 0 9 oM 1024 (k0_off103 c) (k0_off103 c) (k0_off103_inb c) (k0_off103_inb c),
    sendP 0 12 ⟨k0_dev40 c, k0_dev40_lt c⟩ oM 2048 (k0_off106 c) (k0_off106 c) (k0_off106_inb c) (k0_off106_inb c),
    waitP 1 8 oM 1024 (k0_off99 c) (k0_off99 c) (k0_off99_inb c) (k0_off99_inb c),
    waitP 1 9 oM 1024 (k0_off104 c) (k0_off104 c) (k0_off104_inb c) (k0_off104_inb c),
    sendP 1 12 ⟨k0_dev41 c, k0_dev41_lt c⟩ oM 2048 (k0_off107 c) (k0_off107 c) (k0_off107_inb c) (k0_off107_inb c),
    waitP 2 8 oM 1024 (k0_off102 c) (k0_off102 c) (k0_off102_inb c) (k0_off102_inb c),
    waitP 2 9 oM 1024 (k0_off105 c) (k0_off105 c) (k0_off105_inb c) (k0_off105_inb c),
    sendP 2 12 ⟨k0_dev42 c, k0_dev42_lt c⟩ oM 2048 (k0_off108 c) (k0_off108 c) (k0_off108_inb c) (k0_off108_inb c),
    waitP 0 10 oM 1024 (k0_off96 c) (k0_off96 c) (k0_off96_inb c) (k0_off96_inb c),
    waitP 0 11 oM 1024 (k0_off103 c) (k0_off103 c) (k0_off103_inb c) (k0_off103_inb c),
    waitP 0 12 oM 2048 (k0_off106 c) (k0_off106 c) (k0_off106_inb c) (k0_off106_inb c),
    waitP 1 10 oM 1024 (k0_off99 c) (k0_off99 c) (k0_off99_inb c) (k0_off99_inb c),
    waitP 1 11 oM 1024 (k0_off104 c) (k0_off104 c) (k0_off104_inb c) (k0_off104_inb c),
    waitP 1 12 oM 2048 (k0_off107 c) (k0_off107 c) (k0_off107_inb c) (k0_off107_inb c),
    waitP 2 10 oM 1024 (k0_off102 c) (k0_off102 c) (k0_off102_inb c) (k0_off102_inb c),
    waitP 2 11 oM 1024 (k0_off105 c) (k0_off105 c) (k0_off105_inb c) (k0_off105_inb c),
    waitP 2 12 oM 2048 (k0_off108 c) (k0_off108 c) (k0_off108_inb c) (k0_off108_inb c) ]

end Cert.KernelIdeal.Pf

end
-- ==== Proof.Mesh.lean ====
/-
# The mesh, and the phases over it

The eight devices are the corners of a cube. A device's place along each axis is a bit, and its partner along an axis is
the corner with that bit flipped. Column group `g` crosses the axes in an order of its own; `b1 b2 b3` are the bits along
the first, second and third axis it crosses, and `k1 k2 k3` the first row a device keeps after each crossing, `s1 s2 s3`
the first row of the half it sends. The phases' offsets, which the kernel computes from the device's number, are these.
-/
module

public import proofs.«01_k».proof.Proof.Prog

@[expose] public section

noncomputable section

namespace Cert.KernelIdeal.Pf

open Cert.KernelIdeal Cert.KernelIdeal.Gen

open Idealize.ShloMosaic
open Idealize.ShloMosaic.TcCoe
open Idealize.SL.Sem

variable {F : FTy → Type} [FloatOps F]

/-- A device's place along an axis (0 is `z`, 1 is `y`, 2 is `x`). -/
def bit (a : Fin 3) (c : Dev nD) : ℕ :=
  match a with
  | 0 => c.val / 4
  | 1 => c.val % 4 / 2
  | 2 => (c.val % 4 + 1) / 2 % 2

/-- Its partner along an axis. -/
def par (a : Fin 3) (c : Dev nD) : Dev nD :=
  match a with
  | 0 => ⟨(c.val + 4) % 8, Nat.mod_lt _ (by decide)⟩
  | 1 => ⟨(4 * (c.val / 4) + (3 - c.val % 4)) % 8, Nat.mod_lt _ (by decide)⟩
  | 2 => ⟨(2 * (c.val / 2) + (1 - c.val % 2)) % 8, Nat.mod_lt _ (by decide)⟩

/-- The axis that column group `g` crosses in its `i`-th turn. -/
def ax (g i : Fin 3) : Fin 3 := ⟨(i.val + 2 * g.val) % 3, Nat.mod_lt _ (by decide)⟩

abbrev b1 (g : Fin 3) (c : Dev nD) : ℕ := bit (ax g 0) c
abbrev b2 (g : Fin 3) (c : Dev nD) : ℕ := bit (ax g 1) c
abbrev b3 (g : Fin 3) (c : Dev nD) : ℕ := bit (ax g 2) c
abbrev p1 (g : Fin 3) (c : Dev nD) : Dev nD := par (ax g 0) c
abbrev p2 (g : Fin 3) (c : Dev nD) : Dev nD := par (ax g 1) c
abbrev p3 (g : Fin 3) (c : Dev nD) : Dev nD := par (ax g 2) c

/-- The rows a device keeps and the rows it sends, at each crossing. -/
def k1 (g : Fin 3) (c : Dev nD) : ℕ := 4096 * b1 g c
def k2 (g : Fin 3) (c : Dev nD) : ℕ := k1 g c + 2048 * b2 g c
def k3 (g : Fin 3) (c : Dev nD) : ℕ := k2 g c + 1024 * b3 g c
def s1 (g : Fin 3) (c : Dev nD) : ℕ := 4096 * (1 - b1 g c)
def s2 (g : Fin 3) (c : Dev nD) : ℕ := k1 g c + 2048 * (1 - b2 g c)
def s3 (g : Fin 3) (c : Dev nD) : ℕ := k2 g c + 1024 * (1 - b3 g c)

theorem bit_le (a : Fin 3) (c : Dev nD) : bit a c ≤ 1 := by revert a c; decide
theorem par_par (a : Fin 3) (c : Dev nD) : par a (par a c) = c := by revert a c; decide
theorem par_ne (a : Fin 3) (c : Dev nD) : par a c ≠ c := by revert a c; decide
/-- Crossing an axis flips the bit along it and no other. -/
theorem bit_par (a : Fin 3) (c : Dev nD) : bit a (par a c) = 1 - bit a c := by revert a c; decide
theorem bit_par_ne {a a' : Fin 3} (h : a ≠ a') (c : Dev nD) : bit a (par a' c) = bit a c := by revert a a' c; decide
theorem ax_ne {g i j : Fin 3} (h : i ≠ j) : ax g i ≠ ax g j := by revert g i j; decide

/-! ## The offsets -/

/-- The offset of row `r` in column group `g`. -/
abbrev at_ (g : Fin 3) (r : ℕ) : Fin 2 → ℕ := ![r, C0 g]

theorem inb_at {R : ℕ} (g : Fin 3) {r n : ℕ} (h : r + n ≤ R) :
    ∀ a, at_ g r a + (![n, Wd g] : Fin 2 → ℕ) a ≤ (![R, 4096] : Fin 2 → ℕ) a := by
  intro a
  match a with
  | 0 => exact h
  | 1 => show C0 g + Wd g ≤ 4096; revert g; decide
theorem inb_atx {r n : ℕ} (h : r + n ≤ 8192) : ∀ a, (![r, 0] : Fin 2 → ℕ) a + (![n, 1024] : Fin 2 → ℕ) a ≤ (![8192, 1024] : Fin 2 → ℕ) a := by
  intro a
  match a with
  | 0 => exact h
  | 1 => show 0 + 1024 ≤ 1024; decide

abbrev L4 : Scf.Loop 32 := k0_t1_loop
abbrev L8 : Scf.Loop 32 := k0_t7_loop
abbrev L2 : Scf.Loop 32 := k0_t10_loop
theorem L4_trips : L4.trips = 4 := by decide
theorem L8_trips : L8.trips = 8 := by decide
theorem L2_trips : L2.trips = 2 := by decide

/-- The tile products and sums of each column group, as the kernel computes them. -/
abbrev payG (g : Fin 3) : XV F → WV F g → TV F g :=
  match g with
  | 0 => k0_pay13
  | 1 => k0_pay14
  | 2 => k0_pay15
abbrev payA (g : Fin 3) : TV F g → TV F g → TV F g :=
  match g with
  | 0 => k0_pay1
  | 1 => k0_pay3
  | 2 => k0_pay5
abbrev payS (g : Fin 3) : TV F g → TV F g → TV F g :=
  match g with
  | 0 => k0_pay28
  | 1 => k0_pay29
  | 2 => k0_pay30

/-- The elements of the phases, over row numbers. -/
abbrev gemmC (g : Fin 3) (L : Scf.Loop 32) (hL : L.OK) (r : ℕ) (h : r + 512 * L.trips ≤ 8192) : PR F :=
  gemmLoop g (payG g) L hL (fun t => ![r + 512 * t.val, 0]) (fun t => at_ g (r + 512 * t.val))
    (fun t => inb_atx (by have := t.isLt; omega)) (fun t => inb_at g (by have := t.isLt; omega))
abbrev addC (g : Fin 3) {R : ℕ} (M : Memref sig .tc .hbm ⟨2, ![R, 4096]⟩ .f32) (L : Scf.Loop 32) (hL : L.OK) (r q : ℕ)
    (h : r + 512 * L.trips ≤ 8192) (h' : q + 512 * L.trips ≤ R) : PR F :=
  addLoop g (payA g) M L hL (fun t => at_ g (r + 512 * t.val)) (fun t => at_ g (q + 512 * t.val))
    (fun t => inb_at g (by have := t.isLt; omega)) (fun t => inb_at g (by have := t.isLt; omega))
abbrev add1 (g : Fin 3) (pay : TV F g → TV F g → TV F g) {R : ℕ} (M : Memref sig .tc .hbm ⟨2, ![R, 4096]⟩ .f32) (r q : ℕ)
    (h : r + 512 ≤ 8192) (h' : q + 512 ≤ R) : PR F :=
  addTrip g pay M (at_ g r) (at_ g q) (inb_at g h) (inb_at g h')
abbrev sendC (g : Fin 3) (k : Fin 13) (dv : Dev nD) {R : ℕ} (M : Memref sig .tc .hbm ⟨2, ![R, 4096]⟩ .f32) (n r q : ℕ)
    (h : r + n ≤ 8192) (h' : q + n ≤ R) : PR F :=
  sendP g k dv M n (at_ g r) (at_ g q) (inb_at g h) (inb_at g h')
abbrev waitC (g : Fin 3) (k : Fin 13) {R : ℕ} (M : Memref sig .tc .hbm ⟨2, ![R, 4096]⟩ .f32) (n r q : ℕ)
    (h : r + n ≤ 8192) (h' : q + n ≤ R) : PR F :=
  waitP g k M n (at_ g r) (at_ g q) (inb_at g h) (inb_at g h')

/-! ## The bounds -/

theorem k1_le (g : Fin 3) (c : Dev nD) : k1 g c + 4096 ≤ 8192 := by revert g c; decide
theorem k2_le (g : Fin 3) (c : Dev nD) : k2 g c + 2048 ≤ 8192 := by revert g c; decide
theorem k3_le (g : Fin 3) (c : Dev nD) : k3 g c + 1024 ≤ 8192 := by revert g c; decide
theorem s1_le (g : Fin 3) (c : Dev nD) : s1 g c + 4096 ≤ 8192 := by revert g c; decide
theorem s2_le (g : Fin 3) (c : Dev nD) : s2 g c + 2048 ≤ 8192 := by revert g c; decide
theorem s3_le (g : Fin 3) (c : Dev nD) : s3 g c + 1024 ≤ 8192 := by revert g c; decide

/-- Closes a bound on a row number: the kept and sent rows' own bounds, and that a bit is at most one. -/
theorem row_le (g : Fin 3) (c : Dev nD) : k1 g c + 4096 ≤ 8192 ∧ k2 g c + 2048 ≤ 8192 ∧ k3 g c + 1024 ≤ 8192 ∧ s1 g c + 4096 ≤ 8192 ∧
    s2 g c + 2048 ≤ 8192 ∧ s3 g c + 1024 ≤ 8192 ∧ b1 g c ≤ 1 ∧ b2 g c ≤ 1 ∧ b3 g c ≤ 1 :=
  ⟨k1_le g c, k2_le g c, k3_le g c, s1_le g c, s2_le g c, s3_le g c, bit_le _ c, bit_le _ c, bit_le _ c⟩

/-! ## The phases -/

def phA (g : Fin 3) (c : Dev nD) : List (PR F) :=
  [ gemmC g L4 k0_t1_ok (s1 g c + 2048 * (1 - b2 g c)) (by have := row_le g c; rw [L4_trips]; omega),
    sendC g 0 (p1 g c) r1M 2048 (s1 g c + 2048 * (1 - b2 g c)) (2048 * (1 - b2 g c)) (by have := row_le g c; omega) (by have := row_le g c; omega) ]
def phB (g : Fin 3) (c : Dev nD) : List (PR F) :=
  [ gemmC g L4 k0_t1_ok (s1 g c + 2048 * b2 g c) (by have := row_le g c; rw [L4_trips]; omega),
    sendC g 1 (p1 g c) r1M 2048 (s1 g c + 2048 * b2 g c) (2048 * b2 g c) (by have := row_le g c; omega) (by have := row_le g c; omega) ]
def phC (g : Fin 3) (c : Dev nD) : List (PR F) :=
  [ gemmC g L8 k0_t7_ok (k1 g c) (by have := row_le g c; rw [L8_trips]; omega) ]
def phD (g : Fin 3) (c : Dev nD) : List (PR F) :=
  [ waitC g 0 r1M 2048 (s1 g c + 2048 * (1 - b2 g c)) (2048 * (1 - b2 g c)) (by have := row_le g c; omega) (by have := row_le g c; omega),
    addC g r1M L2 k0_t10_ok (s2 g c + 1024 * (1 - b3 g c)) (2048 * (1 - b2 g c) + 1024 * (1 - b3 g c)) (by have := row_le g c; rw [L2_trips]; omega) (by have := row_le g c; rw [L2_trips]; omega),
    sendC g 2 (p2 g c) r2M 1024 (s2 g c + 1024 * (1 - b3 g c)) (1024 * (1 - b3 g c)) (by have := row_le g c; omega) (by have := row_le g c; omega),
    addC g r1M L2 k0_t10_ok (s2 g c + 1024 * b3 g c) (2048 * (1 - b2 g c) + 1024 * b3 g c) (by have := row_le g c; rw [L2_trips]; omega) (by have := row_le g c; rw [L2_trips]; omega),
    sendC g 3 (p2 g c) r2M 1024 (s2 g c + 1024 * b3 g c) (1024 * b3 g c) (by have := row_le g c; omega) (by have := row_le g c; omega) ]
def phE (g : Fin 3) (c : Dev nD) : List (PR F) :=
  [ waitC g 1 r1M 2048 (s1 g c + 2048 * b2 g c) (2048 * b2 g c) (by have := row_le g c; omega) (by have := row_le g c; omega),
    addC g r1M L4 k0_t1_ok (k2 g c) (2048 * b2 g c) (by have := row_le g c; rw [L4_trips]; omega) (by have := row_le g c; rw [L4_trips]; omega) ]
def phF (g : Fin 3) (c : Dev nD) : List (PR F) :=
  [ waitC g 2 r2M 1024 (s2 g c + 1024 * (1 - b3 g c)) (1024 * (1 - b3 g c)) (by have := row_le g c; omega) (by have := row_le g c; omega),
    add1 g (payA g) r2M (s3 g c) (1024 * (1 - b3 g c)) (by have := row_le g c; omega) (by have := row_le g c; omega),
    sendC g 4 (p3 g c) r3M 512 (s3 g c) 0 (by have := row_le g c; omega) (by omega),
    add1 g (payA g) r2M (s3 g c + 512) (1024 * (1 - b3 g c) + 512) (by have := row_le g c; omega) (by have := row_le g c; omega),
    sendC g 5 (p3 g c) r3M 512 (s3 g c + 512) 512 (by have := row_le g c; omega) (by omega) ]
def phG (g : Fin 3) (c : Dev nD) : List (PR F) :=
  [ waitC g 3 r2M 1024 (s2 g c + 1024 * b3 g c) (1024 * b3 g c) (by have := row_le g c; omega) (by have := row_le g c; omega),
    addC g r2M L2 k0_t10_ok (k3 g c) (1024 * b3 g c) (by have := row_le g c; rw [L2_trips]; omega) (by have := row_le g c; rw [L2_trips]; omega) ]
def phH (g : Fin 3) (c : Dev nD) : List (PR F) :=
  [ waitC g 4 r3M 512 (s3 g c) 0 (by have := row_le g c; omega) (by omega),
    add1 g (payS g) r3M (k3 g c) 0 (by have := row_le g c; omega) (by omega),
    sendC g 6 (p3 g c) oM 512 (k3 g c) (k3 g c) (by have := row_le g c; omega) (by have := row_le g c; omega) ]
def phI (g : Fin 3) (c : Dev nD) : List (PR F) :=
  [ waitC g 5 r3M 512 (s3 g c + 512) 512 (by have := row_le g c; omega) (by omega),
    add1 g (payS g) r3M (k3 g c + 512) 512 (by have := row_le g c; omega) (by omega),
    sendC g 7 (p3 g c) oM 512 (k3 g c + 512) (k3 g c + 512) (by have := row_le g c; omega) (by have := row_le g c; omega),
    sendC g 8 (p2 g c) oM 1024 (k3 g c) (k3 g c) (by have := row_le g c; omega) (by have := row_le g c; omega),
    sendC g 10 (p1 g c) oM 1024 (k3 g c) (k3 g c) (by have := row_le g c; omega) (by have := row_le g c; omega) ]
def phJ (g : Fin 3) (c : Dev nD) : List (PR F) :=
  [ waitC g 6 oM 512 (k3 g c) (k3 g c) (by have := row_le g c; omega) (by have := row_le g c; omega),
    waitC g 7 oM 512 (k3 g c + 512) (k3 g c + 512) (by have := row_le g c; omega) (by have := row_le g c; omega),
    sendC g 9 (p2 g c) oM 1024 (s3 g c) (s3 g c) (by have := row_le g c; omega) (by have := row_le g c; omega),
    sendC g 11 (p1 g c) oM 1024 (s3 g c) (s3 g c) (by have := row_le g c; omega) (by have := row_le g c; omega) ]
def phK (g : Fin 3) (c : Dev nD) : List (PR F) :=
  [ waitC g 8 oM 1024 (k3 g c) (k3 g c) (by have := row_le g c; omega) (by have := row_le g c; omega),
    waitC g 9 oM 1024 (s3 g c) (s3 g c) (by have := row_le g c; omega) (by have := row_le g c; omega),
    sendC g 12 (p1 g c) oM 2048 (s2 g c) (s2 g c) (by have := row_le g c; omega) (by have := row_le g c; omega) ]
def phL (g : Fin 3) (c : Dev nD) : List (PR F) :=
  [ waitC g 10 oM 1024 (k3 g c) (k3 g c) (by have := row_le g c; omega) (by have := row_le g c; omega),
    waitC g 11 oM 1024 (s3 g c) (s3 g c) (by have := row_le g c; omega) (by have := row_le g c; omega),
    waitC g 12 oM 2048 (s2 g c) (s2 g c) (by have := row_le g c; omega) (by have := row_le g c; omega) ]

/-- A phase of each column group in turn. -/
abbrev each (ph : Fin 3 → Dev nD → List (PR F)) (c : Dev nD) : List (PR F) := ph 0 c ++ ph 1 c ++ ph 2 c

/-- The body's phases. -/
def phases (c : Dev nD) : List (PR F) :=
  [hand (par 2 c) (par 1 c) (par 0 c)] ++ each phA c ++ each phB c ++ each phC c ++ each phD c ++ each phE c ++ each phF c ++ each phG c ++ each phH c
    ++ each phI c ++ each phJ c ++ each phK c ++ each phL c

/-! ## The kernel's offsets are these -/

theorem sendP_congr {g : Fin 3} {k : Fin 13} {dv dv' : Dev nD} {R : ℕ} {M : Memref sig .tc .hbm ⟨2, ![R, 4096]⟩ .f32} {n : ℕ} {a a' b b' : Fin 2 → ℕ} {ha hb}
    (hd : dv = dv') (e : a = a') (f : b = b') : sendP (F := F) g k dv M n a b ha hb = sendP g k dv' M n a' b' (e ▸ ha) (f ▸ hb) := by
  subst hd; subst e; subst f; rfl
theorem waitP_congr {g : Fin 3} {k : Fin 13} {R : ℕ} {M : Memref sig .tc .hbm ⟨2, ![R, 4096]⟩ .f32} {n : ℕ} {a a' b b' : Fin 2 → ℕ} {ha hb}
    (e : a = a') (f : b = b') : waitP (F := F) g k M n a b ha hb = waitP g k M n a' b' (e ▸ ha) (f ▸ hb) := by
  subst e; subst f; rfl
theorem addTrip_congr {g : Fin 3} {pay : TV F g → TV F g → TV F g} {R : ℕ} {M : Memref sig .tc .hbm ⟨2, ![R, 4096]⟩ .f32} {a a' b b' : Fin 2 → ℕ} {ha hb}
    (e : a = a') (f : b = b') : addTrip (F := F) g pay M a b ha hb = addTrip g pay M a' b' (e ▸ ha) (f ▸ hb) := by
  subst e; subst f; rfl
theorem addLoop_congr {g : Fin 3} {pay : TV F g → TV F g → TV F g} {R : ℕ} {M : Memref sig .tc .hbm ⟨2, ![R, 4096]⟩ .f32} {L : Scf.Loop 32} {hL : L.OK}
    {a a' b b' : Fin L.trips → Fin 2 → ℕ} {ha hb}
    (e : ∀ t, a t = a' t) (f : ∀ t, b t = b' t) :
    addLoop (F := F) g pay M L hL a b ha hb = addLoop g pay M L hL a' b' (fun t => e t ▸ ha t) (fun t => f t ▸ hb t) := by
  obtain rfl : a = a' := funext e
  obtain rfl : b = b' := funext f
  rfl
theorem gemmLoop_congr {g : Fin 3} {pay : XV F → WV F g → TV F g} {L : Scf.Loop 32} {hL : L.OK}
    {a a' b b' : Fin L.trips → Fin 2 → ℕ} {ha hb}
    (e : ∀ t, a t = a' t) (f : ∀ t, b t = b' t) :
    gemmLoop (F := F) g pay L hL a b ha hb = gemmLoop g pay L hL a' b' (fun t => e t ▸ ha t) (fun t => f t ▸ hb t) := by
  obtain rfl : a = a' := funext e
  obtain rfl : b = b' := funext f
  rfl

theorem hand_congr {d1 d2 d3 e1 e2 e3 : Dev nD} (h1 : d1 = e1) (h2 : d2 = e2) (h3 : d3 = e3) : hand (F := F) d1 d2 d3 = hand e1 e2 e3 := by
  subst h1; subst h2; subst h3; rfl

theorem cons_congr {α : Type*} {a a' : α} {l l' : List α} (h : a = a') (h' : l = l') : a :: l = a' :: l' := by rw [h, h']

set_option maxRecDepth 65536 in
set_option maxHeartbeats 4000000 in
/-- The phases with the offsets the kernel computes are the phases over the mesh. -/
theorem printed_eq (c : Dev nD) : printed (F := F) c = phases c := by
  unfold printed phases each phA phB phC phD phE phF phG phH phI phJ phK phL
  simp only [List.cons_append, List.nil_append]
  repeat' first
    | refine cons_congr ?_ ?_
    | exact hand_congr (by revert c; decide +kernel) (by revert c; decide +kernel) (by revert c; decide +kernel)
    | exact sendP_congr (by revert c; decide +kernel) (by revert c; decide +kernel) (by revert c; decide +kernel)
    | exact waitP_congr (by revert c; decide +kernel) (by revert c; decide +kernel)
    | exact addTrip_congr (by revert c; decide +kernel) (by revert c; decide +kernel)
    | exact addLoop_congr (by revert c; decide +kernel) (by revert c; decide +kernel)
    | exact gemmLoop_congr (by revert c; decide +kernel) (by revert c; decide +kernel)
    | exact rfl

end Cert.KernelIdeal.Pf

end
-- ==== Proof.Region.lean ====
/-
# Rows of a buffer

Every transfer and every tile of the kernel covers some rows of one column group of a buffer. `Reg` holds such rows with
the values they carry, given as a function of row and column; `Any` holds them at whatever they carry.
-/
module

public import proofs.«01_k».proof.Proof.Mesh

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the kernel's own rounds, the local transfers' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
abbrev EC : UEmb Counters (MT nD τ sig Unit (Elt F) ℕ UU ℕ) := countersEmb

/-! ## Rows -/

/-- A buffer of `R` rows of 4096. -/
abbrev HM (R : ℕ) : Type := Memref sig .tc .hbm ⟨2, ![R, 4096]⟩ .f32
/-- The values of a buffer by row and column. -/
abbrev VF (F : FTy → Type) : Type := ℕ → ℕ → Elt F .f32

/-- The `n` rows from row `r` of column group `g`. -/
def RS (R r n : ℕ) (g : Fin 3) : Finset (⟨2, ![R, 4096]⟩ : Shape).Idx :=
  Finset.univ.filter fun x => r ≤ (x 0).val ∧ (x 0).val < r + n ∧ C0 g ≤ (x 1).val ∧ (x 1).val < C0 g + Wd g

theorem mem_RS {R r n : ℕ} {g : Fin 3} {x : (⟨2, ![R, 4096]⟩ : Shape).Idx} :
    x ∈ RS R r n g ↔ r ≤ (x 0).val ∧ (x 0).val < r + n ∧ C0 g ≤ (x 1).val ∧ (x 1).val < C0 g + Wd g := by simp [RS]

theorem RS_add {R r n m : ℕ} {g : Fin 3} : RS R r (n + m) g = RS R r n g ∪ RS R (r + n) m g := by
  ext x; simp only [Finset.mem_union, mem_RS]; omega
theorem RS_disj {R r n m : ℕ} {g : Fin 3} : Disjoint (RS R r n g) (RS R (r + n) m g) := by
  rw [Finset.disjoint_left]; intro x; simp only [mem_RS]; omega

/-- `n` rows of column group `g` of device `c`'s buffer `M`, at share `q`, with the values `V`. -/
def Reg {R : ℕ} (M : HM R) (c : Dev nD) (r n : ℕ) (g : Fin 3) (q : PosShare TreeShare) (V : VF F) : sProp 𝕄 :=
  iprop(∃ f : Buf (Elt F) (M.view.loc (c : Thread nD τ)), ⌜∀ x ∈ RS R r n g, M.view.read (Elt F) f x = V (x 0).val (x 1).val⌝
    ∗ (M.view.loc (c : Thread nD τ) ↦[(RS R r n g).map M.view.emb]{q} f))

/-- Those rows, whole, at whatever values. -/
def Any {R : ℕ} (M : HM R) (c : Dev nD) (r n : ℕ) (g : Fin 3) : sProp 𝕄 :=
  iprop(∃ f : Buf (Elt F) (M.view.loc (c : Thread nD τ)), (M.view.loc (c : Thread nD τ) ↦[(RS R r n g).map M.view.emb]{fullShare} f))

/-- A tile's values. -/
def tv (n : ℕ) (g : Fin 3) (V : VF F) (r : ℕ) : Vec F ⟨2, ![n, Wd g]⟩ .f32 := fun x => V (r + (x 0).val) (C0 g + (x 1).val)

variable {R : ℕ} {M : HM R} {c : Dev nD} {r n m : ℕ} {g : Fin 3} {q : PosShare TreeShare} {V V' : VF F}

theorem reg_any : (Reg M c r n g fullShare V : sProp 𝕄) ⊢ Any M c r n g := by
  unfold Reg Any; iintro ⟨%f, -, H⟩; iexists f; iexact H

/-- Rows whose values agree with another function's are that function's. -/
theorem reg_congr (h : ∀ i j, r ≤ i → i < r + n → C0 g ≤ j → j < C0 g + Wd g → V i j = V' i j) :
    (Reg M c r n g q V : sProp 𝕄) ⊢ Reg M c r n g q V' := by
  unfold Reg; iintro ⟨%f, %hf, H⟩; iexists f
  isplitr
  · ipureintro; intro x hx; rw [hf x hx]; obtain ⟨h1, h2, h3, h4⟩ := mem_RS.mp hx; exact h _ _ h1 h2 h3 h4
  · iexact H

/-- A points-to over rows comes apart where the rows do. -/
theorem pts_rows {f : Buf (Elt F) (M.view.loc (c : Thread nD τ))} :
    (M.view.loc (c : Thread nD τ) ↦[(RS R r (n + m) g).map M.view.emb]{q} f : sProp 𝕄)
      ⊢ iprop((M.view.loc (c : Thread nD τ) ↦[(RS R r n g).map M.view.emb]{q} f) ∗ (M.view.loc (c : Thread nD τ) ↦[(RS R (r + n) m g).map M.view.emb]{q} f)) := by
  rw [RS_add, Finset.map_union]
  exact (pointsTo_union ((Finset.disjoint_map _).mpr RS_disj)).1

theorem map_disj : Disjoint ((RS R r n g).map M.view.emb) ((RS R (r + n) m g).map M.view.emb) :=
  (Finset.disjoint_map _).mpr RS_disj

/-- Rows come apart and together. -/
theorem reg_split : (Reg M c r (n + m) g q V : sProp 𝕄) ⊢ iprop(Reg M c r n g q V ∗ Reg M c (r + n) m g q V) := by
  unfold Reg; iintro ⟨%f, %hf, H⟩
  ihave H := pts_rows $$ H
  icases H with ⟨H1, H2⟩
  isplitl [H1]
  · iexists f; isplitr
    · ipureintro; intro x hx; exact hf x (by rw [RS_add]; exact Finset.mem_union_left _ hx)
    · iexact H1
  · iexists f; isplitr
    · ipureintro; intro x hx; exact hf x (by rw [RS_add]; exact Finset.mem_union_right _ hx)
    · iexact H2

theorem read_eq_of {f f' : Buf (Elt F) (M.view.loc (c : Thread nD τ))} {x : (⟨2, ![R, 4096]⟩ : Shape).Idx}
    (h : f (M.view.emb x) = f' (M.view.emb x)) : M.view.read (Elt F) f x = M.view.read (Elt F) f' x := by
  unfold View.read; rw [h]
theorem eq_of_read {f f' : Buf (Elt F) (M.view.loc (c : Thread nD τ))} {x : (⟨2, ![R, 4096]⟩ : Shape).Idx}
    (h : M.view.read (Elt F) f x = M.view.read (Elt F) f' x) : f (M.view.emb x) = f' (M.view.emb x) := by
  unfold View.read at h; exact cast_inj _ |>.mp h

theorem reg_join : iprop(Reg M c r n g q V ∗ Reg M c (r + n) m g q V) ⊢ (Reg M c r (n + m) g q V : sProp 𝕄) := by
  unfold Reg; iintro ⟨⟨%f, %hf, H1⟩, ⟨%f', %hf', H2⟩⟩
  iexists (((RS R (r + n) m g).map M.view.emb).piecewise f' f)
  isplitr
  · ipureintro; intro x hx
    rw [RS_add] at hx
    by_cases h2 : x ∈ RS R (r + n) m g
    · rw [← hf' x h2]; apply read_eq_of
      rw [Finset.piecewise_eq_of_mem _ _ _ (Finset.mem_map_of_mem _ h2)]
    · rw [← hf x ((Finset.mem_union.mp hx).resolve_right h2)]; apply read_eq_of
      rw [Finset.piecewise_eq_of_notMem _ _ _ (fun h => h2 ((Finset.mem_map' _).mp h))]
  · rw [RS_add, Finset.map_union]
    iapply (pointsTo_join map_disj)
    isplitl [H1]; · iexact H1
    iexact H2

theorem any_split : (Any M c r (n + m) g : sProp 𝕄) ⊢ iprop(Any M c r n g ∗ Any M c (r + n) m g) := by
  unfold Any; iintro ⟨%f, H⟩
  ihave H := pts_rows $$ H
  icases H with ⟨H1, H2⟩
  isplitl [H1]
  · iexists f; iexact H1
  · iexists f; iexact H2

theorem any_join : iprop(Any M c r n g ∗ Any M c (r + n) m g) ⊢ (Any M c r (n + m) g : sProp 𝕄) := by
  unfold Any; iintro ⟨⟨%f, H1⟩, ⟨%f', H2⟩⟩
  iexists (((RS R (r + n) m g).map M.view.emb).piecewise f' f)
  rw [RS_add, Finset.map_union]
  iapply (pointsTo_join map_disj)
  isplitl [H1]; · iexact H1
  iexact H2

/-- Rows at a share come apart into its halves and together. -/
theorem reg_share : (Reg M c r n g q V : sProp 𝕄) ⊢ iprop(Reg M c r n g q.left V ∗ Reg M c r n g q.right V) := by
  unfold Reg; iintro ⟨%f, %hf, H⟩
  ihave H := (pointsTo_share (PosShare.mem_left_op_right q)).1 $$ H
  icases H with ⟨H1, H2⟩
  isplitl [H1]
  · iexists f; isplitr
    · ipureintro; exact hf
    · iexact H1
  · iexists f; isplitr
    · ipureintro; exact hf
    · iexact H2

theorem reg_unshare : iprop(Reg M c r n g q.left V ∗ Reg M c r n g q.right V) ⊢ (Reg M c r n g q V : sProp 𝕄) := by
  unfold Reg; iintro ⟨⟨%f, %hf, H1⟩, ⟨%f', %hf', H2⟩⟩
  iexists f
  isplitr
  · ipureintro; exact hf
  · iapply (pointsTo_share (PosShare.mem_left_op_right q)).2
    isplitl [H1]; · iexact H1
    have e : (M.view.loc (c : Thread nD τ) ↦[(RS R r n g).map M.view.emb]{q.right} f' : sProp 𝕄) = (M.view.loc (c : Thread nD τ) ↦[(RS R r n g).map M.view.emb]{q.right} f) := by
      apply pointsTo_congr
      intro i hi
      obtain ⟨x, hx, rfl⟩ := Finset.mem_map.mp hi
      exact eq_of_read ((hf' x hx).trans (hf x hx).symm)
    rw [← e]; iexact H2

/-! ## Rows as tiles -/

/-- A tile's elements are its rows'. -/
theorem mem_rect {h : ∀ a, at_ g r a + (![n, Wd g] : Fin 2 → ℕ) a ≤ (![R, 4096] : Fin 2 → ℕ) a} {x : (⟨2, ![R, 4096]⟩ : Shape).Idx} :
    x ∈ (Rect.unit (s := ⟨2, ![R, 4096]⟩) (at_ g r) ![n, Wd g] h).set
      ↔ r ≤ (x 0).val ∧ (x 0).val < r + n ∧ C0 g ≤ (x 1).val ∧ (x 1).val < C0 g + Wd g := by
  rw [Rect.mem_set_unit]
  constructor
  · intro hx
    have h0 := hx 0
    have h1 := hx 1
    have h0 : r ≤ (x 0).val ∧ (x 0).val < r + n := h0
    have h1 : C0 g ≤ (x 1).val ∧ (x 1).val < C0 g + Wd g := h1
    omega
  · rintro ⟨h1, h2, h3, h4⟩ a
    match a with
    | 0 => exact show r ≤ (x 0).val ∧ (x 0).val < r + n from ⟨h1, h2⟩
    | 1 => exact show C0 g ≤ (x 1).val ∧ (x 1).val < C0 g + Wd g from ⟨h3, h4⟩

theorem tile_set (h : ∀ a, at_ g r a + (![n, Wd g] : Fin 2 → ℕ) a ≤ (![R, 4096] : Fin 2 → ℕ) a) :
    (tile M (at_ g r) n (Wd g) h).view.set = (RS R r n g).map M.view.emb := by
  refine (View.set_slice _ _).trans ?_
  congr 1
  ext x
  exact mem_rect.trans mem_RS.symm

theorem tile_read {h : ∀ a, at_ g r a + (![n, Wd g] : Fin 2 → ℕ) a ≤ (![R, 4096] : Fin 2 → ℕ) a}
    (f : Buf (Elt F) (M.view.loc (c : Thread nD τ))) (x : (⟨2, ![n, Wd g]⟩ : Shape).Idx) :
    (tile M (at_ g r) n (Wd g) h).view.read (Elt F) f x
      = M.view.read (Elt F) f ((Rect.unit (s := ⟨2, ![R, 4096]⟩) (at_ g r) ![n, Wd g] h).emb x) := rfl

theorem emb_row {h : ∀ a, at_ g r a + (![n, Wd g] : Fin 2 → ℕ) a ≤ (![R, 4096] : Fin 2 → ℕ) a} (x : (⟨2, ![n, Wd g]⟩ : Shape).Idx) :
    ((Rect.unit (s := ⟨2, ![R, 4096]⟩) (at_ g r) ![n, Wd g] h).emb x 0).val = r + (x 0).val := by
  rw [Rect.emb_apply]; show r + 1 * (x 0).val = _; omega
theorem emb_col {h : ∀ a, at_ g r a + (![n, Wd g] : Fin 2 → ℕ) a ≤ (![R, 4096] : Fin 2 → ℕ) a} (x : (⟨2, ![n, Wd g]⟩ : Shape).Idx) :
    ((Rect.unit (s := ⟨2, ![R, 4096]⟩) (at_ g r) ![n, Wd g] h).emb x 1).val = C0 g + (x 1).val := by
  rw [Rect.emb_apply]; show C0 g + 1 * (x 1).val = _; omega
theorem emb_mem {h : ∀ a, at_ g r a + (![n, Wd g] : Fin 2 → ℕ) a ≤ (![R, 4096] : Fin 2 → ℕ) a} (x : (⟨2, ![n, Wd g]⟩ : Shape).Idx) :
    (Rect.unit (s := ⟨2, ![R, 4096]⟩) (at_ g r) ![n, Wd g] h).emb x ∈ RS R r n g := by
  rw [mem_RS, emb_row, emb_col]
  have h0 : (x 0).val < n := (x 0).isLt
  have h1 : (x 1).val < Wd g := (x 1).isLt
  omega
theorem emb_surj {h : ∀ a, at_ g r a + (![n, Wd g] : Fin 2 → ℕ) a ≤ (![R, 4096] : Fin 2 → ℕ) a} {y : (⟨2, ![R, 4096]⟩ : Shape).Idx}
    (hy : y ∈ RS R r n g) : ∃ x, (Rect.unit (s := ⟨2, ![R, 4096]⟩) (at_ g r) ![n, Wd g] h).emb x = y := by
  have := (Finset.ext_iff.mp (Rect.map_emb_univ (Rect.unit (s := ⟨2, ![R, 4096]⟩) (at_ g r) ![n, Wd g] h)) y)
  have hset : y ∈ (Rect.unit (s := ⟨2, ![R, 4096]⟩) (at_ g r) ![n, Wd g] h).set := by
    exact mem_rect.mpr (mem_RS.mp hy)
  obtain ⟨x, -, hx⟩ := Finset.mem_map.mp (this.mpr hset)
  exact ⟨x, hx⟩

/-- Rows are a tile's points-to at contents the tile reads as the rows' values, -/
theorem reg_tile (h : ∀ a, at_ g r a + (![n, Wd g] : Fin 2 → ℕ) a ≤ (![R, 4096] : Fin 2 → ℕ) a) :
    (Reg M c r n g q V : sProp 𝕄) ⊢ iprop(∃ f : Buf (Elt F) ((tile M (at_ g r) n (Wd g) h).view.loc (c : Thread nD τ)),
      ⌜(tile M (at_ g r) n (Wd g) h).view.read (Elt F) f = tv n g V r⌝
        ∗ ((tile M (at_ g r) n (Wd g) h).view.loc (c : Thread nD τ) ↦[(tile M (at_ g r) n (Wd g) h).view.set]{q} f)) := by
  unfold Reg; iintro ⟨%f, %hf, H⟩; iexists f
  isplitr
  · ipureintro; funext x; rw [tile_read (c := c), hf _ (emb_mem x), emb_row, emb_col]; rfl
  · rw [tile_set h]; iexact H

/-- and back. -/
theorem tile_reg (h : ∀ a, at_ g r a + (![n, Wd g] : Fin 2 → ℕ) a ≤ (![R, 4096] : Fin 2 → ℕ) a)
    {f : Buf (Elt F) ((tile M (at_ g r) n (Wd g) h).view.loc (c : Thread nD τ))}
    (hf : (tile M (at_ g r) n (Wd g) h).view.read (Elt F) f = tv n g V r) :
    ((tile M (at_ g r) n (Wd g) h).view.loc (c : Thread nD τ) ↦[(tile M (at_ g r) n (Wd g) h).view.set]{q} f) ⊢ (Reg M c r n g q V : sProp 𝕄) := by
  unfold Reg; iintro H; iexists f
  isplitr
  · ipureintro; intro y hy
    obtain ⟨x, rfl⟩ := emb_surj (h := h) hy
    rw [← tile_read (c := c), hf, emb_row, emb_col]; rfl
  · rw [← tile_set h]; iexact H

theorem any_tile (h : ∀ a, at_ g r a + (![n, Wd g] : Fin 2 → ℕ) a ≤ (![R, 4096] : Fin 2 → ℕ) a) :
    (Any M c r n g : sProp 𝕄) ⊢ iprop(∃ f : Buf (Elt F) ((tile M (at_ g r) n (Wd g) h).view.loc (c : Thread nD τ)),
      ((tile M (at_ g r) n (Wd g) h).view.loc (c : Thread nD τ) ↦[(tile M (at_ g r) n (Wd g) h).view.set]{fullShare} f)) := by
  unfold Any; iintro ⟨%f, H⟩; iexists f
  rw [tile_set h]; iexact H

theorem tile_any (h : ∀ a, at_ g r a + (![n, Wd g] : Fin 2 → ℕ) a ≤ (![R, 4096] : Fin 2 → ℕ) a)
    {f : Buf (Elt F) ((tile M (at_ g r) n (Wd g) h).view.loc (c : Thread nD τ))} :
    ((tile M (at_ g r) n (Wd g) h).view.loc (c : Thread nD τ) ↦[(tile M (at_ g r) n (Wd g) h).view.set]{fullShare} f) ⊢ (Any M c r n g : sProp 𝕄) := by
  unfold Any; iintro H; iexists f
  rw [← tile_set h]; iexact H

end Cert.KernelIdeal.Pf

end
-- ==== Proof.Local.lean ====
/-
# One tile of a product, one tile of a sum

The two loop bodies, which fetch on-chip, compute and write back, and the loops over them. The values are functions of
row and column: `LV` is a device's partial product, `addV` a sum of two, `siluV` the gated sum.
-/
module

public import proofs.«01_k».proof.Proof.Region
public import Idealize.ShloMosaic.Lib.Pipeline.Value

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- A program of the kernel's run on device `c`. -/
abbrev WP (c : Dev nD) (p : PR F) (Q : PUnit → sProp 𝕄) : sProp 𝕄 :=
  wp frame (wpE (defs₀ (F := F)) 𝒱₀ (c : Thread nD τ) none) Set.univ p Q

/-! ## Values -/

/-- The index of row `i`, column `j`. -/
def ix {a b : ℕ} (i j : ℕ) (hi : i < a) (hj : j < b) : (⟨2, ![a, b]⟩ : Shape).Idx :=
  fun k => match k with
    | 0 => ⟨i, hi⟩
    | 1 => ⟨j, hj⟩

theorem ix_ext {a b : ℕ} {x y : (⟨2, ![a, b]⟩ : Shape).Idx} (h0 : (x 0).val = (y 0).val) (h1 : (x 1).val = (y 1).val) : x = y := by
  funext k
  match k with
  | 0 => exact Fin.ext h0
  | 1 => exact Fin.ext h1

abbrev XB (F : FTy → Type) [FloatOps F] : Type := Vec F S8192x1024 .f32
abbrev WB (F : FTy → Type) [FloatOps F] : Type := Vec F S1024x4096 .f32

/-- The 512 rows of a device's input block from row `r`, and a group's columns of its weights. -/
def Sx (xf : XB F) (r : ℕ) : XV F := fun y =>
  xf (ix (a := 8192) (b := 1024) ((r + (y 0).val) % 8192) (y 1).val (Nat.mod_lt _ (by decide)) (y 1).isLt)
def Sw (wf : WB F) (g : Fin 3) : WV F g := (wM.view.slice (wR g)).read (Elt F) wf

/-- A device's partial product, by row and column: each row comes of the tile of 512 it lies in. -/
def LV (g : Fin 3) (xf : XB F) (wf : WB F) : VF F := fun i j =>
  payG g (Sx xf (512 * (i / 512))) (Sw wf g)
    (ix (a := 512) (b := Wd g) (i % 512) ((j - C0 g) % Wd g) (Nat.mod_lt _ (by decide)) (Nat.mod_lt _ (Wd_pos g)))

def addV (U V : VF F) : VF F := fun i j => FloatOps.addf (U i j) (V i j)
def siluV (U V : VF F) : VF F := fun i j =>
  FloatOps.mulf (FloatOps.addf (U i j) (V i j)) (FloatOps.logistic (FloatOps.addf (U i j) (V i j)))

theorem payG_tv (g : Fin 3) (xf : XB F) (wf : WB F) {r : ℕ} (h : 512 ∣ r) : payG g (Sx xf r) (Sw wf g) = tv 512 g (LV g xf wf) r := by
  funext x
  have h0 : (x 0).val < 512 := (x 0).isLt
  have h1 : (x 1).val < Wd g := (x 1).isLt
  obtain ⟨k, rfl⟩ := h
  unfold tv LV
  have e : 512 * ((512 * k + (x 0).val) / 512) = 512 * k := by omega
  rw [e]
  congr 1
  refine ix_ext (a := 512) (b := Wd g) ?_ ?_
  · show (x 0).val = (512 * k + (x 0).val) % 512; omega
  · show (x 1).val = (C0 g + (x 1).val - C0 g) % Wd g
    rw [Nat.add_sub_cancel_left, Nat.mod_eq_of_lt h1]

theorem payA_tv (g : Fin 3) (U V : VF F) (D : VF F) (r q : ℕ) (n : ∀ i j, i < 512 → D (r + i) j = FloatOps.addf (U (r + i) j) (V (q + i) j)) :
    payA g (tv 512 g U r) (tv 512 g V q) = tv 512 g D r := by
  funext x
  unfold tv
  rw [n _ _ (x 0).isLt]
  match g with
  | 0 => show k0_pay1 _ _ x = _; unfold k0_pay1; rw [shapeCast_self]; rfl
  | 1 => show k0_pay3 _ _ x = _; unfold k0_pay3; rw [shapeCast_self]; rfl
  | 2 => show k0_pay5 _ _ x = _; unfold k0_pay5; rw [shapeCast_self]; rfl

theorem payS_tv (g : Fin 3) (U V : VF F) (D : VF F) (r q : ℕ) (n : ∀ i j, i < 512 → D (r + i) j = FloatOps.mulf (FloatOps.addf (U (r + i) j) (V (q + i) j)) (FloatOps.logistic (FloatOps.addf (U (r + i) j) (V (q + i) j)))) :
    payS g (tv 512 g U r) (tv 512 g V q) = tv 512 g D r := by
  funext x
  unfold tv
  rw [n _ _ (x 0).isLt]
  match g with
  | 0 => show k0_pay28 _ _ x = _; unfold k0_pay28; rw [shapeCast_self]; rfl
  | 1 => show k0_pay29 _ _ x = _; unfold k0_pay29; rw [shapeCast_self]; rfl
  | 2 => show k0_pay30 _ _ x = _; unfold k0_pay30; rw [shapeCast_self]; rfl

theorem xT_read (xf : XB F) {r : ℕ} (h : r + 512 ≤ 8192) : (xT ![r, 0] (inb_atx h)).view.read (Elt F) xf = Sx xf r := by
  funext y
  have h0 : (y 0).val < 512 := (y 0).isLt
  show xf ((Rect.unit (s := S8192x1024) ![r, 0] ![512, 1024] (inb_atx h)).emb y) = _
  unfold Sx
  congr 1
  refine ix_ext (a := 8192) (b := 1024) ?_ ?_
  · rw [Rect.emb_apply]; show r + 1 * (y 0).val = (r + (y 0).val) % 8192; rw [Nat.mod_eq_of_lt (by omega)]; omega
  · rw [Rect.emb_apply]; show 0 + 1 * (y 1).val = (y 1).val; omega

/-! ## What the loops work with -/

/-- What a device owes, whatever it has waited for. -/
def Owe (c : Dev nD) (O : CellTallies nD τ sig Unit) : sProp 𝕄 := iprop(∃ W, owes (c : Thread nD τ) O W)

/-- A scratch tile at whatever contents. -/
def Scr (c : Dev nD) (b : Ref sig .tc) : sProp 𝕄 := iprop(∃ f : Buf (Elt F) ((c : Thread nD τ).loc b), ((c : Thread nD τ).loc b) ↦{fullShare} f)

/-- The on-chip tiles, the local semaphores at rest, the input block and the staged weights. -/
def Bench (c : Dev nD) (xf : XB F) (wf : WB F) : sProp 𝕄 :=
  iprop(Scr c cc0_scratch0 ∗ Scr c cc0_scratch1 ∗ Scr c cc0_scratch2 ∗ Scr c cc0_scratch3
    ∗ semVal ((c : Thread nD τ), .dma l0) 0 ∗ semVal ((c : Thread nD τ), .dma l1) 0
    ∗ (((c : Thread nD τ).loc main_arg0) ↦{fullShare} xf) ∗ (((c : Thread nD τ).loc cc0_stg0_0) ↦{fullShare} wf))

variable {L : GSem nD τ sig → Finset Unit} {lv : GSem nD τ sig → Unit → ℕ} {O : CellTallies nD τ sig Unit}

theorem hz : (![0, 0] : Fin 2 → Nat) = fun _ => 0 := funext fun a => by fin_cases a <;> rfl

/-- Part of a buffer is taken, and put back. -/
theorem pts_take {ℓ : Loc nD τ sig} (I : Finset (Idx ℓ)) {q : PosShare TreeShare} {f : Buf (Elt F) ℓ} :
    (ℓ ↦{q} f : sProp 𝕄) ⊢ iprop((ℓ ↦[I]{q} f) ∗ ℓ ↦[Finset.univ \ I]{q} f) := (pointsTo_split_subset (Finset.subset_univ I)).1
theorem pts_put {ℓ : Loc nD τ sig} (I : Finset (Idx ℓ)) {q : PosShare TreeShare} {f : Buf (Elt F) ℓ} :
    iprop((ℓ ↦[I]{q} f) ∗ ℓ ↦[Finset.univ \ I]{q} f) ⊢ (ℓ ↦{q} f : sProp 𝕄) := (pointsTo_split_subset (Finset.subset_univ I)).2

/-- One product tile leaves the tile of the partial product. -/
theorem wp_gemmTrip (c : Dev nD) (g : Fin 3) (xf : XB F) (wf : WB F) {r : ℕ} (h : r + 512 ≤ 8192) (hd : 512 ∣ r)
    (hm : ∀ s : DmaSem sig, s = l0 ∨ s = l1 → (levAts L lv : sProp 𝕄) ⊢ MayWait (c : Thread nD τ) (.dma s) () O) (K : PUnit → sProp 𝕄) :
    iprop(levAts L lv ∗ Bench c xf wf ∗ Owe c O ∗ Any oM c r 512 g)
      ⊢ iprop((iprop(Bench c xf wf ∗ Owe c O ∗ Reg oM c r 512 g fullShare (LV g xf wf)) -∗ K ⟨⟩)
          -∗ WP c (gemmTrip g (payG g) ![r, 0] (at_ g r) (inb_atx h) (inb_at g h)) K) := by
  unfold gemmTrip
  simp only [Prog.lift, Prog.bind_op, Prog.bind_ret, Prog.pure_eq_ret]
  unfold Bench Owe Scr
  iintro ⟨#Hlv, ⟨⟨%f0, H0⟩, ⟨%f1, H1⟩, H2, H3, Hl0, Hl1, Hx, Hw⟩, ⟨%W, HO⟩, Hr⟩ Hk
  ihave Hr := any_tile (inb_at g h) $$ Hr
  icases Hr with ⟨%fr, Hr⟩
  ihave Hx := (pts_take (xT ![r, 0] (inb_atx h)).view.set) $$ Hx
  icases Hx with ⟨Hx, Hx'⟩
  iapply (Transfers.wp_dmaLocal EC 𝒱₀ (c : Thread nD τ) none (src := xT ![r, 0] (inb_atx h)) (dst := vx) () _ rfl (View.dmaCredit_pos _ (by decide))
    (Finset.subset_univ _)) $$ [Hx H0 Hl0]
  · isplitl [Hx]; · iexact Hx
    isplitl [H0]; · iexact H0
    iexact Hl0
  iintro Hfl
  iapply (Transfers.wp_waitLocalO EC 𝒱₀ (c : Thread nD τ) none () rfl (O := O) (W := W)) $$ [Hfl HO]
  · isplitl [Hfl]; · iexact Hfl
    isplitl [HO]; · iexact HO
    iapply (hm l0 (.inl rfl)); iexact Hlv
  iintro ⟨⟨H0, Hx⟩, Hl0, HO⟩
  iapply (wp_load 𝒱₀ (c : Thread nD τ) none Set.univ (m := vx) (Finset.subset_univ _)) $$ H0; iintro H0
  iapply (wp_load 𝒱₀ (c : Thread nD τ) none Set.univ (m := wM) (Finset.subset_univ _)) $$ Hw; iintro Hw
  iapply (wp_load 𝒱₀ (c : Thread nD τ) none Set.univ (m := vg) (Finset.subset_univ _)) $$ H1; iintro H1
  iapply (wp_store 𝒱₀ (c : Thread nD τ) none Set.univ (m := vg) (r := vR g) (Mk := Finset.univ) (Finset.subset_univ _)) $$ H1; iintro H1
  ihave H1 := (pts_take (vT vg g).view.set) $$ H1
  icases H1 with ⟨H1, H1'⟩
  iapply (Transfers.wp_dmaLocal EC 𝒱₀ (c : Thread nD τ) none (src := vT vg g) (dst := tile oM (at_ g r) 512 (Wd g) (inb_at g h)) () _ rfl
    (View.dmaCredit_pos _ (numel_v g)) (Finset.Subset.refl _)) $$ [H1 Hr Hl1]
  · isplitl [H1]; · iexact H1
    isplitl [Hr]; · iexact Hr
    iexact Hl1
  iintro Hfl
  iapply (Transfers.wp_waitLocalO EC 𝒱₀ (c : Thread nD τ) none () rfl (O := O)) $$ [Hfl HO]
  · isplitl [Hfl]; · iexact Hfl
    isplitl [HO]; · iexact HO
    iapply (hm l1 (.inr rfl)); iexact Hlv
  iintro ⟨⟨Hr, H1⟩, Hl1, HO⟩
  ihave Hx := (pts_put (ℓ := (xT ![r, 0] (inb_atx h)).view.loc (c : Thread nD τ)) (xT ![r, 0] (inb_atx h)).view.set) $$ [Hx Hx']
  · isplitl [Hx] <;> iassumption
  ihave H1 := (pts_put (ℓ := (vT vg g).view.loc (c : Thread nD τ)) (vT vg g).view.set) $$ [H1 H1']
  · isplitl [H1] <;> iassumption
  rw [wp_ret]; imodintro
  iapply Hk
  isplitr [HO Hr]
  · isplitl [H0]; · iexists _; iexact H0
    isplitl [H1]; · iexists _; iexact H1
    isplitl [H2]; · iexact H2
    isplitl [H3]; · iexact H3
    isplitl [Hl0]; · iexact Hl0
    isplitl [Hl1]; · iexact Hl1
    isplitl [Hx]; · iexact Hx
    iexact Hw
  · isplitl [HO]; · iexists _; iexact HO
    iapply (tile_reg (inb_at g h) ?_) $$ Hr
    refine (View.read_write_univ _ _).trans ?_
    refine (View.read_write_univ (v := (vg : Memref sig .tc .vmem S512x1408 .f32).access (vR g)) _ _).trans ?_
    rw [← payG_tv g xf wf hd]
    congr 1
    refine (Memref.readAt_unit_zero (Elt F) cc0_scratch0 hz _ _).trans ?_
    refine (View.write_whole_univ _ _ _).trans ?_
    exact xT_read xf h

/-- One sum tile leaves the tile of the sum, and the landed tile as it was. -/
theorem wp_addTrip (c : Dev nD) (g : Fin 3) (pay : TV F g → TV F g → TV F g) (xf : XB F) (wf : WB F) {R : ℕ} (M : HM R) {r p : ℕ} (h : r + 512 ≤ 8192) (h' : p + 512 ≤ R)
    (U V D : VF F) (hp : pay (tv 512 g U r) (tv 512 g V p) = tv 512 g D r)
    (hm : ∀ s : DmaSem sig, s = l0 ∨ s = l1 → (levAts L lv : sProp 𝕄) ⊢ MayWait (c : Thread nD τ) (.dma s) () O) (K : PUnit → sProp 𝕄) :
    iprop(levAts L lv ∗ Bench c xf wf ∗ Owe c O ∗ Reg oM c r 512 g fullShare U ∗ Reg M c p 512 g fullShare V)
      ⊢ iprop((iprop(Bench c xf wf ∗ Owe c O ∗ Reg oM c r 512 g fullShare D ∗ Reg M c p 512 g fullShare V) -∗ K ⟨⟩)
          -∗ WP c (addTrip g pay M (at_ g r) (at_ g p) (inb_at g h) (inb_at g h')) K) := by
  unfold addTrip
  simp only [Prog.lift, Prog.bind_op, Prog.bind_ret, Prog.pure_eq_ret]
  unfold Bench Owe Scr
  iintro ⟨#Hlv, ⟨H0, H1, ⟨%f2, H2⟩, ⟨%f3, H3⟩, Hl0, Hl1, Hx, Hw⟩, ⟨%W, HO⟩, Hr, Hp⟩ Hk
  ihave Hr := reg_tile (inb_at g h) $$ Hr
  icases Hr with ⟨%fr, %hfr, Hr⟩
  ihave Hp := reg_tile (inb_at g h') $$ Hp
  icases Hp with ⟨%fp, %hfp, Hp⟩
  iapply (Transfers.wp_dmaLocal EC 𝒱₀ (c : Thread nD τ) none (src := tile oM (at_ g r) 512 (Wd g) (inb_at g h)) (dst := vT va g) () _ rfl (View.dmaCredit_pos _ (numel_v g))
    (Finset.subset_univ _)) $$ [Hr H2 Hl0]
  · isplitl [Hr]; · iexact Hr
    isplitl [H2]; · iexact H2
    iexact Hl0
  iintro Hf0
  iapply (Transfers.wp_dmaLocal EC 𝒱₀ (c : Thread nD τ) none (src := tile M (at_ g p) 512 (Wd g) (inb_at g h')) (dst := vT vb g) () _ rfl (View.dmaCredit_pos _ (numel_v g))
    (Finset.subset_univ _)) $$ [Hp H3 Hl1]
  · isplitl [Hp]; · iexact Hp
    isplitl [H3]; · iexact H3
    iexact Hl1
  iintro Hf1
  iapply (Transfers.wp_waitLocalO EC 𝒱₀ (c : Thread nD τ) none () rfl (O := O) (W := W)) $$ [Hf0 HO]
  · isplitl [Hf0]; · iexact Hf0
    isplitl [HO]; · iexact HO
    iapply (hm l0 (.inl rfl)); iexact Hlv
  iintro ⟨⟨H2, Hr⟩, Hl0, HO⟩
  iapply (Transfers.wp_waitLocalO EC 𝒱₀ (c : Thread nD τ) none () rfl (O := O)) $$ [Hf1 HO]
  · isplitl [Hf1]; · iexact Hf1
    isplitl [HO]; · iexact HO
    iapply (hm l1 (.inr rfl)); iexact Hlv
  iintro ⟨⟨H3, Hp⟩, Hl1, HO⟩
  iapply (wp_load 𝒱₀ (c : Thread nD τ) none Set.univ (m := va) (Finset.subset_univ _)) $$ H2; iintro H2
  iapply (wp_load 𝒱₀ (c : Thread nD τ) none Set.univ (m := vb) (Finset.subset_univ _)) $$ H3; iintro H3
  iapply (wp_load 𝒱₀ (c : Thread nD τ) none Set.univ (m := va) (Finset.subset_univ _)) $$ H2; iintro H2
  iapply (wp_store 𝒱₀ (c : Thread nD τ) none Set.univ (m := va) (r := vR g) (Mk := Finset.univ) (Finset.subset_univ _)) $$ H2; iintro H2
  ihave H2 := (pts_take (vT va g).view.set) $$ H2
  icases H2 with ⟨H2, H2'⟩
  iapply (Transfers.wp_dmaLocal EC 𝒱₀ (c : Thread nD τ) none (src := vT va g) (dst := tile oM (at_ g r) 512 (Wd g) (inb_at g h)) () _ rfl
    (View.dmaCredit_pos _ (numel_v g)) (Finset.Subset.refl _)) $$ [H2 Hr Hl0]
  · isplitl [H2]; · iexact H2
    isplitl [Hr]; · iexact Hr
    iexact Hl0
  iintro Hfl
  iapply (Transfers.wp_waitLocalO EC 𝒱₀ (c : Thread nD τ) none () rfl (O := O)) $$ [Hfl HO]
  · isplitl [Hfl]; · iexact Hfl
    isplitl [HO]; · iexact HO
    iapply (hm l0 (.inl rfl)); iexact Hlv
  iintro ⟨⟨Hr, H2⟩, Hl0, HO⟩
  ihave H2 := (pts_put (ℓ := (vT va g).view.loc (c : Thread nD τ)) (vT va g).view.set) $$ [H2 H2']
  · isplitl [H2] <;> iassumption
  rw [wp_ret]; imodintro
  iapply Hk
  isplitr [HO Hr Hp]
  · isplitl [H0]; · iexact H0
    isplitl [H1]; · iexact H1
    isplitl [H2]; · iexists _; iexact H2
    isplitl [H3]; · iexists _; iexact H3
    isplitl [Hl0]; · iexact Hl0
    isplitl [Hl1]; · iexact Hl1
    isplitl [Hx]; · iexact Hx
    iexact Hw
  · isplitl [HO]; · iexists _; iexact HO
    isplitl [Hr]
    · iapply (tile_reg (inb_at g h) ?_) $$ Hr
      refine (View.read_write_univ _ _).trans ?_
      refine (View.read_write_univ (v := (va : Memref sig .tc .vmem S512x1408 .f32).access (vR g)) _ _).trans ?_
      rw [← hp, ← hfr, ← hfp]
      congr 1
      · exact View.read_write_univ (v := (vT va g).view) _ _
      · exact View.read_write_univ (v := (vT vb g).view) _ _
    · iapply (tile_reg (inb_at g h') hfp) $$ Hp

/-- No rows hold any values. -/
theorem any_zero {R : ℕ} {M : HM R} {c : Dev nD} {r n : ℕ} {g : Fin 3} {V : VF F} :
    (Any M c r n g : sProp 𝕄) ⊢ iprop(Reg M c r (512 * 0) g fullShare V ∗ Any M c (r + 512 * 0) (n - 512 * 0) g) := by
  rw [Nat.mul_zero, Nat.add_zero, Nat.sub_zero]
  iintro H
  ihave H := (any_split (n := 0) (m := n)) $$ [H]
  · rw [Nat.zero_add]; iexact H
  icases H with ⟨H0, H⟩
  isplitl [H0]
  · unfold Any Reg; icases H0 with ⟨%f, H0⟩; iexists f
    isplitr
    · ipureintro; intro x hx; have := mem_RS.mp hx; omega
    · iexact H0
  · iexact H

/-- and are no part of the rest. -/
theorem reg_zero {R : ℕ} {M : HM R} {c : Dev nD} {r n : ℕ} {g : Fin 3} {q : PosShare TreeShare} {V V' : VF F} :
    (Reg M c r n g q V : sProp 𝕄) ⊢ iprop(Reg M c r (512 * 0) g q V' ∗ Reg M c (r + 512 * 0) (n - 512 * 0) g q V) := by
  rw [Nat.mul_zero, Nat.add_zero, Nat.sub_zero]
  iintro H
  ihave H := (reg_split (n := 0) (m := n)) $$ [H]
  · rw [Nat.zero_add]; iexact H
  icases H with ⟨H0, H⟩
  isplitl [H0]
  · iapply (reg_congr (n := 0) (V := V) (fun i j h1 h2 _ _ => by omega)) $$ H0
  · iexact H

/-- The product tiles of a loop leave the rows of the partial product. -/
theorem wp_gemmC (c : Dev nD) (g : Fin 3) (xf : XB F) (wf : WB F) (Lp : Scf.Loop 32) (hL : Lp.OK) {r n : ℕ} (h : r + 512 * Lp.trips ≤ 8192) (hd : 512 ∣ r)
    (hn : 512 * Lp.trips = n)
    (hm : ∀ s : DmaSem sig, s = l0 ∨ s = l1 → (levAts L lv : sProp 𝕄) ⊢ MayWait (c : Thread nD τ) (.dma s) () O) (K : PUnit → sProp 𝕄) :
    iprop(levAts L lv ∗ Bench c xf wf ∗ Owe c O ∗ Any oM c r n g)
      ⊢ iprop((iprop(Bench c xf wf ∗ Owe c O ∗ Reg oM c r n g fullShare (LV g xf wf)) -∗ K ⟨⟩)
          -∗ WP c (gemmC g Lp hL r h) K) := by
  subst hn
  unfold gemmC gemmLoop Scf.Loop.for
  iintro ⟨#Hlv, Hb, HO, Hr⟩ Hk
  ihave Hr := any_zero (V := LV g xf wf) $$ Hr
  icases Hr with ⟨Hz, Hr⟩
  iapply (Scf.wp_for frame (wpE (defs₀ (F := F)) 𝒱₀ (c : Thread nD τ) none) Set.univ _ _ _ hL _ _
    (I := fun t _ => iprop(levAts L lv ∗ Bench c xf wf ∗ Owe c O ∗ Reg oM c r (512 * t) g fullShare (LV g xf wf)
      ∗ Any oM c (r + 512 * t) (512 * Lp.trips - 512 * t) g)) ?_)
  · intro t acc
    have ht : t.val < Lp.trips := t.isLt
    iintro ⟨#Hlv, Hb, HO, Hd, Hr⟩
    rw [show 512 * Lp.trips - 512 * t.val = 512 + (512 * Lp.trips - 512 * (t.val + 1)) by omega]
    ihave Hr := any_split $$ Hr
    icases Hr with ⟨Hr, Hr'⟩
    iapply (wp_gemmTrip c g xf wf (show r + 512 * t.val + 512 ≤ 8192 by omega) (hd.add ⟨t.val, rfl⟩) hm) $$ [Hb HO Hr]
    · isplitr; · iexact Hlv
      isplitl [Hb]; · iexact Hb
      isplitl [HO]; · iexact HO
      iexact Hr
    iintro ⟨Hb, HO, Hr⟩
    isplitr; · iexact Hlv
    isplitl [Hb]; · iexact Hb
    isplitl [HO]; · iexact HO
    rw [show 512 * (t.val + 1) = 512 * t.val + 512 by omega, ← Nat.add_assoc r]
    isplitr [Hr']
    · iapply reg_join
      isplitl [Hd] <;> iassumption
    · iexact Hr'
  · isplitr [Hk]
    · isplitr; · iexact Hlv
      isplitl [Hb]; · iexact Hb
      isplitl [HO]; · iexact HO
      isplitl [Hz] <;> iassumption
    · iintro %acc ⟨-, Hb, HO, Hr, -⟩
      iapply Hk
      isplitl [Hb]; · iexact Hb
      isplitl [HO]; · iexact HO
      iexact Hr

/-- The sum tiles of a loop leave the rows of the sum, and the landed rows as they were. -/
theorem wp_addC (c : Dev nD) (g : Fin 3) (xf : XB F) (wf : WB F) {R : ℕ} (M : HM R) (Lp : Scf.Loop 32) (hL : Lp.OK) {r p n : ℕ} (h : r + 512 * Lp.trips ≤ 8192)
    (h' : p + 512 * Lp.trips ≤ R) (hn : 512 * Lp.trips = n) (U V D : VF F)
    (hD : ∀ i j, i < n → D (r + i) j = FloatOps.addf (U (r + i) j) (V (p + i) j))
    (hm : ∀ s : DmaSem sig, s = l0 ∨ s = l1 → (levAts L lv : sProp 𝕄) ⊢ MayWait (c : Thread nD τ) (.dma s) () O) (K : PUnit → sProp 𝕄) :
    iprop(levAts L lv ∗ Bench c xf wf ∗ Owe c O ∗ Reg oM c r n g fullShare U ∗ Reg M c p n g fullShare V)
      ⊢ iprop((iprop(Bench c xf wf ∗ Owe c O ∗ Reg oM c r n g fullShare D ∗ Reg M c p n g fullShare V) -∗ K ⟨⟩)
          -∗ WP c (addC g M Lp hL r p h h') K) := by
  subst hn
  unfold addC addLoop Scf.Loop.for
  iintro ⟨#Hlv, Hb, HO, Hr, Hp⟩ Hk
  ihave Hr := reg_zero (V' := D) $$ Hr
  icases Hr with ⟨Hz, Hr⟩
  ihave Hp := reg_zero (V' := V) $$ Hp
  icases Hp with ⟨Hy, Hp⟩
  iapply (Scf.wp_for frame (wpE (defs₀ (F := F)) 𝒱₀ (c : Thread nD τ) none) Set.univ _ _ _ hL _ _
    (I := fun t _ => iprop(levAts L lv ∗ Bench c xf wf ∗ Owe c O
      ∗ Reg oM c r (512 * t) g fullShare D ∗ Reg oM c (r + 512 * t) (512 * Lp.trips - 512 * t) g fullShare U
      ∗ Reg M c p (512 * t) g fullShare V ∗ Reg M c (p + 512 * t) (512 * Lp.trips - 512 * t) g fullShare V)) ?_)
  · intro t acc
    have ht : t.val < Lp.trips := t.isLt
    iintro ⟨#Hlv, Hb, HO, Hd, Hr, Hd', Hp⟩
    rw [show 512 * Lp.trips - 512 * t.val = 512 + (512 * Lp.trips - 512 * (t.val + 1)) by omega]
    ihave Hr := reg_split $$ Hr
    icases Hr with ⟨Hr, Hr'⟩
    ihave Hp := reg_split $$ Hp
    icases Hp with ⟨Hp, Hp'⟩
    iapply (wp_addTrip c g (payA g) xf wf M (show r + 512 * t.val + 512 ≤ 8192 by omega) (show p + 512 * t.val + 512 ≤ R by omega) U V D
      (payA_tv g U V D _ _ fun i j hi => by
        have e := hD (512 * t.val + i) j (by omega)
        rw [← Nat.add_assoc, ← Nat.add_assoc] at e; exact e) hm) $$ [Hb HO Hr Hp]
    · isplitr; · iexact Hlv
      isplitl [Hb]; · iexact Hb
      isplitl [HO]; · iexact HO
      isplitl [Hr] <;> iassumption
    iintro ⟨Hb, HO, Hr, Hp⟩
    isplitr; · iexact Hlv
    isplitl [Hb]; · iexact Hb
    isplitl [HO]; · iexact HO
    rw [show 512 * (t.val + 1) = 512 * t.val + 512 by omega, ← Nat.add_assoc r, ← Nat.add_assoc p]
    isplitl [Hd Hr]
    · iapply reg_join
      isplitl [Hd] <;> iassumption
    isplitl [Hr']; · iexact Hr'
    isplitl [Hd' Hp]
    · iapply reg_join
      isplitl [Hd'] <;> iassumption
    · iexact Hp'
  · isplitr [Hk]
    · isplitr; · iexact Hlv
      isplitl [Hb]; · iexact Hb
      isplitl [HO]; · iexact HO
      isplitl [Hz]; · iexact Hz
      isplitl [Hr]; · iexact Hr
      isplitl [Hy] <;> iassumption
    · iintro %acc ⟨-, Hb, HO, Hr, -, Hp, -⟩
      iapply Hk
      isplitl [Hb]; · iexact Hb
      isplitl [HO]; · iexact HO
      isplitl [Hr] <;> iassumption

end Cert.KernelIdeal.Pf

end
-- ==== Proof.Proto.lean ====
/-
# The protocol

The kernel's transfers by column group and stage: whom each goes to, how many rows it moves, what it hands to the
receiver and what it hands back. Each semaphore has one round. The opening handshake hands a device the landing buffers
of its three partners; a transfer of the reduction hands the receiver the landed rows and the rows it was sent from, where
the receiver will later write the result; a transfer of the gathering hands the receiver rows of the result.
-/
module

public import proofs.«01_k».proof.Proof.Local

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Stages -/

/-- Which of its three axes a stage crosses. -/
abbrev turn (k : Fin 13) : Fin 3 := match k with
  | 0 => 0 | 1 => 0 | 2 => 1 | 3 => 1 | 4 => 2 | 5 => 2 | 6 => 2 | 7 => 2 | 8 => 1 | 9 => 1 | 10 => 0 | 11 => 0 | 12 => 0
/-- Whom it goes to. -/
abbrev peer (g : Fin 3) (k : Fin 13) (c : Dev nD) : Dev nD := par (ax g (turn k)) c
theorem peer_peer (g : Fin 3) (k : Fin 13) (c : Dev nD) : peer g k (peer g k c) = c := par_par _ _
/-- How many rows it moves. -/
abbrev rows (k : Fin 13) : ℕ := match k with
  | 0 => 2048 | 1 => 2048 | 2 => 1024 | 3 => 1024 | 4 => 512 | 5 => 512 | 6 => 512 | 7 => 512 | 8 => 1024 | 9 => 1024 | 10 => 1024 | 11 => 1024 | 12 => 2048
/-- Its place in the order of a device's transfers. -/
abbrev pos (g : Fin 3) (k : Fin 13) : ℕ := match k with
  | 0 => g.val | 1 => 3 + g.val | 2 => 6 + 2 * g.val | 3 => 7 + 2 * g.val | 4 => 12 + 2 * g.val | 5 => 13 + 2 * g.val | 6 => 18 + g.val
  | 7 => 21 + 3 * g.val | 8 => 22 + 3 * g.val | 9 => 30 + 2 * g.val | 10 => 23 + 3 * g.val | 11 => 31 + 2 * g.val | 12 => 36 + g.val
theorem pos_inj : ∀ x y : Fin 3 × Fin 13, pos x.1 x.2 = pos y.1 y.2 → x = y := by decide +kernel

/-- The credit of `n` rows, of a stage's. -/
def NN (g : Fin 3) (n : ℕ) : ℕ := (main_v1_0 : Ref sig .tc).dmaCredit ⟨2, ![n, Wd g]⟩ .f32
abbrev Ncr (g : Fin 3) (k : Fin 13) : ℕ := NN g (rows k)
theorem Ncr_pos (g : Fin 3) (k : Fin 13) : 0 < Ncr g k :=
  sig.dmaCredit_pos _ _ _ _ _ (by revert g k; decide +kernel)

/-! ## Cells -/

/-- The kernel's semaphores other than the local two: the barrier's, then each stage's send and receive semaphores. -/
abbrev KC : Type := Option (Bool × Fin 3 × Fin 13)
def csem : KC → SemLoc sig
  | none => .reg barS
  | some (false, g, k) => .dma (ssem g k)
  | some (true, g, k) => .dma (rsem g k)
theorem csem_inj : ∀ x y : KC, csem x = csem y → x = y := by decide +kernel
theorem csem_l0 : ∀ x : KC, csem x ≠ .dma l0 := by decide +kernel
theorem csem_l1 : ∀ x : KC, csem x ≠ .dma l1 := by decide +kernel

abbrev kcell (ck : Dev nD × KC) : GSem nD τ sig := ((ck.1 : Thread nD τ), csem ck.2)
abbrev bcell (c : Dev nD) : GSem nD τ sig := kcell (c, none)
abbrev scell (c : Dev nD) (g : Fin 3) (k : Fin 13) : GSem nD τ sig := kcell (c, some (false, g, k))
abbrev rcell (c : Dev nD) (g : Fin 3) (k : Fin 13) : GSem nD τ sig := kcell (c, some (true, g, k))

theorem kcell_injective : Function.Injective kcell := by
  rintro ⟨c, k⟩ ⟨c', k'⟩ h
  have h1 : c = c' := congrArg (fun g : GSem nD τ sig => g.1.1) h
  subst h1
  rw [csem_inj k k' (congrArg Prod.snd h)]

open Classical in
/-- Which of them a semaphore is. -/
def kof (sm : SemLoc sig) : Option KC := if h : ∃ k, csem k = sm then some h.choose else none
theorem kof_csem (k : KC) : kof (csem k) = some k := by
  have h : ∃ k', csem k' = csem k := ⟨k, rfl⟩
  unfold kof; rw [dif_pos h]; exact congrArg some (csem_inj _ _ h.choose_spec)
theorem kof_none {sm : SemLoc sig} (h : ∀ k, csem k ≠ sm) : kof sm = none := by
  unfold kof; exact dif_neg fun ⟨k, hk⟩ => h k hk

/-! ## Values -/

section Values

variable (X : Dev nD → XB F) (Wt : Dev nD → WB F)

def Q0 (g : Fin 3) (c : Dev nD) : VF F := LV g (X c) (Wt c)
def Q1 (g : Fin 3) (c : Dev nD) : VF F := addV (Q0 X Wt g c) (Q0 X Wt g (p1 g c))
def Q2 (g : Fin 3) (c : Dev nD) : VF F := addV (Q1 X Wt g c) (Q1 X Wt g (p2 g c))
def Q3 (g : Fin 3) (c : Dev nD) : VF F := siluV (Q2 X Wt g c) (Q2 X Wt g (p3 g c))

/-- What lands, by the landing buffers' own rows. -/
def R1V (g : Fin 3) (c : Dev nD) : VF F := fun i j => Q0 X Wt g (p1 g c) (k1 g c + i) j
def R2V (g : Fin 3) (c : Dev nD) : VF F := fun i j => Q1 X Wt g (p2 g c) (k2 g c + i) j
def R3V (g : Fin 3) (c : Dev nD) : VF F := fun i j => Q2 X Wt g (p3 g c) (k3 g c + i) j

open Classical in
/-- The device whose sum a row of the result is. -/
def own (g : Fin 3) (i : ℕ) : Dev nD := if h : ∃ c, k3 g c = 1024 * (i / 1024) then h.choose else 0
theorem k3_inj : ∀ (g : Fin 3) (c d : Dev nD), k3 g c = k3 g d → c = d := by decide
theorem k3_dvd (g : Fin 3) (c : Dev nD) : k3 g c = 1024 * (k3 g c / 1024) := by revert g c; decide
theorem own_eq (g : Fin 3) (c : Dev nD) {i : ℕ} (hi : i < 1024) : own g (k3 g c + i) = c := by
  have e : k3 g c = 1024 * ((k3 g c + i) / 1024) := by have := k3_dvd g c; omega
  have h : ∃ d, k3 g d = 1024 * ((k3 g c + i) / 1024) := ⟨c, e⟩
  unfold own; rw [dif_pos h]; exact k3_inj g _ _ (h.choose_spec.trans e.symm)

/-- The result. -/
def FIN (g : Fin 3) : VF F := fun i j => Q3 X Wt g (own g i) i j

/-! ## What is handed over -/

/-- A device's landing buffer of a turn, one group's columns. -/
def land (i : Fin 3) (c : Dev nD) (g : Fin 3) : sProp 𝕄 := match i with
  | 0 => Any r1M c 0 4096 g
  | 1 => Any r2M c 0 2048 g
  | 2 => Any r3M c 0 1024 g
/-- The turn in which a group crosses an axis. -/
abbrev trn (g a : Fin 3) : Fin 3 := ⟨(a.val + g.val) % 3, Nat.mod_lt _ (by decide)⟩
def bPay (a : Fin 3) (c : Dev nD) : sProp 𝕄 :=
  iprop(land (trn 0 a) (par a c) 0 ∗ land (trn 1 a) (par a c) 1 ∗ land (trn 2 a) (par a c) 2)

def rPay (g : Fin 3) (k : Fin 13) (d : Dev nD) : sProp 𝕄 := match k with
  | 0 => iprop(Reg r1M d (2048 * (1 - b2 g d)) 2048 g fullShare (R1V X Wt g d) ∗ Any oM (p1 g d) (k1 g d + 2048 * (1 - b2 g d)) 2048 g)
  | 1 => iprop(Reg r1M d (2048 * b2 g d) 2048 g fullShare (R1V X Wt g d) ∗ Any oM (p1 g d) (k1 g d + 2048 * b2 g d) 2048 g)
  | 2 => iprop(Reg r2M d (1024 * (1 - b3 g d)) 1024 g fullShare (R2V X Wt g d) ∗ Any oM (p2 g d) (k2 g d + 1024 * (1 - b3 g d)) 1024 g)
  | 3 => iprop(Reg r2M d (1024 * b3 g d) 1024 g fullShare (R2V X Wt g d) ∗ Any oM (p2 g d) (k2 g d + 1024 * b3 g d) 1024 g)
  | 4 => iprop(Reg r3M d 0 512 g fullShare (R3V X Wt g d) ∗ Any oM (p3 g d) (k3 g d) 512 g)
  | 5 => iprop(Reg r3M d 512 512 g fullShare (R3V X Wt g d) ∗ Any oM (p3 g d) (k3 g d + 512) 512 g)
  | 6 => Reg oM d (s3 g d) 512 g fullShare (FIN X Wt g)
  | 7 => Reg oM d (s3 g d + 512) 512 g fullShare (FIN X Wt g)
  | 8 => Reg oM d (s2 g d + 1024 * b3 g d) 1024 g fullShare (FIN X Wt g)
  | 9 => Reg oM d (s2 g d + 1024 * (1 - b3 g d)) 1024 g fullShare (FIN X Wt g)
  | 10 => Reg oM d (s1 g d + 2048 * b2 g d + 1024 * b3 g d) 1024 g fullShare (FIN X Wt g)
  | 11 => Reg oM d (s1 g d + 2048 * b2 g d + 1024 * (1 - b3 g d)) 1024 g fullShare (FIN X Wt g)
  | 12 => Reg oM d (s1 g d + 2048 * (1 - b2 g d)) 2048 g fullShare (FIN X Wt g)

def sPay (g : Fin 3) (k : Fin 13) (c : Dev nD) : sProp 𝕄 := match k with
  | 6 => Reg oM c (k3 g c) 512 g fullShare.left (FIN X Wt g)
  | 7 => Reg oM c (k3 g c + 512) 512 g fullShare.left (FIN X Wt g)
  | 8 => Reg oM c (k3 g c) 1024 g fullShare.right.left (FIN X Wt g)
  | 9 => Reg oM c (s3 g c) 1024 g fullShare.left (FIN X Wt g)
  | 10 => Reg oM c (k3 g c) 1024 g fullShare.right.right (FIN X Wt g)
  | 11 => Reg oM c (s3 g c) 1024 g fullShare.right (FIN X Wt g)
  | 12 => Reg oM c (s2 g c) 2048 g fullShare (FIN X Wt g)
  | _ => iprop(emp)

instance Reg_storable {R : ℕ} (M : HM R) (c : Dev nD) (r n : ℕ) (g : Fin 3) (q) (V : VF F) : BI.Storable (upEmb : UEmb _ 𝕄) (Reg M c r n g q V) := by
  unfold Reg; infer_instance
instance Any_storable {R : ℕ} (M : HM R) (c : Dev nD) (r n : ℕ) (g : Fin 3) : BI.Storable (upEmb : UEmb _ 𝕄) (Any (F := F) M c r n g) := by
  unfold Any; infer_instance
instance land_storable (i : Fin 3) (c : Dev nD) (g : Fin 3) : BI.Storable (upEmb : UEmb _ 𝕄) (land (F := F) i c g) := by
  unfold land; split <;> infer_instance
instance bPay_storable (a : Fin 3) (c : Dev nD) : BI.Storable (upEmb : UEmb _ 𝕄) (bPay (F := F) a c) := by
  unfold bPay; infer_instance
instance rPay_storable (g : Fin 3) (k : Fin 13) (c : Dev nD) : BI.Storable (upEmb : UEmb _ 𝕄) (rPay X Wt g k c) := by
  unfold rPay; split <;> infer_instance
instance sPay_storable (g : Fin 3) (k : Fin 13) (c : Dev nD) : BI.Storable (upEmb : UEmb _ 𝕄) (sPay X Wt g k c) := by
  unfold sPay; split <;> infer_instance

/-! ## The schedule -/

def dutiesOf : Option KC → Finset (Fin 3)
  | some none => Finset.univ
  | some (some _) => {0}
  | none => ∅
def amtOf : Option KC → ℕ
  | some (some (_, g, k)) => Ncr g k
  | _ => 1
def payOf (c : Dev nD) (d : Fin 3) : Option KC → sProp 𝕄
  | some none => bPay d c
  | some (some (false, g, k)) => sPay X Wt g k c
  | some (some (true, g, k)) => rPay X Wt g k c
  | none => iprop(emp)

def Rd : Rounds.Schedule (GSem nD τ sig) (Fin 3) 𝕄 where
  duties g r := if r = 0 ∧ g.1.2 = .tc then dutiesOf (kof g.2) else ∅
  unitless _ := False
  amount g _ _ := amtOf (kof g.2)
  payload g _ d := payOf X Wt g.1.1 d (kof g.2)
  amount_pos g _ _ _ := by
    unfold amtOf; split
    · exact Ncr_pos _ _
    · exact Nat.one_pos

instance Rd_payload_storable (g : GSem nD τ sig) (r : ℕ) (d : Fin 3) : BI.Storable (upEmb : UEmb _ 𝕄) ((Rd X Wt).payload g r d) := by
  show BI.Storable upEmb (payOf X Wt g.1.1 d (kof g.2))
  unfold payOf; split <;> infer_instance

theorem duties_k (c : Dev nD) (x : KC) : (Rd X Wt).duties (kcell (c, x)) 0 = dutiesOf (some x) := by
  dsimp only [Rd]; rw [kof_csem]; exact if_pos ⟨rfl, rfl⟩
theorem amount_k (c : Dev nD) (x : KC) (d : Fin 3) : (Rd X Wt).amount (kcell (c, x)) 0 d = amtOf (some x) := by
  show amtOf (kof (csem x)) = _
  rw [kof_csem]
theorem payload_k (c : Dev nD) (x : KC) (d : Fin 3) : (Rd X Wt).payload (kcell (c, x)) 0 d = payOf X Wt c d (some x) := by
  show payOf X Wt c d (kof (csem x)) = _
  rw [kof_csem]
theorem duties_later (g : GSem nD τ sig) : ∀ r, 1 ≤ r → (Rd X Wt).duties g r = ∅ :=
  fun r hr => by dsimp only [Rd]; rw [if_neg fun h => by omega]

theorem expect_bar (c : Dev nD) : (Rd X Wt).expect (bcell c) 0 = 3 := by
  unfold Schedule.expect Schedule.amountOf
  rw [duties_k, Finset.sum_congr rfl fun d _ => amount_k X Wt c none d]; rfl
theorem expect_dma (c : Dev nD) (b : Bool) (g : Fin 3) (k : Fin 13) : (Rd X Wt).expect (kcell (c, some (b, g, k))) 0 = Ncr g k := by
  unfold Schedule.expect Schedule.amountOf
  rw [duties_k, Finset.sum_congr rfl fun d _ => amount_k X Wt c _ d]; exact Finset.sum_singleton _ _

theorem rest_bar (c : Dev nD) : bigSep ((Rd X Wt).duties (bcell c) 0 \ ∅) (fun d => (Rd X Wt).payload (bcell c) 0 d) = iprop(bPay 0 c ∗ bPay 1 c ∗ bPay 2 c) := by
  rw [Finset.sdiff_empty, duties_k, bigSep_congr fun d _ => payload_k X Wt c none d]
  exact bigSep_univ_eq_bigSepL [0, 1, 2] (by decide) (by decide) _
theorem rest_dma (c : Dev nD) (x) : bigSep ((Rd X Wt).duties (kcell (c, some x)) 0 \ ∅) (fun d => (Rd X Wt).payload (kcell (c, some x)) 0 d) = payOf X Wt c 0 (some (some x)) := by
  rw [Finset.sdiff_empty, duties_k, bigSep_congr fun d _ => payload_k X Wt c (some x) d]
  exact bigSep_singleton

end Values

/-! ## What is owed, and the levels -/

/-- What a device owes from its `q`-th transfer on: their credits to their receivers. -/
def owed (c : Dev nD) (q : ℕ) : CellTallies nD τ sig Unit :=
  ∑ x ∈ Finset.univ.filter (fun x : Fin 3 × Fin 13 => q ≤ pos x.1 x.2), tallyAt (rcell (peer x.1 x.2 c) x.1 x.2) () (Ncr x.1 x.2)

theorem owed_step (c : Dev nD) (g : Fin 3) (k : Fin 13) :
    owed c (pos g k) = owed c (pos g k + 1) + tallyAt (rcell (peer g k c) g k) () (Ncr g k) := by
  unfold owed
  have e : (Finset.univ.filter fun x : Fin 3 × Fin 13 => pos g k ≤ pos x.1 x.2)
      = insert (g, k) (Finset.univ.filter fun x : Fin 3 × Fin 13 => pos g k + 1 ≤ pos x.1 x.2) := by
    ext x
    rw [Finset.mem_insert, Finset.mem_filter, Finset.mem_filter]
    constructor
    · rintro ⟨-, h⟩
      rcases Nat.eq_or_lt_of_le h with h | h
      · exact .inl (pos_inj x (g, k) h.symm)
      · exact .inr ⟨Finset.mem_univ _, h⟩
    · rintro (rfl | ⟨-, h⟩)
      · exact ⟨Finset.mem_univ _, Nat.le_refl _⟩
      · exact ⟨Finset.mem_univ _, Nat.le_of_succ_le h⟩
  rw [e, Finset.sum_insert (by rw [Finset.mem_filter]; rintro ⟨-, h⟩; exact absurd h (Nat.not_succ_le_self _)), add_comm]

theorem owed_pos {c : Dev nD} {q : ℕ} {g' : GSem nD τ sig} {u : Unit} (h : 0 < owed c q g' u) :
    ∃ x : Fin 3 × Fin 13, q ≤ pos x.1 x.2 ∧ g' = rcell (peer x.1 x.2 c) x.1 x.2 := by
  unfold owed at h
  rw [Finset.sum_apply, Finsupp.finset_sum_apply] at h
  obtain ⟨x, hx, hx'⟩ := Finset.exists_ne_zero_of_sum_ne_zero (Nat.pos_iff_ne_zero.mp h)
  refine ⟨x, (Finset.mem_filter.mp hx).2, ?_⟩
  rw [tallyAt_apply] at hx'
  by_contra hn
  exact hx' (if_neg fun h' => hn h'.1)

/-- All of it, the handshake's signals too. -/
def O₀ (c : Dev nD) : CellTallies nD τ sig Unit :=
  owed c 0 + tallyAt (bcell (par 0 c)) () 1 + tallyAt (bcell (par 1 c)) () 1 + tallyAt (bcell (par 2 c)) () 1

def Lv (g : GSem nD τ sig) : Finset Unit := if g.1.2 = .tc then {()} else ∅
def lvOf : Option KC → ℕ
  | some none => 1
  | some (some (true, g, k)) => pos g k + 2
  | _ => 0
def lev (g : GSem nD τ sig) (_ : Unit) : ℕ := lvOf (kof g.2)
theorem Lv_of_ne (g : GSem nD τ sig) (h : g.1.2 ≠ .tc) : Lv g = ∅ := if_neg h
theorem Lv_tc (c : Dev nD) (sm : SemLoc sig) : Lv ((c : Thread nD τ), sm) = {()} := if_pos rfl
theorem lev_k (c : Dev nD) (x : KC) (u : Unit) : lev (kcell (c, x)) u = lvOf (some x) := by
  show lvOf (kof (csem x)) = _; rw [kof_csem]

/-- A semaphore whose level is below those of the transfers to come may be waited for. -/
theorem mayWait (c : Dev nD) (sm : SemLoc sig) (q : ℕ) (h : lvOf (kof sm) < q + 2) :
    (levAts Lv lev : sProp 𝕄) ⊢ MayWait (c : Thread nD τ) sm () (owed c q) := by
  refine MayOwe.of_cut (L := Lv) (lev := lev) (lvOf (kof sm)) (fun p hp => by rw [Finset.mem_singleton.mp hp, Lv_tc]; exact Finset.mem_singleton_self _)
    (fun g u hg => ?_) (fun p hp => by rw [Finset.mem_singleton.mp hp]; exact Nat.le_refl _) (fun g u hg => ?_)
  · obtain ⟨x, -, rfl⟩ := owed_pos hg
    rw [Lv_tc]; exact Finset.mem_singleton_self _
  · obtain ⟨x, hx, rfl⟩ := owed_pos hg
    rw [lev_k]; exact Nat.lt_of_lt_of_le h (Nat.add_le_add_right hx 2)

theorem mayWait_local (c : Dev nD) (q : ℕ) (s : DmaSem sig) (h : s = l0 ∨ s = l1) :
    (levAts Lv lev : sProp 𝕄) ⊢ MayWait (c : Thread nD τ) (.dma s) () (owed c q) := by
  refine mayWait c _ q ?_
  rcases h with rfl | rfl
  · rw [kof_none csem_l0]; exact Nat.succ_pos _
  · rw [kof_none csem_l1]; exact Nat.succ_pos _

end Cert.KernelIdeal.Pf

end
-- ==== Proof.Steps.lean ====
/-
# A transfer and its waits

What a send and the pair of waits of a stage do to the rows, the credits and what is owed; and the opening handshake.
-/
module

public import proofs.«01_k».proof.Proof.Proto

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XB F) (Wt : Dev nD → WB F) (κ : Dev nD × KC → ℕ)

/-- Every cell's invariant, and that its round 0 is reached. -/
def Rec : sProp 𝕄 :=
  iprop(bigSep Finset.univ (fun ck : Dev nD × KC => cellInv ER (Rd X Wt) (κ ck) (kcell ck))
    ∗ bigSep Finset.univ (fun ck : Dev nD × KC => reached ER (kcell ck) 0))

instance Rec_persistent : BI.Persistent (Rec X Wt κ) := by unfold Rec; infer_instance

theorem rec_inv (ck : Dev nD × KC) : Rec X Wt κ ⊢ cellInv ER (Rd X Wt) (κ ck) (kcell ck) := by
  have h : (bigSep Finset.univ (fun ck : Dev nD × KC => cellInv ER (Rd X Wt) (κ ck) (kcell ck)) : sProp 𝕄) ⊢ cellInv ER (Rd X Wt) (κ ck) (kcell ck) :=
    bigSep_elim (Finset.mem_univ ck)
  unfold Rec; iintro ⟨H, -⟩; iapply h $$ H
theorem rec_reached (ck : Dev nD × KC) : Rec X Wt κ ⊢ (reached ER (kcell ck) 0 : sProp 𝕄) := by
  have h : (bigSep Finset.univ (fun ck : Dev nD × KC => reached ER (kcell ck) 0) : sProp 𝕄) ⊢ reached ER (kcell ck) 0 := bigSep_elim (Finset.mem_univ ck)
  unfold Rec; iintro ⟨-, H⟩; iapply h $$ H

/-- A stage not yet sent: the tickets of both its cells' duties, the own cells' positions, the receive cell's credit. -/
def Fresh (g : Fin 3) (k : Fin 13) (c : Dev nD) : sProp 𝕄 :=
  iprop(dutyTok ER (scell c g k) 0 0 ∗ dutyTok ER (rcell (peer g k c) g k) 0 0
    ∗ atPos ER (scell c g k) 0 ∅ 0 ∗ atPos ER (rcell c g k) 0 ∅ 0 ∗ cred (tallyAt (rcell c g k) () (Ncr g k)))
/-- Sent and not waited for. -/
def Sent (g : Fin 3) (k : Fin 13) (c : Dev nD) : sProp 𝕄 :=
  iprop(cred (tallyAt (scell c g k) () (Ncr g k))
    ∗ atPos ER (scell c g k) 0 ∅ 0 ∗ atPos ER (rcell c g k) 0 ∅ 0 ∗ cred (tallyAt (rcell c g k) () (Ncr g k)))
/-- Waited for. -/
def Done (g : Fin 3) (k : Fin 13) (c : Dev nD) : sProp 𝕄 :=
  iprop(atPos ER (scell c g k) 1 ∅ 0 ∗ atPos ER (rcell c g k) 1 ∅ 0)

theorem mem_dma (c : Dev nD) (x) : (0 : Fin 3) ∈ (Rd X Wt).duties (kcell (c, some x)) 0 := by
  rw [duties_k]; exact Finset.mem_singleton_self _

/-! The schedule at the cells as the kernel names them. -/

theorem mem_bar (c : Dev nD) (d : Fin 3) : d ∈ (Rd X Wt).duties ((c : Thread nD τ), SemLoc.reg barS) 0 := by
  have e : (Rd X Wt).duties ((c : Thread nD τ), SemLoc.reg barS) 0 = _ := duties_k X Wt c none
  rw [e]; exact Finset.mem_univ _
theorem pay_bar (c : Dev nD) (d : Fin 3) : (Rd X Wt).payload ((c : Thread nD τ), SemLoc.reg barS) 0 d = bPay d c := payload_k X Wt c none d
theorem pay_s (c : Dev nD) (g : Fin 3) (k : Fin 13) : (Rd X Wt).payload ((c : Thread nD τ), SemLoc.dma (ssem g k)) 0 0 = sPay X Wt g k c :=
  payload_k X Wt c (some (false, g, k)) 0
theorem pay_r (c : Dev nD) (g : Fin 3) (k : Fin 13) : (Rd X Wt).payload ((c : Thread nD τ), SemLoc.dma (rsem g k)) 0 0 = rPay X Wt g k c :=
  payload_k X Wt c (some (true, g, k)) 0
theorem all_bar (c : Dev nD) : bigSep ((Rd X Wt).duties ((c : Thread nD τ), SemLoc.reg barS) 0 \ ∅) (fun d => (Rd X Wt).payload ((c : Thread nD τ), SemLoc.reg barS) 0 d)
    = iprop(bPay 0 c ∗ bPay 1 c ∗ bPay 2 c) := rest_bar X Wt c
theorem all_s (c : Dev nD) (g : Fin 3) (k : Fin 13) : bigSep ((Rd X Wt).duties ((c : Thread nD τ), SemLoc.dma (ssem g k)) 0 \ ∅)
    (fun d => (Rd X Wt).payload ((c : Thread nD τ), SemLoc.dma (ssem g k)) 0 d) = sPay X Wt g k c := rest_dma X Wt c (false, g, k)
theorem all_r (c : Dev nD) (g : Fin 3) (k : Fin 13) : bigSep ((Rd X Wt).duties ((c : Thread nD τ), SemLoc.dma (rsem g k)) 0 \ ∅)
    (fun d => (Rd X Wt).payload ((c : Thread nD τ), SemLoc.dma (rsem g k)) 0 d) = rPay X Wt g k c := rest_dma X Wt c (true, g, k)

theorem mem_s (c : Dev nD) (g : Fin 3) (k : Fin 13) : (0 : Fin 3) ∈ (Rd X Wt).duties ((c : Thread nD τ), SemLoc.dma (ssem g k)) 0 := mem_dma X Wt c (false, g, k)
theorem mem_r (c : Dev nD) (g : Fin 3) (k : Fin 13) : (0 : Fin 3) ∈ (Rd X Wt).duties ((c : Thread nD τ), SemLoc.dma (rsem g k)) 0 := mem_dma X Wt c (true, g, k)
theorem amt_s (c : Dev nD) (g : Fin 3) (k : Fin 13) : (Rd X Wt).amount ((c : Thread nD τ), SemLoc.dma (ssem g k)) 0 0 = Ncr g k :=
  amount_k X Wt c (some (false, g, k)) 0
theorem amt_r (c : Dev nD) (g : Fin 3) (k : Fin 13) : (Rd X Wt).amount ((c : Thread nD τ), SemLoc.dma (rsem g k)) 0 0 = Ncr g k :=
  amount_k X Wt c (some (true, g, k)) 0
theorem amt_bar (c : Dev nD) (d : Fin 3) : (Rd X Wt).amount ((c : Thread nD τ), SemLoc.reg barS) 0 d = 1 := amount_k X Wt c none d

theorem owed_send (c : Dev nD) (g : Fin 3) (k : Fin 13) {q : ℕ} (hq : q = pos g k) :
    owed c q = owed c (q + 1) + tallyAt ((peer g k c : Thread nD τ), SemLoc.dma (rsem g k)) () (Ncr g k) := by subst hq; exact owed_step c g k

/-- A send whose source rows go along with what lands. -/
theorem wp_sendLand (c : Dev nD) (g : Fin 3) (k : Fin 13) (d : Dev nD) (hd : d = peer g k c) {R : ℕ} (M : HM R) {n r p : ℕ} (h : r + n ≤ 8192) (h' : p + n ≤ R)
    (hN : (tile M (at_ g p) n (Wd g) (inb_at g h')).view.amount (.dma (rsem g k)) = Ncr g k) {q : ℕ} (hq : q = pos g k)
    (U V : VF F) (hV : ∀ i j, i < n → V (p + i) j = U (r + i) j)
    (hs : iprop(emp) ⊢ sPay X Wt g k c)
    (hp : iprop(Reg M d p n g fullShare V ∗ Any oM c r n g) ⊢ rPay X Wt g k d) (K : PUnit → sProp 𝕄) :
    iprop(Rec X Wt κ ∗ Fresh g k c ∗ Owe c (owed c q) ∗ Reg oM c r n g fullShare U ∗ Any M d p n g)
      ⊢ iprop((iprop(Sent g k c ∗ Owe c (owed c (q + 1))) -∗ K ⟨⟩) -∗ WP c (sendC g k d M n r p h h') K) := by
  subst hd
  unfold sendC sendP
  simp only [Prog.lift]
  unfold Fresh Sent Owe
  iintro ⟨#HR, ⟨Hts, Htr, Has, Har, Hcr⟩, ⟨%W, HO⟩, Hr, Hp⟩ Hk
  ihave Hr := reg_tile (inb_at g h) $$ Hr
  icases Hr with ⟨%fr, %hfr, Hr⟩
  ihave Hp := any_tile (inb_at g h') $$ Hp
  icases Hp with ⟨%fp, Hp⟩
  iapply (Rounds.wp_send_landing_pointsTo 𝒱₀ ER (Rd X Wt) (c : Thread nD τ) none (κ₁ := κ (c, some (false, g, k))) (κ₂ := κ (peer g k c, some (true, g, k)))
    (r₁ := 0) (r₂ := 0) (d₁ := 0) (d₂ := 0) (q := fullShare) (fs := fr) (fd := fp) (mem_s X Wt c g k) (mem_r X Wt (peer g k c) g k) () () (Ncr g k) hN
    (amt_s X Wt c g k) (amt_r X Wt (peer g k c) g k) (owed c (q + 1)) (owed_send c g k hq) (W := W)
    ?_ ?_) $$ [Hts Htr HO Hr Hp]
  · rw [pay_s X Wt c g k]; exact hs
  · rw [pay_r X Wt (peer g k c) g k]
    refine BIBase.Entails.trans (BIClass.sep_mono (tile_reg (inb_at g h') (V := V) ?_) (tile_any (inb_at g h))) hp
    refine (View.read_write_univ _ _).trans (hfr.trans ?_)
    funext x; exact (hV _ _ (x 0).isLt).symm
  · isplitr; · iapply (rec_inv X Wt κ (c, some (false, g, k))); iexact HR
    isplitr; · iapply (rec_inv X Wt κ (peer g k c, some (true, g, k))); iexact HR
    isplitl [Hr]; · iexact Hr
    isplitl [Hp]; · iexact Hp
    isplitl [HO]; · iexact HO
    isplitl [Hts]; · iexact Hts
    isplitr; · iapply (rec_reached X Wt κ (c, some (false, g, k))); iexact HR
    isplitl [Htr]; · iexact Htr
    iapply (rec_reached X Wt κ (peer g k c, some (true, g, k))); iexact HR
  · iintro ⟨Hc, HO⟩
    rw [wp_ret]; imodintro
    iapply Hk
    isplitr [HO]
    · isplitl [Hc]; · iexact Hc
      isplitl [Has]; · iexact Has
      isplitl [Har]; · iexact Har
      iexact Hcr
    · iexists W; iexact HO

/-- A send whose source rows come back when it has left. -/
theorem wp_sendBack (c : Dev nD) (g : Fin 3) (k : Fin 13) (d : Dev nD) (hd : d = peer g k c) {R : ℕ} (M : HM R) {n r p : ℕ} (h : r + n ≤ 8192) (h' : p + n ≤ R)
    (hN : (tile M (at_ g p) n (Wd g) (inb_at g h')).view.amount (.dma (rsem g k)) = Ncr g k) {q : ℕ} (hq : q = pos g k)
    (U V : VF F) (hV : ∀ i j, i < n → V (p + i) j = U (r + i) j) (sh : PosShare TreeShare)
    (hs : Reg oM c r n g sh U ⊢ sPay X Wt g k c)
    (hp : Reg M d p n g fullShare V ⊢ rPay X Wt g k d) (K : PUnit → sProp 𝕄) :
    iprop(Rec X Wt κ ∗ Fresh g k c ∗ Owe c (owed c q) ∗ Reg oM c r n g sh U ∗ Any M d p n g)
      ⊢ iprop((iprop(Sent g k c ∗ Owe c (owed c (q + 1))) -∗ K ⟨⟩) -∗ WP c (sendC g k d M n r p h h') K) := by
  subst hd
  unfold sendC sendP
  simp only [Prog.lift]
  unfold Fresh Sent Owe
  iintro ⟨#HR, ⟨Hts, Htr, Has, Har, Hcr⟩, ⟨%W, HO⟩, Hr, Hp⟩ Hk
  ihave Hr := reg_tile (inb_at g h) $$ Hr
  icases Hr with ⟨%fr, %hfr, Hr⟩
  ihave Hp := any_tile (inb_at g h') $$ Hp
  icases Hp with ⟨%fp, Hp⟩
  iapply (Rounds.wp_send_pointsTo 𝒱₀ ER (Rd X Wt) (c : Thread nD τ) none (κ₁ := κ (c, some (false, g, k))) (κ₂ := κ (peer g k c, some (true, g, k)))
    (r₁ := 0) (r₂ := 0) (d₁ := 0) (d₂ := 0) (q := sh) (fs := fr) (fd := fp) (mem_s X Wt c g k) (mem_r X Wt (peer g k c) g k) () () (Ncr g k) hN
    (amt_s X Wt c g k) (amt_r X Wt (peer g k c) g k) (owed c (q + 1)) (owed_send c g k hq) (W := W)
    ?_ ?_) $$ [Hts Htr HO Hr Hp]
  · rw [pay_s X Wt c g k]; exact (tile_reg (inb_at g h) hfr).trans hs
  · rw [pay_r X Wt (peer g k c) g k]
    refine BIBase.Entails.trans (tile_reg (inb_at g h') (V := V) ?_) hp
    refine (View.read_write_univ _ _).trans (hfr.trans ?_)
    funext x; exact (hV _ _ (x 0).isLt).symm
  · isplitr; · iapply (rec_inv X Wt κ (c, some (false, g, k))); iexact HR
    isplitr; · iapply (rec_inv X Wt κ (peer g k c, some (true, g, k))); iexact HR
    isplitl [Hr]; · iexact Hr
    isplitl [Hp]; · iexact Hp
    isplitl [HO]; · iexact HO
    isplitl [Hts]; · iexact Hts
    isplitr; · iapply (rec_reached X Wt κ (c, some (false, g, k))); iexact HR
    isplitl [Htr]; · iexact Htr
    iapply (rec_reached X Wt κ (peer g k c, some (true, g, k))); iexact HR
  · iintro ⟨Hc, HO⟩
    rw [wp_ret]; imodintro
    iapply Hk
    isplitr [HO]
    · isplitl [Hc]; · iexact Hc
      isplitl [Has]; · iexact Has
      isplitl [Har]; · iexact Har
      iexact Hcr
    · iexists W; iexact HO

/-- The two waits of a stage: what the send handed back, and what has arrived. -/
theorem wp_waitC (c : Dev nD) (g : Fin 3) (k : Fin 13) {R : ℕ} (M : HM R) {n r p : ℕ} (h : r + n ≤ 8192) (h' : p + n ≤ R)
    (hN : (tile oM (at_ g r) n (Wd g) (inb_at g h)).view.dmaCredit = Ncr g k)
    (hN' : (tile M (at_ g p) n (Wd g) (inb_at g h')).view.dmaCredit = Ncr g k) {q : ℕ} (hq : pos g k < q) (K : PUnit → sProp 𝕄) :
    iprop(levAts Lv lev ∗ Rec X Wt κ ∗ Sent g k c ∗ Owe c (owed c q))
      ⊢ iprop((iprop(Done g k c ∗ Owe c (owed c q) ∗ sPay X Wt g k c ∗ rPay X Wt g k c) -∗ K ⟨⟩) -∗ WP c (waitC g k M n r p h h') K) := by
  unfold waitC waitP
  simp only [Prog.lift, Prog.bind_op, Prog.bind_ret, Prog.pure_eq_ret]
  unfold Done Sent Owe
  iintro ⟨#Hlv, #HR, ⟨Hcs, Has, Har, Hcr⟩, ⟨%W, HO⟩⟩ Hk
  iapply (Rounds.wp_wait_rest_token 𝒱₀ ER (Rd X Wt) (c : Thread nD τ) none (κ := κ (c, some (false, g, k))) (wpE_waitDma2_eq 𝒱₀ (c : Thread nD τ) none Set.univ)
    (Set.mem_univ _) () (O := owed c q) (W := W) (R := 0) (m := 0) (T := ∅) (by rw [Nat.zero_add]; first | exact hN.trans (expect_dma X Wt c false g k).symm | exact hN'.trans (expect_dma X Wt c false g k).symm)) $$ [Hcs HO Has]
  · isplitr; · iapply (rec_inv X Wt κ (c, some (false, g, k))); iexact HR
    isplitl [Hcs]; · first | (rw [hN]; iexact Hcs) | (rw [hN']; iexact Hcs)
    isplitl [HO]; · iexact HO
    isplitr; · iapply (mayWait c (csem (some (false, g, k))) q (by rw [kof_csem]; exact Nat.succ_pos _)); iexact Hlv
    iexact Has
  rw [all_s X Wt c g k]; iintro ⟨HO, Has, -, Hs⟩
  iapply (Rounds.wp_wait_rest_token 𝒱₀ ER (Rd X Wt) (c : Thread nD τ) none (κ := κ (c, some (true, g, k))) (wpE_waitDma2_eq 𝒱₀ (c : Thread nD τ) none Set.univ)
    (Set.mem_univ _) () (O := owed c q) (R := 0) (m := 0) (T := ∅) (by rw [Nat.zero_add]; first | exact hN.trans (expect_dma X Wt c true g k).symm | exact hN'.trans (expect_dma X Wt c true g k).symm)) $$ [Hcr HO Har]
  · isplitr; · iapply (rec_inv X Wt κ (c, some (true, g, k))); iexact HR
    isplitl [Hcr]; · first | (rw [hN]; iexact Hcr) | (rw [hN']; iexact Hcr)
    isplitl [HO]; · iexact HO
    isplitr; · iapply (mayWait c (csem (some (true, g, k))) q (by rw [kof_csem]; exact Nat.add_lt_add_right hq 2)); iexact Hlv
    iexact Har
  rw [all_r X Wt c g k]; iintro ⟨HO, Har, -, Hr⟩
  rw [wp_ret]; imodintro
  iapply Hk
  isplitl [Has Har]
  · isplitl [Has]; · iexact Has
    iexact Har
  isplitl [HO]; · iexists _; iexact HO
  isplitl [Hs]; · iexact Hs
  iexact Hr

/-- The handshake's part of a device: tickets of the partners' barrier cells, the own one's position and credit. -/
def HandRes (c : Dev nD) : sProp 𝕄 :=
  iprop(dutyTok ER (bcell (par 0 c)) 0 0 ∗ dutyTok ER (bcell (par 1 c)) 0 1 ∗ dutyTok ER (bcell (par 2 c)) 0 2
    ∗ atPos ER (bcell c) 0 ∅ 0 ∗ cred (tallyAt (bcell c) () 3))

/-- A device hands its landing buffers to its partners and receives theirs. -/
theorem wp_hand (c : Dev nD) (W : Waits sig Unit) (K : PUnit → sProp 𝕄) :
    iprop(levAts Lv lev ∗ Rec X Wt κ ∗ HandRes c ∗ owes (c : Thread nD τ) (O₀ c) W ∗ bPay 0 (par 0 c) ∗ bPay 1 (par 1 c) ∗ bPay 2 (par 2 c))
      ⊢ iprop((iprop(atPos ER (bcell c) 1 ∅ 0 ∗ Owe c (owed c 0) ∗ bPay 0 c ∗ bPay 1 c ∗ bPay 2 c) -∗ K ⟨⟩)
          -∗ WP c (hand (par 2 c) (par 1 c) (par 0 c)) K) := by
  unfold hand HandRes Owe O₀
  simp only [semSignalWord, semWaitWord, Prog.lift, Prog.bind_op, Prog.bind_ret, Prog.pure_eq_ret]
  iintro ⟨#Hlv, #HR, ⟨Ht0, Ht1, Ht2, Hat, Hc⟩, HO, H0, H1, H2⟩ Hk
  iapply (Rounds.wp_signal 𝒱₀ ER (Rd X Wt) (c : Thread nD τ) none (dst := (par 2 c : Thread nD τ)) (κ := κ (par 2 c, none)) (d := 2)
    (mem_bar X Wt (par 2 c) _) (amt_bar X Wt (par 2 c) 2) () _ rfl) $$ [HO Ht2 H2]
  · isplitr; · iapply (rec_inv X Wt κ (par 2 c, none)); iexact HR
    isplitl [HO]; · iexact HO
    isplitl [Ht2]; · iexact Ht2
    isplitl [H2]; · rw [pay_bar X Wt (par 2 c) 2]; iexact H2
    iapply (rec_reached X Wt κ (par 2 c, none)); iexact HR
  iintro HO
  iapply (Rounds.wp_signal 𝒱₀ ER (Rd X Wt) (c : Thread nD τ) none (dst := (par 1 c : Thread nD τ)) (κ := κ (par 1 c, none)) (d := 1)
    (mem_bar X Wt (par 1 c) _) (amt_bar X Wt (par 1 c) 1) () _ rfl) $$ [HO Ht1 H1]
  · isplitr; · iapply (rec_inv X Wt κ (par 1 c, none)); iexact HR
    isplitl [HO]; · iexact HO
    isplitl [Ht1]; · iexact Ht1
    isplitl [H1]; · rw [pay_bar X Wt (par 1 c) 1]; iexact H1
    iapply (rec_reached X Wt κ (par 1 c, none)); iexact HR
  iintro HO
  iapply (Rounds.wp_signal 𝒱₀ ER (Rd X Wt) (c : Thread nD τ) none (dst := (par 0 c : Thread nD τ)) (κ := κ (par 0 c, none)) (d := 0)
    (mem_bar X Wt (par 0 c) _) (amt_bar X Wt (par 0 c) 0) () _ rfl) $$ [HO Ht0 H0]
  · isplitr; · iapply (rec_inv X Wt κ (par 0 c, none)); iexact HR
    isplitl [HO]; · iexact HO
    isplitl [Ht0]; · iexact Ht0
    isplitl [H0]; · rw [pay_bar X Wt (par 0 c) 0]; iexact H0
    iapply (rec_reached X Wt κ (par 0 c, none)); iexact HR
  iintro HO
  iapply (Rounds.wp_wait_rest_token 𝒱₀ ER (Rd X Wt) (c : Thread nD τ) none (κ := κ (c, none)) (wpE_semWait_eq 𝒱₀ (c : Thread nD τ) none Set.univ)
    (Set.mem_univ _) () (O := owed c 0) (R := 0) (m := 0) (T := ∅) (expect_bar X Wt c).symm) $$ [Hc HO Hat]
  · isplitr; · iapply (rec_inv X Wt κ (c, none)); iexact HR
    isplitl [Hc]; · iexact Hc
    isplitl [HO]; · iexact HO
    isplitr; · iapply (mayWait c (csem none) 0 (by rw [kof_csem]; exact Nat.lt_succ_self 1)); iexact Hlv
    iexact Hat
  rw [all_bar X Wt c]; iintro ⟨HO, Hat, -, Hp⟩
  rw [wp_ret]; imodintro
  iapply Hk
  isplitl [Hat]; · iexact Hat
  isplitl [HO]; · iexists _; iexact HO
  iexact Hp

end Cert.KernelIdeal.Pf

end
-- ==== Proof.Phases.lean ====
/-
# The phases

What each phase of the kernel needs of a column group's rows and credits and what it leaves.
-/
module

public import proofs.«01_k».proof.Proof.Steps

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Places of the partners -/

theorem p1_p1 (g : Fin 3) (c : Dev nD) : p1 g (p1 g c) = c := par_par _ _
theorem p2_p2 (g : Fin 3) (c : Dev nD) : p2 g (p2 g c) = c := par_par _ _
theorem p3_p3 (g : Fin 3) (c : Dev nD) : p3 g (p3 g c) = c := par_par _ _
theorem b2_p1 : ∀ (g : Fin 3) (c : Dev nD), b2 g (p1 g c) = b2 g c := by decide
theorem b3_p1 : ∀ (g : Fin 3) (c : Dev nD), b3 g (p1 g c) = b3 g c := by decide
theorem b3_p2 : ∀ (g : Fin 3) (c : Dev nD), b3 g (p2 g c) = b3 g c := by decide
theorem k1_p1 : ∀ (g : Fin 3) (c : Dev nD), k1 g (p1 g c) = s1 g c := by decide
theorem s1_p1 : ∀ (g : Fin 3) (c : Dev nD), s1 g (p1 g c) = k1 g c := by decide
theorem k2_p2 : ∀ (g : Fin 3) (c : Dev nD), k2 g (p2 g c) = s2 g c := by decide
theorem s2_p2 : ∀ (g : Fin 3) (c : Dev nD), s2 g (p2 g c) = k2 g c := by decide
theorem k3_p3 : ∀ (g : Fin 3) (c : Dev nD), k3 g (p3 g c) = s3 g c := by decide
theorem s3_p3 : ∀ (g : Fin 3) (c : Dev nD), s3 g (p3 g c) = k3 g c := by decide
theorem dvd_s1 : ∀ (g : Fin 3) (c : Dev nD), 512 ∣ s1 g c + 2048 * (1 - b2 g c) := by decide
theorem dvd_s1' : ∀ (g : Fin 3) (c : Dev nD), 512 ∣ s1 g c + 2048 * b2 g c := by decide
theorem dvd_k1 : ∀ (g : Fin 3) (c : Dev nD), 512 ∣ k1 g c := by decide

/-! ## Rows cut and joined -/

section Cut

variable {R : ℕ} {M : HM R} {c : Dev nD} {r r' n m N b : ℕ} {g : Fin 3} {q : PosShare TreeShare} {V : VF F}

theorem reg_cut (hN : N = n + m) (hr : r' = r + n) : (Reg M c r N g q V : sProp 𝕄) ⊢ iprop(Reg M c r n g q V ∗ Reg M c r' m g q V) := by
  subst hN; subst hr; exact reg_split
theorem reg_glue (hN : N = n + m) (hr : r' = r + n) : iprop(Reg M c r n g q V ∗ Reg M c r' m g q V) ⊢ (Reg M c r N g q V : sProp 𝕄) := by
  subst hN; subst hr; exact reg_join
theorem any_cut (hN : N = n + m) (hr : r' = r + n) : (Any M c r N g : sProp 𝕄) ⊢ iprop(Any M c r n g ∗ Any M c r' m g) := by
  subst hN; subst hr; exact any_split

/-- The halves of some rows, the one a bit does not name first. -/
theorem any_halves (hb : b ≤ 1) (hN : N = n + n) : (Any M c r N g : sProp 𝕄) ⊢ iprop(Any M c (r + n * (1 - b)) n g ∗ Any M c (r + n * b) n g) := by
  subst hN
  rcases (show b = 0 ∨ b = 1 by omega) with rfl | rfl
  · rw [show r + n * (1 - 0) = r + n by omega, show r + n * 0 = r by omega]
    iintro H; ihave H := any_split $$ H; icases H with ⟨H1, H2⟩
    isplitl [H2]; · iexact H2
    iexact H1
  · rw [show r + n * (1 - 1) = r by omega, show r + n * 1 = r + n by omega]; exact any_split
theorem reg_halves (hb : b ≤ 1) (hN : N = n + n) : (Reg M c r N g q V : sProp 𝕄) ⊢ iprop(Reg M c (r + n * (1 - b)) n g q V ∗ Reg M c (r + n * b) n g q V) := by
  subst hN
  rcases (show b = 0 ∨ b = 1 by omega) with rfl | rfl
  · rw [show r + n * (1 - 0) = r + n by omega, show r + n * 0 = r by omega]
    iintro H; ihave H := reg_split $$ H; icases H with ⟨H1, H2⟩
    isplitl [H2]; · iexact H2
    iexact H1
  · rw [show r + n * (1 - 1) = r by omega, show r + n * 1 = r + n by omega]; exact reg_split
theorem reg_whole (hb : b ≤ 1) (hN : N = n + n) : iprop(Reg M c (r + n * (1 - b)) n g q V ∗ Reg M c (r + n * b) n g q V) ⊢ (Reg M c r N g q V : sProp 𝕄) := by
  subst hN
  rcases (show b = 0 ∨ b = 1 by omega) with rfl | rfl
  · rw [show r + n * (1 - 0) = r + n by omega, show r + n * 0 = r by omega]
    iintro ⟨H1, H2⟩; iapply reg_join
    isplitl [H2]; · iexact H2
    iexact H1
  · rw [show r + n * (1 - 1) = r by omega, show r + n * 1 = r + n by omega]; exact reg_join

end Cut

/-! ## Values -/

section Val

variable (X : Dev nD → XB F) (Wt : Dev nD → WB F) (g : Fin 3) (c : Dev nD) {r p : ℕ}

theorem Q1_eq (h : r = k1 g c + p) (i j : ℕ) : Q1 X Wt g c (r + i) j = FloatOps.addf (Q0 X Wt g c (r + i) j) (R1V X Wt g c (p + i) j) := by
  subst h; unfold Q1 R1V addV; rw [Nat.add_assoc]
theorem Q2_eq (h : r = k2 g c + p) (i j : ℕ) : Q2 X Wt g c (r + i) j = FloatOps.addf (Q1 X Wt g c (r + i) j) (R2V X Wt g c (p + i) j) := by
  subst h; unfold Q2 R2V addV; rw [Nat.add_assoc]
theorem FIN_eq (h : r = k3 g c + p) (i j : ℕ) (hi : p + i < 1024) : FIN X Wt g (r + i) j
    = FloatOps.mulf (FloatOps.addf (Q2 X Wt g c (r + i) j) (R3V X Wt g c (p + i) j)) (FloatOps.logistic (FloatOps.addf (Q2 X Wt g c (r + i) j) (R3V X Wt g c (p + i) j))) := by
  subst h; unfold FIN R3V; rw [Nat.add_assoc, own_eq g c hi]; rfl
theorem R1V_eq (h : r = s1 g c + p) (i j : ℕ) : R1V X Wt g (p1 g c) (p + i) j = Q0 X Wt g c (r + i) j := by
  subst h; unfold R1V; rw [p1_p1, k1_p1, Nat.add_assoc]
theorem R2V_eq (h : r = s2 g c + p) (i j : ℕ) : R2V X Wt g (p2 g c) (p + i) j = Q1 X Wt g c (r + i) j := by
  subst h; unfold R2V; rw [p2_p2, k2_p2, Nat.add_assoc]
theorem R3V_eq (h : r = s3 g c + p) (i j : ℕ) : R3V X Wt g (p3 g c) (p + i) j = Q2 X Wt g c (r + i) j := by
  subst h; unfold R3V; rw [p3_p3, k3_p3, Nat.add_assoc]

/-! ## What is handed over, from the sender's side -/

theorem rPay0 : rPay X Wt g 0 (p1 g c) = iprop(Reg r1M (p1 g c) (2048 * (1 - b2 g c)) 2048 g fullShare (R1V X Wt g (p1 g c)) ∗ Any oM c (s1 g c + 2048 * (1 - b2 g c)) 2048 g) := by
  unfold rPay; dsimp only; rw [b2_p1, p1_p1, k1_p1]
theorem rPay1 : rPay X Wt g 1 (p1 g c) = iprop(Reg r1M (p1 g c) (2048 * b2 g c) 2048 g fullShare (R1V X Wt g (p1 g c)) ∗ Any oM c (s1 g c + 2048 * b2 g c) 2048 g) := by
  unfold rPay; dsimp only; rw [b2_p1, p1_p1, k1_p1]
theorem rPay2 : rPay X Wt g 2 (p2 g c) = iprop(Reg r2M (p2 g c) (1024 * (1 - b3 g c)) 1024 g fullShare (R2V X Wt g (p2 g c)) ∗ Any oM c (s2 g c + 1024 * (1 - b3 g c)) 1024 g) := by
  unfold rPay; dsimp only; rw [b3_p2, p2_p2, k2_p2]
theorem rPay3 : rPay X Wt g 3 (p2 g c) = iprop(Reg r2M (p2 g c) (1024 * b3 g c) 1024 g fullShare (R2V X Wt g (p2 g c)) ∗ Any oM c (s2 g c + 1024 * b3 g c) 1024 g) := by
  unfold rPay; dsimp only; rw [b3_p2, p2_p2, k2_p2]
theorem rPay4 : rPay X Wt g 4 (p3 g c) = iprop(Reg r3M (p3 g c) 0 512 g fullShare (R3V X Wt g (p3 g c)) ∗ Any oM c (s3 g c) 512 g) := by
  unfold rPay; dsimp only; rw [p3_p3, k3_p3]
theorem rPay5 : rPay X Wt g 5 (p3 g c) = iprop(Reg r3M (p3 g c) 512 512 g fullShare (R3V X Wt g (p3 g c)) ∗ Any oM c (s3 g c + 512) 512 g) := by
  unfold rPay; dsimp only; rw [p3_p3, k3_p3]
theorem rPay6 : rPay X Wt g 6 (p3 g c) = Reg oM (p3 g c) (k3 g c) 512 g fullShare (FIN X Wt g) := by
  unfold rPay; dsimp only; rw [s3_p3]
theorem rPay7 : rPay X Wt g 7 (p3 g c) = Reg oM (p3 g c) (k3 g c + 512) 512 g fullShare (FIN X Wt g) := by
  unfold rPay; dsimp only; rw [s3_p3]
theorem rPay8 : rPay X Wt g 8 (p2 g c) = Reg oM (p2 g c) (k3 g c) 1024 g fullShare (FIN X Wt g) := by
  unfold rPay; dsimp only; rw [s2_p2, b3_p2]; rfl
theorem rPay9 : rPay X Wt g 9 (p2 g c) = Reg oM (p2 g c) (s3 g c) 1024 g fullShare (FIN X Wt g) := by
  unfold rPay; dsimp only; rw [s2_p2, b3_p2]; rfl
theorem rPay10 : rPay X Wt g 10 (p1 g c) = Reg oM (p1 g c) (k3 g c) 1024 g fullShare (FIN X Wt g) := by
  unfold rPay; dsimp only; rw [s1_p1, b2_p1, b3_p1]; rfl
theorem rPay11 : rPay X Wt g 11 (p1 g c) = Reg oM (p1 g c) (s3 g c) 1024 g fullShare (FIN X Wt g) := by
  unfold rPay; dsimp only; rw [s1_p1, b2_p1, b3_p1]; rfl
theorem rPay12 : rPay X Wt g 12 (p1 g c) = Reg oM (p1 g c) (s2 g c) 2048 g fullShare (FIN X Wt g) := by
  unfold rPay; dsimp only; rw [s1_p1, b2_p1]; rfl
theorem sPay12 : sPay X Wt g 12 c = Reg oM c (s2 g c) 2048 g fullShare (FIN X Wt g) := by
  unfold sPay; rfl

end Val

/-! ## The phases -/

variable (X : Dev nD → XB F) (Wt : Dev nD → WB F) (κ : Dev nD × KC → ℕ)

/-- The local buffers and semaphores, and what is owed from the `q`-th transfer on. -/
def Com (c : Dev nD) (q : ℕ) : sProp 𝕄 := iprop(Bench c (X c) (Wt c) ∗ Owe c (owed c q))

/-- A phase of a column group: from `A` to `B`, over the transfers from the `q`-th to before the `q'`-th. -/
def Step (c : Dev nD) (l : List (PR F)) (q q' : ℕ) (A B : sProp 𝕄) : Prop :=
  ∀ K : PUnit → sProp 𝕄, iprop(levAts Lv lev ∗ Rec X Wt κ ∗ Com X Wt c q ∗ A)
    ⊢ iprop((iprop(Com X Wt c q' ∗ B) -∗ K ⟨⟩) -∗ WP c (Pipeline.chain l) K)

theorem phA_step (g : Fin 3) (c : Dev nD) : Step X Wt κ c (phA g c) (pos g 0) (pos g 0 + 1)
    iprop(Fresh g 0 c ∗ Any oM c (s1 g c + 2048 * (1 - b2 g c)) 2048 g ∗ Any r1M (p1 g c) (2048 * (1 - b2 g c)) 2048 g)
    (Sent g 0 c) := by
  intro K
  unfold Com phA
  simp only [Pipeline.chain_cons, wp_bind, Pipeline.chain_nil, Prog.pure_eq_ret, wp_ret]
  iintro ⟨#Hlv, #HR, ⟨Hb, HO⟩, HF, Ho, Hr⟩ Hk
  iapply (wp_gemmC c g (X c) (Wt c) L4 k0_t1_ok _ (dvd_s1 g c) (n := 2048) (by rw [L4_trips]) (mayWait_local c (pos g 0)) _) $$ [Hb HO Ho]
  · iframe; iexact Hlv
  iintro ⟨Hb, HO, Ho⟩
  iapply (wp_sendLand X Wt κ c g 0 (p1 g c) rfl r1M (n := 2048) _ _ rfl rfl (LV g (X c) (Wt c)) _
    (fun i j _ => R1V_eq X Wt g c rfl i j) (BIBase.Entails.rfl) (by rw [rPay0]) _) $$ [HF HO Ho Hr]
  · iframe; iexact HR
  iintro ⟨HS, HO⟩
  imodintro
  iapply Hk
  iframe

theorem phB_step (g : Fin 3) (c : Dev nD) : Step X Wt κ c (phB g c) (pos g 1) (pos g 1 + 1)
    iprop(Fresh g 1 c ∗ Any oM c (s1 g c + 2048 * b2 g c) 2048 g ∗ Any r1M (p1 g c) (2048 * b2 g c) 2048 g)
    (Sent g 1 c) := by
  intro K
  unfold Com phB
  simp only [Pipeline.chain_cons, wp_bind, Pipeline.chain_nil, Prog.pure_eq_ret, wp_ret]
  iintro ⟨#Hlv, #HR, ⟨Hb, HO⟩, HF, Ho, Hr⟩ Hk
  iapply (wp_gemmC c g (X c) (Wt c) L4 k0_t1_ok _ (dvd_s1' g c) (n := 2048) (by rw [L4_trips]) (mayWait_local c (pos g 1)) _) $$ [Hb HO Ho]
  · iframe; iexact Hlv
  iintro ⟨Hb, HO, Ho⟩
  iapply (wp_sendLand X Wt κ c g 1 (p1 g c) rfl r1M (n := 2048) _ _ rfl rfl (LV g (X c) (Wt c)) _
    (fun i j _ => R1V_eq X Wt g c rfl i j) (BIBase.Entails.rfl) (by rw [rPay1]) _) $$ [HF HO Ho Hr]
  · iframe; iexact HR
  iintro ⟨HS, HO⟩
  imodintro
  iapply Hk
  iframe

theorem phC_step (g : Fin 3) (c : Dev nD) (q : ℕ) : Step X Wt κ c (phC g c) q q
    (Any oM c (k1 g c) 4096 g)
    iprop(Reg oM c (s2 g c) 2048 g fullShare (Q0 X Wt g c) ∗ Reg oM c (k2 g c) 2048 g fullShare (Q0 X Wt g c)) := by
  intro K
  unfold Com phC
  simp only [Pipeline.chain_cons, wp_bind, Pipeline.chain_nil, Prog.pure_eq_ret, wp_ret]
  iintro ⟨#Hlv, #HR, ⟨Hb, HO⟩, Ho⟩ Hk
  iapply (wp_gemmC c g (X c) (Wt c) L8 k0_t7_ok _ (dvd_k1 g c) (n := 4096) (by rw [L8_trips]) (mayWait_local c q) _) $$ [Hb HO Ho]
  · iframe; iexact Hlv
  iintro ⟨Hb, HO, Ho⟩
  imodintro
  iapply Hk
  isplitl [Hb HO]; · iframe
  iapply (reg_halves (n := 2048) (bit_le _ c) rfl) $$ Ho

theorem phD_step (g : Fin 3) (c : Dev nD) : Step X Wt κ c (phD g c) (pos g 2) (pos g 2 + 2)
    iprop(Sent g 0 c ∗ Reg oM c (s2 g c) 2048 g fullShare (Q0 X Wt g c) ∗ Fresh g 2 c ∗ Fresh g 3 c
      ∗ Any r2M (p2 g c) (1024 * (1 - b3 g c)) 1024 g ∗ Any r2M (p2 g c) (1024 * b3 g c) 1024 g)
    iprop(Done g 0 c ∗ Any oM (p1 g c) (s2 g c) 2048 g ∗ Sent g 2 c ∗ Sent g 3 c) := by
  intro K
  unfold Com phD
  simp only [Pipeline.chain_cons, wp_bind, Pipeline.chain_nil, Prog.pure_eq_ret, wp_ret]
  iintro ⟨#Hlv, #HR, ⟨Hb, HO⟩, HS, Ho, HF, HF', Hr, Hr'⟩ Hk
  iapply (wp_waitC X Wt κ c g 0 r1M (n := 2048) _ _ rfl rfl (q := pos g 2) (by show g.val < 6 + 2 * g.val; omega) _) $$ [HS HO]
  · iframe; isplitr; · iexact Hlv
    iexact HR
  unfold rPay
  iintro ⟨HD, HO, -, Hl, Hd⟩
  ihave Ho := (reg_halves (n := 1024) (bit_le (ax g 2) c) rfl) $$ Ho
  icases Ho with ⟨Ho, Ho'⟩
  ihave Hl := (reg_halves (n := 1024) (bit_le (ax g 2) c) rfl) $$ Hl
  icases Hl with ⟨Hl, Hl'⟩
  iapply (wp_addC c g (X c) (Wt c) r1M L2 k0_t10_ok (n := 1024) _ _ (by rw [L2_trips]) (Q0 X Wt g c) (R1V X Wt g c) (Q1 X Wt g c)
    (fun i j _ => Q1_eq X Wt g c (by unfold s2; omega) i j) (mayWait_local c (pos g 2)) _) $$ [Hb HO Ho Hl]
  · iframe; iexact Hlv
  iintro ⟨Hb, HO, Ho, -⟩
  iapply (wp_sendLand X Wt κ c g 2 (p2 g c) rfl r2M (n := 1024) _ _ rfl rfl (Q1 X Wt g c) _
    (fun i j _ => R2V_eq X Wt g c rfl i j) (BIBase.Entails.rfl) (by rw [rPay2]) _) $$ [HF HO Ho Hr]
  · iframe; iexact HR
  iintro ⟨HS, HO⟩
  iapply (wp_addC c g (X c) (Wt c) r1M L2 k0_t10_ok (n := 1024) _ _ (by rw [L2_trips]) (Q0 X Wt g c) (R1V X Wt g c) (Q1 X Wt g c)
    (fun i j _ => Q1_eq X Wt g c (by unfold s2; omega) i j) (mayWait_local c (pos g 2 + 1)) _) $$ [Hb HO Ho' Hl']
  · iframe; iexact Hlv
  iintro ⟨Hb, HO, Ho, -⟩
  iapply (wp_sendLand X Wt κ c g 3 (p2 g c) rfl r2M (n := 1024) _ _ rfl (by show 6 + 2 * g.val + 1 = 7 + 2 * g.val; omega) (Q1 X Wt g c) _
    (fun i j _ => R2V_eq X Wt g c rfl i j) (BIBase.Entails.rfl) (by rw [rPay3]) _) $$ [HF' HO Ho Hr']
  · iframe; iexact HR
  iintro ⟨HS', HO⟩
  imodintro
  iapply Hk
  iframe; iexact Hd

theorem phE_step (g : Fin 3) (c : Dev nD) (q : ℕ) (hq : pos g 1 < q) : Step X Wt κ c (phE g c) q q
    iprop(Sent g 1 c ∗ Reg oM c (k2 g c) 2048 g fullShare (Q0 X Wt g c))
    iprop(Done g 1 c ∗ Any oM (p1 g c) (s3 g c) 1024 g ∗ Any oM (p1 g c) (k3 g c) 1024 g
      ∗ Reg oM c (s3 g c) 1024 g fullShare (Q1 X Wt g c) ∗ Reg oM c (k3 g c) 1024 g fullShare (Q1 X Wt g c)) := by
  intro K
  unfold Com phE
  simp only [Pipeline.chain_cons, wp_bind, Pipeline.chain_nil, Prog.pure_eq_ret, wp_ret]
  iintro ⟨#Hlv, #HR, ⟨Hb, HO⟩, HS, Ho⟩ Hk
  iapply (wp_waitC X Wt κ c g 1 r1M (n := 2048) _ _ rfl rfl (q := q) hq _) $$ [HS HO]
  · iframe; isplitr; · iexact Hlv
    iexact HR
  unfold rPay
  iintro ⟨HD, HO, -, Hl, Hd⟩
  iapply (wp_addC c g (X c) (Wt c) r1M L4 k0_t1_ok (n := 2048) _ _ (by rw [L4_trips]) (Q0 X Wt g c) (R1V X Wt g c) (Q1 X Wt g c)
    (fun i j _ => Q1_eq X Wt g c rfl i j) (mayWait_local c q) _) $$ [Hb HO Ho Hl]
  · isplitr; · iexact Hlv
    isplitl [Hb]; · iexact Hb
    isplitl [HO]; · iexact HO
    isplitl [Ho]; · iexact Ho
    iexact Hl
  iintro ⟨Hb, HO, Ho, -⟩
  ihave Ho := (reg_halves (n := 1024) (bit_le (ax g 2) c) rfl) $$ Ho
  icases Ho with ⟨Ho, Ho'⟩
  ihave Hd := (any_halves (n := 1024) (bit_le (ax g 2) c) rfl) $$ Hd
  icases Hd with ⟨Hd, Hd'⟩
  imodintro
  iapply Hk
  isplitl [Hb HO]; · iframe
  isplitl [HD]; · iexact HD
  isplitl [Hd]; · iexact Hd
  isplitl [Hd']; · iexact Hd'
  isplitl [Ho]; · iexact Ho
  iexact Ho'

theorem phF_step (g : Fin 3) (c : Dev nD) : Step X Wt κ c (phF g c) (pos g 4) (pos g 4 + 2)
    iprop(Sent g 2 c ∗ Reg oM c (s3 g c) 1024 g fullShare (Q1 X Wt g c) ∗ Fresh g 4 c ∗ Fresh g 5 c
      ∗ Any r3M (p3 g c) 0 512 g ∗ Any r3M (p3 g c) 512 512 g)
    iprop(Done g 2 c ∗ Any oM (p2 g c) (s3 g c) 1024 g ∗ Sent g 4 c ∗ Sent g 5 c) := by
  intro K
  unfold Com phF
  simp only [Pipeline.chain_cons, wp_bind, Pipeline.chain_nil, Prog.pure_eq_ret, wp_ret]
  iintro ⟨#Hlv, #HR, ⟨Hb, HO⟩, HS, Ho, HF, HF', Hr, Hr'⟩ Hk
  iapply (wp_waitC X Wt κ c g 2 r2M (n := 1024) _ _ rfl rfl (q := pos g 4) (by show 6 + 2 * g.val < 12 + 2 * g.val; omega) _) $$ [HS HO]
  · iframe; isplitr; · iexact Hlv
    iexact HR
  unfold rPay
  iintro ⟨HD, HO, -, Hl, Hd⟩
  ihave Ho := (reg_cut (n := 512) (m := 512) rfl rfl) $$ Ho
  icases Ho with ⟨Ho, Ho'⟩
  ihave Hl := (reg_cut (n := 512) (m := 512) rfl rfl) $$ Hl
  icases Hl with ⟨Hl, Hl'⟩
  iapply (wp_addTrip c g (payA g) (X c) (Wt c) r2M (by have := row_le g c; omega) (by have := row_le g c; omega) (Q1 X Wt g c) (R2V X Wt g c) (Q2 X Wt g c)
    (payA_tv g _ _ _ _ _ fun i j _ => Q2_eq X Wt g c rfl i j) (mayWait_local c (pos g 4)) _) $$ [Hb HO Ho Hl]
  · isplitr; · iexact Hlv
    isplitl [Hb]; · iexact Hb
    isplitl [HO]; · iexact HO
    isplitl [Ho]; · iexact Ho
    iexact Hl
  iintro ⟨Hb, HO, Ho, -⟩
  iapply (wp_sendLand X Wt κ c g 4 (p3 g c) rfl r3M (n := 512) (r := s3 g c) (p := 0) _ _ rfl rfl (Q2 X Wt g c) (R3V X Wt g (p3 g c))
    (fun i j _ => R3V_eq X Wt g c (r := s3 g c) (p := 0) rfl i j) (BIBase.Entails.rfl) (by rw [rPay4]) _) $$ [HF HO Ho Hr]
  · isplitr; · iexact HR
    isplitl [HF]; · iexact HF
    isplitl [HO]; · iexact HO
    isplitl [Ho]; · iexact Ho
    iexact Hr
  iintro ⟨HS, HO⟩
  iapply (wp_addTrip c g (payA g) (X c) (Wt c) r2M (by have := row_le g c; omega) (by have := row_le g c; omega) (Q1 X Wt g c) (R2V X Wt g c) (Q2 X Wt g c)
    (payA_tv g _ _ _ _ _ fun i j _ => Q2_eq X Wt g c (by unfold s3; omega) i j) (mayWait_local c (pos g 4 + 1)) _) $$ [Hb HO Ho' Hl']
  · iframe; iexact Hlv
  iintro ⟨Hb, HO, Ho, -⟩
  iapply (wp_sendLand X Wt κ c g 5 (p3 g c) rfl r3M (n := 512) _ _ rfl (by show 12 + 2 * g.val + 1 = 13 + 2 * g.val; omega) (Q2 X Wt g c) _
    (fun i j _ => R3V_eq X Wt g c rfl i j) (BIBase.Entails.rfl) (by rw [rPay5]) _) $$ [HF' HO Ho Hr']
  · iframe; iexact HR
  iintro ⟨HS', HO⟩
  imodintro
  iapply Hk
  iframe; iexact Hd

theorem phG_step (g : Fin 3) (c : Dev nD) (q : ℕ) (hq : pos g 3 < q) : Step X Wt κ c (phG g c) q q
    iprop(Sent g 3 c ∗ Reg oM c (k3 g c) 1024 g fullShare (Q1 X Wt g c))
    iprop(Done g 3 c ∗ Any oM (p2 g c) (k3 g c) 1024 g ∗ Reg oM c (k3 g c) 512 g fullShare (Q2 X Wt g c) ∗ Reg oM c (k3 g c + 512) 512 g fullShare (Q2 X Wt g c)) := by
  intro K
  unfold Com phG
  simp only [Pipeline.chain_cons, wp_bind, Pipeline.chain_nil, Prog.pure_eq_ret, wp_ret]
  iintro ⟨#Hlv, #HR, ⟨Hb, HO⟩, HS, Ho⟩ Hk
  iapply (wp_waitC X Wt κ c g 3 r2M (n := 1024) _ _ rfl rfl (q := q) hq _) $$ [HS HO]
  · iframe; isplitr; · iexact Hlv
    iexact HR
  unfold rPay
  iintro ⟨HD, HO, -, Hl, Hd⟩
  iapply (wp_addC c g (X c) (Wt c) r2M L2 k0_t10_ok (n := 1024) _ _ (by rw [L2_trips]) (Q1 X Wt g c) (R2V X Wt g c) (Q2 X Wt g c)
    (fun i j _ => Q2_eq X Wt g c rfl i j) (mayWait_local c q) _) $$ [Hb HO Ho Hl]
  · isplitr; · iexact Hlv
    isplitl [Hb]; · iexact Hb
    isplitl [HO]; · iexact HO
    isplitl [Ho]; · iexact Ho
    iexact Hl
  iintro ⟨Hb, HO, Ho, -⟩
  ihave Ho := (reg_cut (n := 512) (m := 512) rfl rfl) $$ Ho
  icases Ho with ⟨Ho, Ho'⟩
  imodintro
  iapply Hk
  isplitl [Hb HO]; · iframe
  isplitl [HD]; · iexact HD
  isplitl [Hd]; · iexact Hd
  isplitl [Ho]; · iexact Ho
  iexact Ho'

theorem phH_step (g : Fin 3) (c : Dev nD) : Step X Wt κ c (phH g c) (pos g 6) (pos g 6 + 1)
    iprop(Sent g 4 c ∗ Reg oM c (k3 g c) 512 g fullShare (Q2 X Wt g c) ∗ Fresh g 6 c)
    iprop(Done g 4 c ∗ Sent g 6 c ∗ Reg oM c (k3 g c) 512 g fullShare.right (FIN X Wt g)) := by
  intro K
  unfold Com phH
  simp only [Pipeline.chain_cons, wp_bind, Pipeline.chain_nil, Prog.pure_eq_ret, wp_ret]
  iintro ⟨#Hlv, #HR, ⟨Hb, HO⟩, HS, Ho, HF⟩ Hk
  iapply (wp_waitC X Wt κ c g 4 r3M (n := 512) _ _ rfl rfl (q := pos g 6) (by show 12 + 2 * g.val < 18 + g.val; omega) _) $$ [HS HO]
  · iframe; isplitr; · iexact Hlv
    iexact HR
  unfold rPay
  iintro ⟨HD, HO, -, Hl, Hd⟩
  iapply (wp_addTrip c g (payS g) (X c) (Wt c) r3M (r := k3 g c) (p := 0) (by have := row_le g c; omega) (by omega) (Q2 X Wt g c) (R3V X Wt g c) (FIN X Wt g)
    (payS_tv g _ _ _ _ _ fun i j _ => FIN_eq X Wt g c (r := k3 g c) (p := 0) rfl i j (by omega)) (mayWait_local c (pos g 6)) _) $$ [Hb HO Ho Hl]
  · iframe; iexact Hlv
  iintro ⟨Hb, HO, Ho, -⟩
  ihave Ho := reg_share $$ Ho
  icases Ho with ⟨Ho, Ho'⟩
  iapply (wp_sendBack X Wt κ c g 6 (p3 g c) rfl oM (n := 512) _ _ rfl rfl (FIN X Wt g) (FIN X Wt g)
    (fun i j _ => rfl) fullShare.left (BIBase.Entails.rfl) (by rw [rPay6]) _) $$ [HF HO Ho Hd]
  · iframe; iexact HR
  iintro ⟨HS, HO⟩
  imodintro
  iapply Hk
  iframe

theorem phI_step (g : Fin 3) (c : Dev nD) : Step X Wt κ c (phI g c) (pos g 7) (pos g 7 + 3)
    iprop(Sent g 5 c ∗ Reg oM c (k3 g c + 512) 512 g fullShare (Q2 X Wt g c) ∗ Reg oM c (k3 g c) 512 g fullShare.right (FIN X Wt g)
      ∗ Any oM (p2 g c) (k3 g c) 1024 g ∗ Any oM (p1 g c) (k3 g c) 1024 g ∗ Fresh g 7 c ∗ Fresh g 8 c ∗ Fresh g 10 c)
    iprop(Done g 5 c ∗ Sent g 7 c ∗ Sent g 8 c ∗ Sent g 10 c) := by
  intro K
  unfold Com phI
  simp only [Pipeline.chain_cons, wp_bind, Pipeline.chain_nil, Prog.pure_eq_ret, wp_ret]
  iintro ⟨#Hlv, #HR, ⟨Hb, HO⟩, HS, Ho, Hh, Hp2, Hp1, HF7, HF8, HF10⟩ Hk
  iapply (wp_waitC X Wt κ c g 5 r3M (n := 512) _ _ rfl rfl (q := pos g 7) (by show 13 + 2 * g.val < 21 + 3 * g.val; omega) _) $$ [HS HO]
  · iframe; isplitr; · iexact Hlv
    iexact HR
  unfold rPay
  iintro ⟨HD, HO, -, Hl, Hd⟩
  iapply (wp_addTrip c g (payS g) (X c) (Wt c) r3M (by have := row_le g c; omega) (by have := row_le g c; omega) (Q2 X Wt g c) (R3V X Wt g c) (FIN X Wt g)
    (payS_tv g _ _ _ _ _ fun i j _ => FIN_eq X Wt g c rfl i j (by omega)) (mayWait_local c (pos g 7)) _) $$ [Hb HO Ho Hl]
  · iframe; iexact Hlv
  iintro ⟨Hb, HO, Ho, -⟩
  ihave Ho := reg_share $$ Ho
  icases Ho with ⟨Ho, Ho'⟩
  iapply (wp_sendBack X Wt κ c g 7 (p3 g c) rfl oM (n := 512) _ _ rfl rfl (FIN X Wt g) (FIN X Wt g)
    (fun i j _ => rfl) fullShare.left (BIBase.Entails.rfl) (by rw [rPay7]) _) $$ [HF7 HO Ho Hd]
  · iframe; iexact HR
  iintro ⟨HS7, HO⟩
  ihave Ho := (reg_glue (N := 1024) (n := 512) (m := 512) rfl rfl) $$ [Hh Ho']
  · isplitl [Hh]; · iexact Hh
    iexact Ho'
  ihave Ho := reg_share $$ Ho
  icases Ho with ⟨Ho, Ho'⟩
  iapply (wp_sendBack X Wt κ c g 8 (p2 g c) rfl oM (n := 1024) _ _ rfl (by show 21 + 3 * g.val + 1 = 22 + 3 * g.val; omega) (FIN X Wt g) (FIN X Wt g)
    (fun i j _ => rfl) fullShare.right.left (BIBase.Entails.rfl) (by rw [rPay8]) _) $$ [HF8 HO Ho Hp2]
  · iframe; iexact HR
  iintro ⟨HS8, HO⟩
  iapply (wp_sendBack X Wt κ c g 10 (p1 g c) rfl oM (n := 1024) _ _ rfl (by show 21 + 3 * g.val + 1 + 1 = 23 + 3 * g.val; omega) (FIN X Wt g) (FIN X Wt g)
    (fun i j _ => rfl) fullShare.right.right (BIBase.Entails.rfl) (by rw [rPay10]) _) $$ [HF10 HO Ho' Hp1]
  · iframe; iexact HR
  iintro ⟨HS10, HO⟩
  imodintro
  iapply Hk
  iframe

theorem phJ_step (g : Fin 3) (c : Dev nD) : Step X Wt κ c (phJ g c) (pos g 9) (pos g 9 + 2)
    iprop(Sent g 6 c ∗ Sent g 7 c ∗ Any oM (p2 g c) (s3 g c) 1024 g ∗ Any oM (p1 g c) (s3 g c) 1024 g ∗ Fresh g 9 c ∗ Fresh g 11 c)
    iprop(Done g 6 c ∗ Done g 7 c ∗ Sent g 9 c ∗ Sent g 11 c ∗ Reg oM c (k3 g c) 1024 g fullShare.left (FIN X Wt g)) := by
  intro K
  unfold Com phJ
  simp only [Pipeline.chain_cons, wp_bind, Pipeline.chain_nil, Prog.pure_eq_ret, wp_ret]
  iintro ⟨#Hlv, #HR, ⟨Hb, HO⟩, HS6, HS7, Hp2, Hp1, HF9, HF11⟩ Hk
  iapply (wp_waitC X Wt κ c g 6 oM (n := 512) _ _ rfl rfl (q := pos g 9) (by show 18 + g.val < 30 + 2 * g.val; omega) _) $$ [HS6 HO]
  · iframe; isplitr; · iexact Hlv
    iexact HR
  unfold sPay rPay
  iintro ⟨HD6, HO, Hk6, Ho6⟩
  iapply (wp_waitC X Wt κ c g 7 oM (n := 512) _ _ rfl rfl (q := pos g 9) (by show 21 + 3 * g.val < 30 + 2 * g.val; omega) _) $$ [HS7 HO]
  · iframe; isplitr; · iexact Hlv
    iexact HR
  unfold sPay rPay
  iintro ⟨HD7, HO, Hk7, Ho7⟩
  ihave Ho := (reg_glue (N := 1024) (n := 512) (m := 512) rfl rfl) $$ [Ho6 Ho7]
  · isplitl [Ho6]; · iexact Ho6
    iexact Ho7
  ihave Hkk := (reg_glue (N := 1024) (n := 512) (m := 512) rfl rfl) $$ [Hk6 Hk7]
  · isplitl [Hk6]; · iexact Hk6
    iexact Hk7
  ihave Ho := reg_share $$ Ho
  icases Ho with ⟨Ho, Ho'⟩
  iapply (wp_sendBack X Wt κ c g 9 (p2 g c) rfl oM (n := 1024) _ _ rfl rfl (FIN X Wt g) (FIN X Wt g)
    (fun i j _ => rfl) fullShare.left (BIBase.Entails.rfl) (by rw [rPay9]) _) $$ [HF9 HO Ho Hp2]
  · iframe; iexact HR
  iintro ⟨HS9, HO⟩
  iapply (wp_sendBack X Wt κ c g 11 (p1 g c) rfl oM (n := 1024) _ _ rfl (by show 30 + 2 * g.val + 1 = 31 + 2 * g.val; omega) (FIN X Wt g) (FIN X Wt g)
    (fun i j _ => rfl) fullShare.right (BIBase.Entails.rfl) (by rw [rPay11]) _) $$ [HF11 HO Ho' Hp1]
  · iframe; iexact HR
  iintro ⟨HS11, HO⟩
  imodintro
  iapply Hk
  iframe

theorem phK_step (g : Fin 3) (c : Dev nD) : Step X Wt κ c (phK g c) (pos g 12) (pos g 12 + 1)
    iprop(Sent g 8 c ∗ Sent g 9 c ∗ Any oM (p1 g c) (s2 g c) 2048 g ∗ Fresh g 12 c)
    iprop(Done g 8 c ∗ Done g 9 c ∗ Sent g 12 c ∗ Reg oM c (k3 g c) 1024 g fullShare.right.left (FIN X Wt g) ∗ Reg oM c (s3 g c) 1024 g fullShare.left (FIN X Wt g)) := by
  intro K
  unfold Com phK
  simp only [Pipeline.chain_cons, wp_bind, Pipeline.chain_nil, Prog.pure_eq_ret, wp_ret]
  iintro ⟨#Hlv, #HR, ⟨Hb, HO⟩, HS8, HS9, Hp1, HF12⟩ Hk
  iapply (wp_waitC X Wt κ c g 8 oM (n := 1024) _ _ rfl rfl (q := pos g 12) (by show 22 + 3 * g.val < 36 + g.val; omega) _) $$ [HS8 HO]
  · iframe; isplitr; · iexact Hlv
    iexact HR
  unfold sPay rPay
  iintro ⟨HD8, HO, Hk8, Ho8⟩
  iapply (wp_waitC X Wt κ c g 9 oM (n := 1024) _ _ rfl rfl (q := pos g 12) (by show 30 + 2 * g.val < 36 + g.val; omega) _) $$ [HS9 HO]
  · iframe; isplitr; · iexact Hlv
    iexact HR
  unfold sPay rPay
  iintro ⟨HD9, HO, Hk9, Ho9⟩
  ihave Ho := (reg_whole (b := b3 g c) (N := 2048) (n := 1024) (bit_le (ax g 2) c) rfl) $$ [Ho8 Ho9]
  · isplitl [Ho9]; · iexact Ho9
    iexact Ho8
  iapply (wp_sendBack X Wt κ c g 12 (p1 g c) rfl oM (n := 2048) _ _ rfl rfl (FIN X Wt g) (FIN X Wt g)
    (fun i j _ => rfl) fullShare (BIBase.Entails.rfl) (by rw [rPay12]) _) $$ [HF12 HO Ho Hp1]
  · iframe; iexact HR
  iintro ⟨HS12, HO⟩
  imodintro
  iapply Hk
  iframe

theorem phL_step (g : Fin 3) (c : Dev nD) (q : ℕ) (hq : 38 < q) : Step X Wt κ c (phL g c) q q
    iprop(Sent g 10 c ∗ Sent g 11 c ∗ Sent g 12 c ∗ Reg oM c (k3 g c) 1024 g fullShare.left (FIN X Wt g)
      ∗ Reg oM c (k3 g c) 1024 g fullShare.right.left (FIN X Wt g) ∗ Reg oM c (s3 g c) 1024 g fullShare.left (FIN X Wt g))
    iprop(Done g 10 c ∗ Done g 11 c ∗ Done g 12 c ∗ Reg oM c 0 8192 g fullShare (FIN X Wt g)) := by
  intro K
  unfold Com phL
  simp only [Pipeline.chain_cons, wp_bind, Pipeline.chain_nil, Prog.pure_eq_ret, wp_ret]
  have hg := g.isLt
  iintro ⟨#Hlv, #HR, ⟨Hb, HO⟩, HS10, HS11, HS12, Hkl, Hkrl, Hsl⟩ Hk
  iapply (wp_waitC X Wt κ c g 10 oM (n := 1024) _ _ rfl rfl (q := q) (by show 23 + 3 * g.val < q; omega) _) $$ [HS10 HO]
  · iframe; isplitr; · iexact Hlv
    iexact HR
  unfold sPay rPay
  iintro ⟨HD10, HO, Hkrr, Ho10⟩
  iapply (wp_waitC X Wt κ c g 11 oM (n := 1024) _ _ rfl rfl (q := q) (by show 31 + 2 * g.val < q; omega) _) $$ [HS11 HO]
  · iframe; isplitr; · iexact Hlv
    iexact HR
  unfold sPay rPay
  iintro ⟨HD11, HO, Hsr, Ho11⟩
  iapply (wp_waitC X Wt κ c g 12 oM (n := 2048) _ _ rfl rfl (q := q) (by show 36 + g.val < q; omega) _) $$ [HS12 HO]
  · iframe; isplitr; · iexact Hlv
    iexact HR
  rw [sPay12]; unfold rPay
  iintro ⟨HD12, HO, Hs2, Ho12⟩
  ihave Hkr := reg_unshare $$ [Hkrl Hkrr]
  · isplitl [Hkrl]; · iexact Hkrl
    iexact Hkrr
  ihave Hk3 := reg_unshare $$ [Hkl Hkr]
  · isplitl [Hkl]; · iexact Hkl
    iexact Hkr
  ihave Hs3 := reg_unshare $$ [Hsl Hsr]
  · isplitl [Hsl]; · iexact Hsl
    iexact Hsr
  ihave Hk2 := (reg_whole (r := k2 g c) (b := b3 g c) (N := 2048) (n := 1024) (bit_le (ax g 2) c) rfl) $$ [Hk3 Hs3]
  · isplitl [Hs3]; · iexact Hs3
    iexact Hk3
  ihave Hk1 := (reg_whole (M := oM) (c := c) (g := g) (q := fullShare) (V := FIN X Wt g) (r := k1 g c) (b := b2 g c) (N := 4096) (n := 2048) (bit_le (ax g 1) c) rfl) $$ [Hk2 Hs2]
  · isplitl [Hs2]; · iexact Hs2
    iexact Hk2
  ihave Hz := (reg_whole (r := s1 g c + 2048 * b2 g c) (b := b3 g c) (N := 2048) (n := 1024) (bit_le (ax g 2) c) rfl) $$ [Ho10 Ho11]
  · isplitl [Ho11]; · iexact Ho11
    iexact Ho10
  ihave Hz := (reg_whole (r := s1 g c) (b := b2 g c) (N := 4096) (n := 2048) (bit_le (ax g 1) c) rfl) $$ [Hz Ho12]
  · isplitl [Ho12]; · iexact Ho12
    iexact Hz
  imodintro
  iapply Hk
  isplitl [Hb HO]; · iframe
  isplitl [HD10]; · iexact HD10
  isplitl [HD11]; · iexact HD11
  isplitl [HD12]; · iexact HD12
  iapply (reg_whole (r := 0) (b := b1 g c) (N := 8192) (n := 4096) (bit_le (ax g 0) c) rfl)
  rw [show 0 + 4096 * (1 - b1 g c) = s1 g c by unfold s1; omega, show 0 + 4096 * b1 g c = k1 g c by unfold k1; omega]
  isplitl [Hz]; · iexact Hz
  iexact Hk1

end Cert.KernelIdeal.Pf

end
-- ==== Proof.Body.lean ====
/-
# The kernel's body

The phases one after another, for the three column groups at once: from a device's own result buffer and the landing
buffers the handshake brings to the whole result, every transfer waited for and every semaphore back at zero.
-/
module

public import proofs.«01_k».proof.Proof.Phases

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Resources in any order -/

theorem both_ways {P Q : sProp 𝕄} (h : P ⊢ Q) (h' : Q ⊢ P) : P = Q := equiv_iff.mp ⟨h, h'⟩

instance star_comm : _root_.Std.Commutative (α := sProp 𝕄) BIBase.sep where
  comm P Q := both_ways (by iintro ⟨H1, H2⟩; isplitl [H2] <;> iassumption) (by iintro ⟨H1, H2⟩; isplitl [H2] <;> iassumption)
instance star_assoc : _root_.Std.Associative (α := sProp 𝕄) BIBase.sep where
  assoc P Q R := both_ways (by iintro ⟨⟨H1, H2⟩, H3⟩; isplitl [H1]; · iexact H1
                               isplitl [H2] <;> iassumption)
    (by iintro ⟨H1, H2, H3⟩; isplitl [H1 H2]
        · isplitl [H1] <;> iassumption
        iexact H3)

/-! ## Phases in sequence -/

/-- Running two lists of programs one after the other. -/
theorem chain_append (c : Dev nD) (l l' : List (PR F)) (K : PUnit → sProp 𝕄) :
    WP c (Pipeline.chain (l ++ l')) K = WP c (Pipeline.chain l) (fun _ => WP c (Pipeline.chain l') K) := by
  have e : (Pipeline.chain (l ++ l') : PR F) = Pipeline.chain l >>= fun _ => Pipeline.chain l' := by
    induction l with
    | nil => rfl
    | cons p l ih => rw [List.cons_append, Pipeline.chain_cons, Pipeline.chain_cons, ih]; exact (Prog.bind_assoc p _ _).symm
  rw [e]; simp only [wp_bind]

section Seq

variable {X : Dev nD → XB F} {Wt : Dev nD → WB F} {κ : Dev nD × KC → ℕ} {c : Dev nD} {l l' : List (PR F)} {q q' q'' : ℕ}

/-- A phase leaves alone what it does not need. -/
theorem Step.next {A B R S' : sProp 𝕄} (h : Step X Wt κ c l q q' A B) (e : iprop(B ∗ R) = S') : Step X Wt κ c l q q' iprop(A ∗ R) S' := by
  subst e
  intro K
  iintro ⟨Hlv, HR, HC, HA, Hr⟩ Hk
  iapply (h K) $$ [Hlv HR HC HA]
  · isplitl [Hlv]; · iexact Hlv
    isplitl [HR]; · iexact HR
    isplitl [HC]; · iexact HC
    iexact HA
  iintro ⟨HC, HB⟩
  iapply Hk
  isplitl [HC]; · iexact HC
  isplitl [HB]; · iexact HB
  iexact Hr

theorem Step.seq {A B C : sProp 𝕄} (h : Step X Wt κ c l q q' A B) (h' : Step X Wt κ c l' q' q'' B C) : Step X Wt κ c (l ++ l') q q'' A C := by
  intro K
  rw [chain_append]
  iintro ⟨#Hlv, #HR, HC, HA⟩ Hk
  iapply (h _) $$ [HC HA]
  · isplitr; · iexact Hlv
    isplitr; · iexact HR
    isplitl [HC]; · iexact HC
    first | iexact HA | iexact HB
  iintro ⟨HC, HB⟩
  iapply (h' K) $$ [HC HB]
  · isplitr; · iexact Hlv
    isplitr; · iexact HR
    isplitl [HC]; · iexact HC
    first | iexact HA | iexact HB
  iexact Hk

end Seq

variable (X : Dev nD → XB F) (Wt : Dev nD → WB F) (κ : Dev nD × KC → ℕ)

/-- One resource of each column group. -/
def A3 (P : Fin 3 → sProp 𝕄) : sProp 𝕄 := bigSep Finset.univ P

theorem A3_eq (P : Fin 3 → sProp 𝕄) : A3 P = iprop(P 0 ∗ P 1 ∗ P 2) := bigSep_univ_eq_bigSepL [0, 1, 2] (by decide) (by decide) P

/-- A phase of the three groups. -/
theorem each_step {c : Dev nD} (ph : Fin 3 → Dev nD → List (PR F)) (q0 q1 q2 q3 : ℕ) (A B : Fin 3 → sProp 𝕄)
    (h0 : Step X Wt κ c (ph 0 c) q0 q1 (A 0) (B 0)) (h1 : Step X Wt κ c (ph 1 c) q1 q2 (A 1) (B 1)) (h2 : Step X Wt κ c (ph 2 c) q2 q3 (A 2) (B 2)) :
    Step X Wt κ c (each ph c) q0 q3 (A3 A) (A3 B) := by
  rw [A3_eq, A3_eq]
  have h1' : Step X Wt κ c (ph 1 c) q1 q2 iprop(B 0 ∗ A 1 ∗ A 2) iprop(B 0 ∗ B 1 ∗ A 2) := by
    have := h1.next (R := iprop(B 0 ∗ A 2)) (S' := iprop(B 0 ∗ B 1 ∗ A 2)) (by ac_rfl)
    rwa [show iprop(A 1 ∗ B 0 ∗ A 2) = iprop(B 0 ∗ A 1 ∗ A 2) by ac_rfl] at this
  have h2' : Step X Wt κ c (ph 2 c) q2 q3 iprop(B 0 ∗ B 1 ∗ A 2) iprop(B 0 ∗ B 1 ∗ B 2) := by
    have := h2.next (R := iprop(B 0 ∗ B 1)) (S' := iprop(B 0 ∗ B 1 ∗ B 2)) (by ac_rfl)
    rwa [show iprop(A 2 ∗ B 0 ∗ B 1) = iprop(B 0 ∗ B 1 ∗ A 2) by ac_rfl] at this
  exact ((h0.next (R := iprop(A 1 ∗ A 2)) (S' := iprop(B 0 ∗ A 1 ∗ A 2)) rfl).seq h1').seq h2'

/-! ## A group's resources before each phase -/

section States

variable (c : Dev nD) (g : Fin 3)

def stA : sProp 𝕄 :=
  iprop((Fresh g 0 c ∗ Any oM c (s1 g c + 2048 * (1 - b2 g c)) 2048 g ∗ Any r1M (p1 g c) (2048 * (1 - b2 g c)) 2048 g)
    ∗ Fresh g 1 c ∗ Fresh g 2 c ∗ Fresh g 3 c ∗ Fresh g 4 c ∗ Fresh g 5 c ∗ Fresh g 6 c ∗ Fresh g 7 c ∗ Fresh g 8 c ∗ Fresh g 9 c ∗ Fresh g 10 c ∗
      Fresh g 11 c ∗ Fresh g 12 c ∗ Any oM c (s1 g c + 2048 * b2 g c) 2048 g ∗ Any r1M (p1 g c) (2048 * b2 g c) 2048 g ∗ Any oM c (k1 g c) 4096 g ∗
      Any r2M (p2 g c) (1024 * (1 - b3 g c)) 1024 g ∗ Any r2M (p2 g c) (1024 * b3 g c) 1024 g ∗ Any r3M (p3 g c) 0 512 g ∗ Any r3M (p3 g c) 512 512 g)
def stB : sProp 𝕄 :=
  iprop((Fresh g 1 c ∗ Any oM c (s1 g c + 2048 * b2 g c) 2048 g ∗ Any r1M (p1 g c) (2048 * b2 g c) 2048 g)
    ∗ Sent g 0 c ∗ Fresh g 2 c ∗ Fresh g 3 c ∗ Fresh g 4 c ∗ Fresh g 5 c ∗ Fresh g 6 c ∗ Fresh g 7 c ∗ Fresh g 8 c ∗ Fresh g 9 c ∗ Fresh g 10 c ∗
      Fresh g 11 c ∗ Fresh g 12 c ∗ Any oM c (k1 g c) 4096 g ∗ Any r2M (p2 g c) (1024 * (1 - b3 g c)) 1024 g ∗ Any r2M (p2 g c) (1024 * b3 g c) 1024 g ∗
      Any r3M (p3 g c) 0 512 g ∗ Any r3M (p3 g c) 512 512 g)
def stC : sProp 𝕄 :=
  iprop((Any oM c (k1 g c) 4096 g)
    ∗ Sent g 1 c ∗ Sent g 0 c ∗ Fresh g 2 c ∗ Fresh g 3 c ∗ Fresh g 4 c ∗ Fresh g 5 c ∗ Fresh g 6 c ∗ Fresh g 7 c ∗ Fresh g 8 c ∗ Fresh g 9 c ∗
      Fresh g 10 c ∗ Fresh g 11 c ∗ Fresh g 12 c ∗ Any r2M (p2 g c) (1024 * (1 - b3 g c)) 1024 g ∗ Any r2M (p2 g c) (1024 * b3 g c) 1024 g ∗
      Any r3M (p3 g c) 0 512 g ∗ Any r3M (p3 g c) 512 512 g)
def stD : sProp 𝕄 :=
  iprop((Sent g 0 c ∗ Reg oM c (s2 g c) 2048 g fullShare (Q0 X Wt g c) ∗ Fresh g 2 c ∗ Fresh g 3 c ∗ Any r2M (p2 g c) (1024 * (1 - b3 g c)) 1024 g ∗
      Any r2M (p2 g c) (1024 * b3 g c) 1024 g)
    ∗ Reg oM c (k2 g c) 2048 g fullShare (Q0 X Wt g c) ∗ Sent g 1 c ∗ Fresh g 4 c ∗ Fresh g 5 c ∗ Fresh g 6 c ∗ Fresh g 7 c ∗ Fresh g 8 c ∗
      Fresh g 9 c ∗ Fresh g 10 c ∗ Fresh g 11 c ∗ Fresh g 12 c ∗ Any r3M (p3 g c) 0 512 g ∗ Any r3M (p3 g c) 512 512 g)
def stE : sProp 𝕄 :=
  iprop((Sent g 1 c ∗ Reg oM c (k2 g c) 2048 g fullShare (Q0 X Wt g c))
    ∗ Done g 0 c ∗ Any oM (p1 g c) (s2 g c) 2048 g ∗ Sent g 2 c ∗ Sent g 3 c ∗ Fresh g 4 c ∗ Fresh g 5 c ∗ Fresh g 6 c ∗ Fresh g 7 c ∗ Fresh g 8 c ∗
      Fresh g 9 c ∗ Fresh g 10 c ∗ Fresh g 11 c ∗ Fresh g 12 c ∗ Any r3M (p3 g c) 0 512 g ∗ Any r3M (p3 g c) 512 512 g)
def stF : sProp 𝕄 :=
  iprop((Sent g 2 c ∗ Reg oM c (s3 g c) 1024 g fullShare (Q1 X Wt g c) ∗ Fresh g 4 c ∗ Fresh g 5 c ∗ Any r3M (p3 g c) 0 512 g ∗ Any r3M (p3 g c) 512 512 g)
    ∗ Done g 1 c ∗ Any oM (p1 g c) (s3 g c) 1024 g ∗ Any oM (p1 g c) (k3 g c) 1024 g ∗ Reg oM c (k3 g c) 1024 g fullShare (Q1 X Wt g c) ∗
      Done g 0 c ∗ Any oM (p1 g c) (s2 g c) 2048 g ∗ Sent g 3 c ∗ Fresh g 6 c ∗ Fresh g 7 c ∗ Fresh g 8 c ∗ Fresh g 9 c ∗ Fresh g 10 c ∗
      Fresh g 11 c ∗ Fresh g 12 c)
def stG : sProp 𝕄 :=
  iprop((Sent g 3 c ∗ Reg oM c (k3 g c) 1024 g fullShare (Q1 X Wt g c))
    ∗ Done g 2 c ∗ Any oM (p2 g c) (s3 g c) 1024 g ∗ Sent g 4 c ∗ Sent g 5 c ∗ Done g 1 c ∗ Any oM (p1 g c) (s3 g c) 1024 g ∗ Any oM (p1 g c) (k3 g c) 1024 g ∗
      Done g 0 c ∗ Any oM (p1 g c) (s2 g c) 2048 g ∗ Fresh g 6 c ∗ Fresh g 7 c ∗ Fresh g 8 c ∗ Fresh g 9 c ∗ Fresh g 10 c ∗ Fresh g 11 c ∗
      Fresh g 12 c)
def stH : sProp 𝕄 :=
  iprop((Sent g 4 c ∗ Reg oM c (k3 g c) 512 g fullShare (Q2 X Wt g c) ∗ Fresh g 6 c)
    ∗ Done g 3 c ∗ Any oM (p2 g c) (k3 g c) 1024 g ∗ Reg oM c (k3 g c + 512) 512 g fullShare (Q2 X Wt g c) ∗ Done g 2 c ∗ Any oM (p2 g c) (s3 g c) 1024 g ∗
      Sent g 5 c ∗ Done g 1 c ∗ Any oM (p1 g c) (s3 g c) 1024 g ∗ Any oM (p1 g c) (k3 g c) 1024 g ∗ Done g 0 c ∗ Any oM (p1 g c) (s2 g c) 2048 g ∗
      Fresh g 7 c ∗ Fresh g 8 c ∗ Fresh g 9 c ∗ Fresh g 10 c ∗ Fresh g 11 c ∗ Fresh g 12 c)
def stI : sProp 𝕄 :=
  iprop((Sent g 5 c ∗ Reg oM c (k3 g c + 512) 512 g fullShare (Q2 X Wt g c) ∗ Reg oM c (k3 g c) 512 g fullShare.right (FIN X Wt g) ∗ Any oM (p2 g c) (k3 g c) 1024 g ∗
      Any oM (p1 g c) (k3 g c) 1024 g ∗ Fresh g 7 c ∗ Fresh g 8 c ∗ Fresh g 10 c)
    ∗ Done g 4 c ∗ Sent g 6 c ∗ Done g 3 c ∗ Done g 2 c ∗ Any oM (p2 g c) (s3 g c) 1024 g ∗ Done g 1 c ∗ Any oM (p1 g c) (s3 g c) 1024 g ∗
      Done g 0 c ∗ Any oM (p1 g c) (s2 g c) 2048 g ∗ Fresh g 9 c ∗ Fresh g 11 c ∗ Fresh g 12 c)
def stJ : sProp 𝕄 :=
  iprop((Sent g 6 c ∗ Sent g 7 c ∗ Any oM (p2 g c) (s3 g c) 1024 g ∗ Any oM (p1 g c) (s3 g c) 1024 g ∗ Fresh g 9 c ∗ Fresh g 11 c)
    ∗ Done g 5 c ∗ Sent g 8 c ∗ Sent g 10 c ∗ Done g 4 c ∗ Done g 3 c ∗ Done g 2 c ∗ Done g 1 c ∗ Done g 0 c ∗ Any oM (p1 g c) (s2 g c) 2048 g ∗
      Fresh g 12 c)
def stK : sProp 𝕄 :=
  iprop((Sent g 8 c ∗ Sent g 9 c ∗ Any oM (p1 g c) (s2 g c) 2048 g ∗ Fresh g 12 c)
    ∗ Done g 6 c ∗ Done g 7 c ∗ Sent g 11 c ∗ Reg oM c (k3 g c) 1024 g fullShare.left (FIN X Wt g) ∗ Done g 5 c ∗ Sent g 10 c ∗ Done g 4 c ∗
      Done g 3 c ∗ Done g 2 c ∗ Done g 1 c ∗ Done g 0 c)
def stL : sProp 𝕄 :=
  iprop((Sent g 10 c ∗ Sent g 11 c ∗ Sent g 12 c ∗ Reg oM c (k3 g c) 1024 g fullShare.left (FIN X Wt g) ∗ Reg oM c (k3 g c) 1024 g fullShare.right.left (FIN X Wt g) ∗
      Reg oM c (s3 g c) 1024 g fullShare.left (FIN X Wt g))
    ∗ Done g 8 c ∗ Done g 9 c ∗ Done g 6 c ∗ Done g 7 c ∗ Done g 5 c ∗ Done g 4 c ∗ Done g 3 c ∗ Done g 2 c ∗ Done g 1 c ∗ Done g 0 c)
def stZ : sProp 𝕄 :=
  iprop(Done g 10 c ∗ Done g 11 c ∗ Done g 12 c ∗ Reg oM c 0 8192 g fullShare (FIN X Wt g) ∗ Done g 8 c ∗ Done g 9 c ∗ Done g 6 c ∗ Done g 7 c ∗
      Done g 5 c ∗ Done g 4 c ∗ Done g 3 c ∗ Done g 2 c ∗ Done g 1 c ∗ Done g 0 c)

end States

/-! ## The phases from state to state -/

theorem stA_step (c : Dev nD) (g : Fin 3) : Step X Wt κ c (phA g c) (pos g 0) (pos g 0 + 1) (stA c g) (stB c g) :=
  (phA_step X Wt κ g c).next (by unfold stB; ac_rfl)
theorem stB_step (c : Dev nD) (g : Fin 3) : Step X Wt κ c (phB g c) (pos g 1) (pos g 1 + 1) (stB c g) (stC c g) :=
  (phB_step X Wt κ g c).next (by unfold stC; ac_rfl)
theorem stC_step (c : Dev nD) (g : Fin 3) (q : ℕ) : Step X Wt κ c (phC g c) q q (stC c g) (stD X Wt c g) :=
  (phC_step X Wt κ g c q).next (by unfold stD; ac_rfl)
theorem stD_step (c : Dev nD) (g : Fin 3) : Step X Wt κ c (phD g c) (pos g 2) (pos g 2 + 2) (stD X Wt c g) (stE X Wt c g) :=
  (phD_step X Wt κ g c).next (by unfold stE; ac_rfl)
theorem stE_step (c : Dev nD) (g : Fin 3) (q : ℕ) (hq : pos g 1 < q) : Step X Wt κ c (phE g c) q q (stE X Wt c g) (stF X Wt c g) :=
  (phE_step X Wt κ g c q hq).next (by unfold stF; ac_rfl)
theorem stF_step (c : Dev nD) (g : Fin 3) : Step X Wt κ c (phF g c) (pos g 4) (pos g 4 + 2) (stF X Wt c g) (stG X Wt c g) :=
  (phF_step X Wt κ g c).next (by unfold stG; ac_rfl)
theorem stG_step (c : Dev nD) (g : Fin 3) (q : ℕ) (hq : pos g 3 < q) : Step X Wt κ c (phG g c) q q (stG X Wt c g) (stH X Wt c g) :=
  (phG_step X Wt κ g c q hq).next (by unfold stH; ac_rfl)
theorem stH_step (c : Dev nD) (g : Fin 3) : Step X Wt κ c (phH g c) (pos g 6) (pos g 6 + 1) (stH X Wt c g) (stI X Wt c g) :=
  (phH_step X Wt κ g c).next (by unfold stI; ac_rfl)
theorem stI_step (c : Dev nD) (g : Fin 3) : Step X Wt κ c (phI g c) (pos g 7) (pos g 7 + 3) (stI X Wt c g) (stJ c g) :=
  (phI_step X Wt κ g c).next (by unfold stJ; ac_rfl)
theorem stJ_step (c : Dev nD) (g : Fin 3) : Step X Wt κ c (phJ g c) (pos g 9) (pos g 9 + 2) (stJ c g) (stK X Wt c g) :=
  (phJ_step X Wt κ g c).next (by unfold stK; ac_rfl)
theorem stK_step (c : Dev nD) (g : Fin 3) : Step X Wt κ c (phK g c) (pos g 12) (pos g 12 + 1) (stK X Wt c g) (stL X Wt c g) :=
  (phK_step X Wt κ g c).next (by unfold stL; ac_rfl)
theorem stL_step (c : Dev nD) (g : Fin 3) (q : ℕ) (hq : 38 < q) : Step X Wt κ c (phL g c) q q (stL X Wt c g) (stZ X Wt c g) :=
  (phL_step X Wt κ g c q hq).next (by unfold stZ; ac_rfl)

/-! ## The whole of it -/

theorem f13_eq (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

/-- Everything after the handshake. -/
def after (c : Dev nD) : List (PR F) :=
  each phA c ++ each phB c ++ each phC c ++ each phD c ++ each phE c ++ each phF c ++ each phG c ++ each phH c
    ++ each phI c ++ each phJ c ++ each phK c ++ each phL c

theorem phases_after (c : Dev nD) : (phases c : List (PR F)) = hand (par 2 c) (par 1 c) (par 0 c) :: after c := by
  unfold phases after; simp only [List.append_assoc, List.singleton_append, List.cons_append, List.nil_append]

theorem after_step (c : Dev nD) : Step X Wt κ c (after c) 0 39 (A3 (stA c)) (A3 (stZ X Wt c)) :=
  (((((((((((each_step X Wt κ phA 0 1 2 3 (stA c) (stB c) (stA_step X Wt κ c 0) (stA_step X Wt κ c 1) (stA_step X Wt κ c 2)).seq
    (each_step X Wt κ phB 3 4 5 6 (stB c) (stC c) (stB_step X Wt κ c 0) (stB_step X Wt κ c 1) (stB_step X Wt κ c 2))).seq
    (each_step X Wt κ phC 6 6 6 6 (stC c) (stD X Wt c) (stC_step X Wt κ c 0 6) (stC_step X Wt κ c 1 6) (stC_step X Wt κ c 2 6))).seq
    (each_step X Wt κ phD 6 8 10 12 (stD X Wt c) (stE X Wt c) (stD_step X Wt κ c 0) (stD_step X Wt κ c 1) (stD_step X Wt κ c 2))).seq
    (each_step X Wt κ phE 12 12 12 12 (stE X Wt c) (stF X Wt c) (stE_step X Wt κ c 0 12 (by decide)) (stE_step X Wt κ c 1 12 (by decide)) (stE_step X Wt κ c 2 12 (by decide)))).seq
    (each_step X Wt κ phF 12 14 16 18 (stF X Wt c) (stG X Wt c) (stF_step X Wt κ c 0) (stF_step X Wt κ c 1) (stF_step X Wt κ c 2))).seq
    (each_step X Wt κ phG 18 18 18 18 (stG X Wt c) (stH X Wt c) (stG_step X Wt κ c 0 18 (by decide)) (stG_step X Wt κ c 1 18 (by decide)) (stG_step X Wt κ c 2 18 (by decide)))).seq
    (each_step X Wt κ phH 18 19 20 21 (stH X Wt c) (stI X Wt c) (stH_step X Wt κ c 0) (stH_step X Wt κ c 1) (stH_step X Wt κ c 2))).seq
    (each_step X Wt κ phI 21 24 27 30 (stI X Wt c) (stJ c) (stI_step X Wt κ c 0) (stI_step X Wt κ c 1) (stI_step X Wt κ c 2))).seq
    (each_step X Wt κ phJ 30 32 34 36 (stJ c) (stK X Wt c) (stJ_step X Wt κ c 0) (stJ_step X Wt κ c 1) (stJ_step X Wt κ c 2))).seq
    (each_step X Wt κ phK 36 37 38 39 (stK X Wt c) (stL X Wt c) (stK_step X Wt κ c 0) (stK_step X Wt κ c 1) (stK_step X Wt κ c 2))).seq
    (each_step X Wt κ phL 39 39 39 39 (stL X Wt c) (stZ X Wt c) (stL_step X Wt κ c 0 39 (by decide)) (stL_step X Wt κ c 1 39 (by decide)) (stL_step X Wt κ c 2 39 (by decide)))

/-- What a group has when its partners' landing buffers have come. -/
theorem group_start (c : Dev nD) (g : Fin 3) :
    iprop((bigSep Finset.univ fun k => Fresh g k c) ∗ Any oM c 0 8192 g ∗ land 0 (p1 g c) g ∗ land 1 (p2 g c) g ∗ land 2 (p3 g c) g) ⊢ (stA c g : sProp 𝕄) := by
  rw [f13_eq]
  unfold stA land
  iintro ⟨⟨F0, F1, F2, F3, F4, F5, F6, F7, F8, F9, F10, F11, F12⟩, Ho, H1, H2, H3⟩
  ihave Ho := (any_halves (M := oM) (r := 0) (b := bit (ax g 0) c) (N := 8192) (n := 4096) (bit_le (ax g 0) c) rfl) $$ Ho
  icases Ho with ⟨Hs, Hk⟩
  ihave Hs := (any_halves (b := b2 g c) (N := 4096) (n := 2048) (bit_le (ax g 1) c) rfl) $$ Hs
  icases Hs with ⟨Hs1, Hs2⟩
  ihave H1 := (any_halves (r := 0) (b := b2 g c) (N := 4096) (n := 2048) (bit_le (ax g 1) c) rfl) $$ H1
  icases H1 with ⟨H11, H12⟩
  ihave H2 := (any_halves (r := 0) (b := b3 g c) (N := 2048) (n := 1024) (bit_le (ax g 2) c) rfl) $$ H2
  icases H2 with ⟨H21, H22⟩
  ihave H3 := (any_cut (r := 0) (r' := 512) (N := 1024) (n := 512) (m := 512) rfl rfl) $$ H3
  icases H3 with ⟨H31, H32⟩
  simp only [Nat.zero_add]
  iframe
  isplitl [Hs1]; · iexact Hs1
  isplitl [Hs2]; · iexact Hs2
  iexact Hk

/-- What it ends with. -/
theorem group_end (c : Dev nD) (g : Fin 3) :
    stZ X Wt c g ⊢ iprop((bigSep Finset.univ fun k => Done g k c) ∗ Reg oM c 0 8192 g fullShare (FIN X Wt g)) :=
  Entails.of_eq (by rw [f13_eq]; unfold stZ; ac_rfl)

theorem hand_out (c : Dev nD) : iprop(A3 (land 0 c) ∗ A3 (land 1 c) ∗ A3 (land 2 c)) = (iprop(bPay 0 (par 0 c) ∗ bPay 1 (par 1 c) ∗ bPay 2 (par 2 c)) : sProp 𝕄) := by
  unfold bPay
  rw [par_par, par_par, par_par, A3_eq, A3_eq, A3_eq]
  show _ = iprop((land 0 c 0 ∗ land 1 c 1 ∗ land 2 c 2) ∗ (land 1 c 0 ∗ land 2 c 1 ∗ land 0 c 2) ∗ (land 2 c 0 ∗ land 0 c 1 ∗ land 1 c 2))
  ac_rfl

theorem hand_in (c : Dev nD) : (iprop(bPay 0 c ∗ bPay 1 c ∗ bPay 2 c) : sProp 𝕄)
    = iprop(A3 (fun g => land 0 (p1 g c) g) ∗ A3 (fun g => land 1 (p2 g c) g) ∗ A3 (fun g => land 2 (p3 g c) g)) := by
  unfold bPay
  rw [A3_eq, A3_eq, A3_eq]
  show iprop((land 0 (par 0 c) 0 ∗ land 1 (par 0 c) 1 ∗ land 2 (par 0 c) 2) ∗ (land 1 (par 1 c) 0 ∗ land 2 (par 1 c) 1 ∗ land 0 (par 1 c) 2)
      ∗ (land 2 (par 2 c) 0 ∗ land 0 (par 2 c) 1 ∗ land 1 (par 2 c) 2))
    = iprop((land 0 (par 0 c) 0 ∗ land 0 (par 2 c) 1 ∗ land 0 (par 1 c) 2) ∗ (land 1 (par 1 c) 0 ∗ land 1 (par 0 c) 1 ∗ land 1 (par 2 c) 2)
      ∗ (land 2 (par 2 c) 0 ∗ land 2 (par 1 c) 1 ∗ land 2 (par 0 c) 2))
  ac_rfl

theorem groups_start (c : Dev nD) :
    iprop(A3 (fun g => bigSep Finset.univ fun k => Fresh g k c) ∗ A3 (Any oM c 0 8192) ∗ bPay 0 c ∗ bPay 1 c ∗ bPay 2 c) ⊢ (A3 (stA c) : sProp 𝕄) := by
  rw [hand_in]
  unfold A3
  simp only [← bigSep_sep']
  exact bigSep_mono fun g _ => group_start c g

theorem groups_end (c : Dev nD) :
    A3 (stZ X Wt c) ⊢ iprop(A3 (fun g => bigSep Finset.univ fun k => Done g k c) ∗ A3 (fun g => Reg oM c 0 8192 g fullShare (FIN X Wt g))) := by
  unfold A3
  rw [← bigSep_sep']
  exact bigSep_mono fun g _ => group_end X Wt c g

/-- A device's run: its result at the final values, every stage waited for. -/
theorem wp_phases (c : Dev nD) (W : Waits sig Unit) (K : PUnit → sProp 𝕄) :
    iprop(levAts Lv lev ∗ Rec X Wt κ ∗ HandRes c ∗ A3 (fun g => bigSep Finset.univ fun k => Fresh g k c) ∗ owes (c : Thread nD τ) (O₀ c) W
        ∗ Bench c (X c) (Wt c) ∗ A3 (Any oM c 0 8192) ∗ A3 (land 0 c) ∗ A3 (land 1 c) ∗ A3 (land 2 c))
      ⊢ iprop((iprop(atPos ER (bcell c) 1 ∅ 0 ∗ A3 (fun g => bigSep Finset.univ fun k => Done g k c) ∗ Bench c (X c) (Wt c) ∗ Owe c (owed c 39)
          ∗ A3 (fun g => Reg oM c 0 8192 g fullShare (FIN X Wt g))) -∗ K ⟨⟩) -∗ WP c (Pipeline.chain (phases c)) K) := by
  rw [phases_after, Pipeline.chain_cons]
  simp only [wp_bind]
  rw [hand_out]
  iintro ⟨#Hlv, #HR, HH, HF, HO, HB, Ho, Hl⟩ Hk
  iapply (wp_hand X Wt κ c W _) $$ [HH HO Hl]
  · isplitr; · iexact Hlv
    isplitr; · iexact HR
    isplitl [HH]; · iexact HH
    isplitl [HO]; · iexact HO
    iexact Hl
  iintro ⟨Hat, HO, Hl⟩
  ihave HA := (groups_start c) $$ [HF Ho Hl]
  · isplitl [HF]; · iexact HF
    isplitl [Ho]; · iexact Ho
    iexact Hl
  iapply (after_step X Wt κ c K) $$ [HB HO HA]
  · unfold Com
    isplitr; · iexact Hlv
    isplitr; · iexact HR
    isplitl [HB HO]
    · isplitl [HB]; · iexact HB
      iexact HO
    iexact HA
  unfold Com
  iintro ⟨⟨HB, HO⟩, HZ⟩
  ihave HZ := (groups_end X Wt c) $$ HZ
  icases HZ with ⟨HD, HZ⟩
  iapply Hk
  isplitl [Hat]; · iexact Hat
  isplitl [HD]; · iexact HD
  isplitl [HB]; · iexact HB
  isplitl [HO]; · iexact HO
  iexact HZ

end Cert.KernelIdeal.Pf

end
-- ==== Proof.Ends.lean ====
/-
# What a device starts and ends with

Whole buffers as rows and back, and a device's semaphores one by one: the launch's shares of them, dealt among the devices
that pay them, and all of them at zero at the end.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem all_mono {I : Type} {s : Finset I} {Φ Ψ : I → sProp 𝕄} (h : ∀ i ∈ s, Φ i ⊢ Ψ i) : bigSep s Φ ⊢ bigSep s Ψ := bigSep_mono h
theorem three (P : Fin 3 → sProp 𝕄) : bigSep Finset.univ P = iprop(P 0 ∗ P 1 ∗ P 2) := A3_eq P

/-! ## Whole buffers -/

theorem RS_gdisj {R r n : ℕ} {g g' : Fin 3} (h : g ≠ g') : Disjoint (RS R r n g) (RS R r n g') := by
  rw [Finset.disjoint_left]; intro x; simp only [mem_RS]
  revert h; revert g g'
  have e : C0 0 = 0 ∧ C0 1 = 1408 ∧ C0 2 = 2816 ∧ Wd 0 = 1408 ∧ Wd 1 = 1408 ∧ Wd 2 = 1280 := by decide
  intro g g'
  fin_cases g <;> fin_cases g' <;> intro h <;> first | exact absurd rfl h | (simp only [Fin.zero_eta, Fin.mk_one, Fin.reduceFinMk]; omega)

theorem RS_all (R : ℕ) : (Finset.univ : Finset (⟨2, ![R, 4096]⟩ : Shape).Idx) = RS R 0 R 0 ∪ (RS R 0 R 1 ∪ RS R 0 R 2) := by
  ext x
  have e : C0 0 = 0 ∧ C0 1 = 1408 ∧ C0 2 = 2816 ∧ Wd 0 = 1408 ∧ Wd 1 = 1408 ∧ Wd 2 = 1280 := by decide
  have h0 : (x 0).val < R := (x 0).isLt
  have h1 : (x 1).val < 4096 := (x 1).isLt
  simp only [Finset.mem_union, mem_RS, Finset.mem_univ, true_iff]
  omega

/-- A whole buffer by column groups. -/
theorem pts_cols {R : ℕ} (M : HM R) (hM : M.view.set = Finset.univ) (c : Dev nD) (f : Buf (Elt F) (M.view.loc (c : Thread nD τ))) :
    (M.view.loc (c : Thread nD τ) ↦{fullShare} f : sProp 𝕄)
      = A3 fun g => (M.view.loc (c : Thread nD τ) ↦[(RS R 0 R g).map M.view.emb]{fullShare} f) := by
  have e : (Finset.univ : Finset (M.view.loc (c : Thread nD τ)).2.ty.Idx) = (RS R 0 R 0).map M.view.emb ∪ ((RS R 0 R 1).map M.view.emb ∪ (RS R 0 R 2).map M.view.emb) := by
    rw [← Finset.map_union, ← Finset.map_union, ← RS_all]; exact hM.symm
  have d : ∀ g g' : Fin 3, g ≠ g' → Disjoint ((RS R 0 R g).map M.view.emb) ((RS R 0 R g').map M.view.emb) := fun g g' h => (Finset.disjoint_map _).mpr (RS_gdisj h)
  rw [A3_eq, e, both_ways (pointsTo_union (Finset.disjoint_union_right.mpr ⟨d 0 1 (by decide), d 0 2 (by decide)⟩)).1 (pointsTo_union (Finset.disjoint_union_right.mpr ⟨d 0 1 (by decide), d 0 2 (by decide)⟩)).2,
    both_ways (pointsTo_union (d 1 2 (by decide))).1 (pointsTo_union (d 1 2 (by decide))).2]

theorem any_all {R : ℕ} (M : HM R) (hM : M.view.set = Finset.univ) (c : Dev nD) (f : Buf (Elt F) (M.view.loc (c : Thread nD τ))) :
    (M.view.loc (c : Thread nD τ) ↦{fullShare} f : sProp 𝕄) ⊢ A3 (Any M c 0 R) := by
  rw [pts_cols M hM]
  exact all_mono fun g _ => by unfold Any; iintro H; iexists f; iexact H

section Out
variable (X : Dev nD → XB F) (Wt : Dev nD → WB F)

/-- The column group of a column. -/
def grp (j : ℕ) : Fin 3 := if j < 1408 then 0 else if j < 2816 then 1 else 2
/-- The result, every device's. -/
def OUT : Vec F S8192x4096 .f32 := fun x => FIN X Wt (grp (x 1).val) (x 0).val (x 1).val

theorem grp_eq {R r n : ℕ} {g : Fin 3} {x : (⟨2, ![R, 4096]⟩ : Shape).Idx} (hx : x ∈ RS R r n g) : grp (x 1).val = g := by
  obtain ⟨-, -, h1, h2⟩ := mem_RS.mp hx
  have e : C0 0 = 0 ∧ C0 1 = 1408 ∧ C0 2 = 2816 ∧ Wd 0 = 1408 ∧ Wd 1 = 1408 ∧ Wd 2 = 1280 := by decide
  unfold grp
  revert h1 h2
  fin_cases g <;> simp only [Fin.zero_eta, Fin.mk_one, Fin.reduceFinMk] <;> intro h1 h2
  · rw [if_pos (by omega)]
  · rw [if_neg (by omega), if_pos (by omega)]
  · rw [if_neg (by omega), if_neg (by omega)]

theorem out_all (c : Dev nD) : A3 (fun g => Reg oM c 0 8192 g fullShare (FIN X Wt g)) ⊢ (((c : Thread nD τ).loc main_v1_0) ↦{fullShare} OUT X Wt : sProp 𝕄) := by
  rw [show (((c : Thread nD τ).loc main_v1_0) ↦{fullShare} OUT X Wt : sProp 𝕄) = _ from pts_cols oM (View.set_whole _) c (OUT X Wt)]
  refine all_mono fun g _ => ?_
  unfold Reg; iintro ⟨%f, %hf, H⟩
  have e : (oM.view.loc (c : Thread nD τ) ↦[(RS 8192 0 8192 g).map oM.view.emb]{fullShare} f : sProp 𝕄) = (oM.view.loc (c : Thread nD τ) ↦[(RS 8192 0 8192 g).map oM.view.emb]{fullShare} OUT X Wt) := by
    apply pointsTo_congr
    intro i hi
    obtain ⟨x, hx, rfl⟩ := Finset.mem_map.mp hi
    refine eq_of_read ((hf x hx).trans ?_)
    rw [show oM.view.read (Elt F) (OUT X Wt) x = OUT X Wt x from rfl]
    unfold OUT; rw [grp_eq hx]
  rw [← e]; iexact H

end Out

/-! ## Semaphores one by one -/

theorem kc_eq (Φ : KC → sProp 𝕄) : bigSep Finset.univ Φ
    = iprop(Φ none ∗ bigSep Finset.univ (fun x : Fin 3 × Fin 13 => iprop(Φ (some (false, x)) ∗ Φ (some (true, x))))) := by
  rw [show (Finset.univ : Finset KC) = insert none (Finset.univ.map Function.Embedding.some) from by ext x; cases x <;> simp,
    bigSep_insert (by simp), bigSep_map, bigSep_univ_prod, bigSep_univ_eq_bigSepL [false, true] (by decide) (by decide), bigSep_sep']
  rfl

theorem A3_prod (Φ : Fin 3 × Fin 13 → sProp 𝕄) : A3 (fun g => bigSep Finset.univ fun k => Φ (g, k)) = bigSep Finset.univ Φ :=
  (bigSep_univ_prod Φ).symm

/-- A device's positions in its own cells at the start; -/
def ats (c : Dev nD) : sProp 𝕄 := bigSep Finset.univ fun x : KC => atPos ER (kcell (c, x)) 0 ∅ 0
/-- the tickets of its own cells' duties; -/
def toks (c : Dev nD) : sProp 𝕄 :=
  iprop((bigSep Finset.univ fun a : Fin 3 => dutyTok ER (bcell c) 0 a)
    ∗ bigSep Finset.univ fun x : Fin 3 × Fin 13 => iprop(dutyTok ER (scell c x.1 x.2) 0 0 ∗ dutyTok ER (rcell c x.1 x.2) 0 0))
/-- of the duties it pays; -/
def payToks (c : Dev nD) : sProp 𝕄 :=
  iprop((bigSep Finset.univ fun a : Fin 3 => dutyTok ER (bcell (par a c)) 0 a)
    ∗ bigSep Finset.univ fun x : Fin 3 × Fin 13 => iprop(dutyTok ER (scell c x.1 x.2) 0 0 ∗ dutyTok ER (rcell (peer x.1 x.2 c) x.1 x.2) 0 0))
/-- its credits. -/
def credsOf (c : Dev nD) : sProp 𝕄 :=
  iprop(cred (tallyAt (bcell c) () 3) ∗ bigSep Finset.univ fun x : Fin 3 × Fin 13 => cred (tallyAt (rcell c x.1 x.2) () (Ncr x.1 x.2)))

theorem start_res (c : Dev nD) : iprop(ats c ∗ payToks c ∗ credsOf c)
    ⊢ (iprop(HandRes c ∗ A3 (fun g => bigSep Finset.univ fun k => Fresh g k c)) : sProp 𝕄) := by
  unfold ats payToks credsOf HandRes
  rw [kc_eq, three, A3_prod (fun x => Fresh x.1 x.2 c)]
  have h : iprop((bigSep Finset.univ fun x : Fin 3 × Fin 13 => iprop(atPos ER (scell c x.1 x.2) 0 ∅ 0 ∗ atPos ER (rcell c x.1 x.2) 0 ∅ 0))
      ∗ (bigSep Finset.univ fun x : Fin 3 × Fin 13 => iprop(dutyTok ER (scell c x.1 x.2) 0 0 ∗ dutyTok ER (rcell (peer x.1 x.2 c) x.1 x.2) 0 0))
      ∗ bigSep Finset.univ fun x : Fin 3 × Fin 13 => cred (tallyAt (rcell c x.1 x.2) () (Ncr x.1 x.2)))
      ⊢ (bigSep Finset.univ fun x : Fin 3 × Fin 13 => Fresh x.1 x.2 c : sProp 𝕄) := by
    rw [← bigSep_sep', ← bigSep_sep']
    refine all_mono fun x _ => ?_
    unfold Fresh
    iintro ⟨⟨H1, H2⟩, ⟨H3, H4⟩, H5⟩
    isplitl [H3]; · iexact H3
    isplitl [H4]; · iexact H4
    isplitl [H1]; · iexact H1
    isplitl [H2]; · iexact H2
    iexact H5
  iintro ⟨⟨Ha, Has⟩, ⟨⟨T0, T1, T2⟩, Hts⟩, Hc, Hcs⟩
  isplitl [Ha T0 T1 T2 Hc]
  · isplitl [T0]; · iexact T0
    isplitl [T1]; · iexact T1
    isplitl [T2]; · iexact T2
    isplitl [Ha]; · iexact Ha
    iexact Hc
  iapply h
  isplitl [Has]; · iexact Has
  isplitl [Hts]; · iexact Hts
  iexact Hcs

/-- What every device has one of per index, dealt by a pairing of the devices per index. -/
theorem deal {J : Type} [Fintype J] (f : J → Dev nD → Dev nD) (hf : ∀ j c, f j (f j c) = c) (Φ : Dev nD → J → sProp 𝕄) :
    (bigSep Finset.univ fun c : Dev nD => bigSep Finset.univ fun j : J => Φ c j) = bigSep Finset.univ fun c : Dev nD => bigSep Finset.univ fun j : J => Φ (f j c) j := by
  have e : Function.Involutive (fun p : Dev nD × J => (f p.2 p.1, p.2)) := fun p => Prod.ext (hf p.2 p.1) rfl
  rw [← bigSep_univ_prod (fun p : Dev nD × J => Φ p.1 p.2), ← bigSep_univ_prod (fun p : Dev nD × J => Φ (f p.2 p.1) p.2)]
  exact bigSep_univ_equiv e.toPerm _

/-- The tickets dealt to the devices that pay. -/
theorem toks_around : (bigSep Finset.univ fun c : Dev nD => (toks c : sProp 𝕄)) ⊢ bigSep Finset.univ fun c : Dev nD => payToks c := by
  unfold toks payToks
  simp only [bigSep_sep']
  rw [deal par par_par (fun c a => (dutyTok ER (bcell c) 0 a : sProp 𝕄)),
    deal (fun x : Fin 3 × Fin 13 => peer x.1 x.2) (fun x => peer_peer x.1 x.2) (fun c x => (dutyTok ER (rcell c x.1 x.2) 0 0 : sProp 𝕄))]

/-! ## The credits of the launch -/

theorem cell_dev {a b : Dev nD} {x y : KC} (h : kcell (a, x) = kcell (b, y)) : a = b ∧ x = y := by
  have := kcell_injective h
  exact ⟨congrArg Prod.fst this, congrArg Prod.snd this⟩

theorem owed_rcell (d c : Dev nD) (g : Fin 3) (k : Fin 13) : O₀ d (rcell c g k) () = if d = peer g k c then Ncr g k else 0 := by
  have hb : ∀ a, (tallyAt (bcell (par a d)) () 1 : CellTallies nD τ sig Unit) (rcell c g k) = 0 := fun a =>
    tallyAt_ne_cell (fun h => by cases (cell_dev (x := some (true, g, k)) (y := none) h).2) _ _
  unfold O₀ owed
  simp only [Pi.add_apply, Finsupp.add_apply, hb, Finsupp.zero_apply, Nat.add_zero]
  rw [Finset.sum_apply, Finsupp.finset_sum_apply, Finset.sum_eq_single (g, k)]
  · rw [tallyAt_apply]
    by_cases h : d = peer g k c
    · subst h; rw [if_pos ⟨by rw [peer_peer], rfl⟩, if_pos rfl]
    · rw [if_neg (fun h' => h (by rw [(cell_dev h'.1).1, peer_peer])), if_neg h]
  · intro x _ hx
    rw [tallyAt_apply, if_neg]
    intro h'
    have := (cell_dev h'.1).2
    apply hx
    have e : (true, g, k) = (true, x.1, x.2) := Option.some.inj this
    exact (Prod.mk.inj e).2.symm
  · intro h; exact absurd (Finset.mem_filter.mpr ⟨Finset.mem_univ (g, k), Nat.zero_le _⟩) h

theorem owed_bcell (d c : Dev nD) : O₀ d (bcell c) () = (if d = par 0 c then 1 else 0) + (if d = par 1 c then 1 else 0) + (if d = par 2 c then 1 else 0) := by
  have hb : ∀ a, (tallyAt (bcell (par a d)) () 1 : CellTallies nD τ sig Unit) (bcell c) () = if d = par a c then 1 else 0 := fun a => by
    rw [tallyAt_apply]
    by_cases h : d = par a c
    · subst h; rw [if_pos ⟨by rw [par_par], rfl⟩, if_pos rfl]
    · rw [if_neg (fun h' => h (by rw [(cell_dev h'.1).1, par_par])), if_neg h]
  have h0 : owed d 0 (bcell c) () = 0 := by
    by_contra h
    obtain ⟨x, -, hx⟩ := owed_pos (Nat.pos_of_ne_zero h)
    cases (cell_dev hx).2
  unfold O₀
  simp only [Pi.add_apply, Finsupp.add_apply, hb, h0, Nat.zero_add]

theorem launch_rcell (c : Dev nD) (g : Fin 3) (k : Fin 13) :
    tallyOn (rcell c g k) (launchCredit (Pipeline.owing O₀) 0 (rcell c g k)) = (tallyAt (rcell c g k) () (Ncr g k) : CellTallies nD τ sig Unit) := by
  unfold tallyAt; refine congrArg _ (Finsupp.ext fun u => ?_); cases u
  rw [Pipeline.launchCredit_owing, Finsupp.single_eq_same, Finset.sum_congr rfl fun d _ => owed_rcell d c g k,
    Finset.sum_ite_eq' Finset.univ (peer g k c) fun _ => Ncr g k, if_pos (Finset.mem_univ _)]

theorem launch_bcell (c : Dev nD) :
    tallyOn (bcell c) (launchCredit (Pipeline.owing O₀) 0 (bcell c)) = (tallyAt (bcell c) () 3 : CellTallies nD τ sig Unit) := by
  unfold tallyAt; refine congrArg _ (Finsupp.ext fun u => ?_); cases u
  rw [Pipeline.launchCredit_owing, Finsupp.single_eq_same, Finset.sum_congr rfl fun d _ => owed_bcell d c, Finset.sum_add_distrib, Finset.sum_add_distrib,
    Finset.sum_ite_eq' Finset.univ (par 0 c) fun _ => 1, Finset.sum_ite_eq' Finset.univ (par 1 c) fun _ => 1, Finset.sum_ite_eq' Finset.univ (par 2 c) fun _ => 1]
  simp only [Finset.mem_univ, if_true]

theorem creds (c : Dev nD) : (Pipeline.launchCred O₀ c : sProp 𝕄) ⊢ credsOf c := by
  unfold Pipeline.launchCred credsOf
  refine (bigSep_subset (t := Finset.univ.map ⟨csem, fun x y => csem_inj x y⟩) (Finset.subset_univ _)).trans ?_
  rw [bigSep_map, kc_eq, ← launch_bcell]
  refine BIClass.sep_mono .rfl (all_mono fun x _ => ?_)
  rw [← launch_rcell]
  iintro ⟨-, H⟩; iexact H

/-! ## The end -/

theorem owed_end (c : Dev nD) : owed c 39 = 0 := by
  unfold owed
  rw [Finset.filter_eq_empty_iff.mpr (fun x _ => by revert x; decide), Finset.sum_empty]

section Close
variable (X : Dev nD → XB F) (Wt : Dev nD → WB F) (κ : Dev nD × KC → ℕ)

theorem close_cells (c : Dev nD) :
    iprop(Rec X Wt κ ∗ atPos ER (bcell c) 1 ∅ 0 ∗ A3 (fun g => bigSep Finset.univ fun k => Done g k c))
      ⊢ (|={Set.univ}=> bigSep Finset.univ fun x : KC => semVal (kcell (c, x)) 0 : sProp 𝕄) := by
  have h : iprop(atPos ER (bcell c) 1 ∅ 0 ∗ A3 (fun g => bigSep Finset.univ fun k => Done g k c))
      = (bigSep Finset.univ fun x : KC => atPos ER (kcell (c, x)) 1 ∅ 0 : sProp 𝕄) := by
    rw [kc_eq, A3_prod (fun x => Done x.1 x.2 c)]; rfl
  rw [h]
  refine (bigSep_with_persistent (R := Rec X Wt κ) fun x _ => ?_).trans (bigSep_fupd Finset.univ fun x : KC => semVal (kcell (c, x)) 0)
  iintro ⟨#HR, Hat⟩
  iapply (Rounds.cell_close ER (Rd X Wt) (Set.mem_univ (κ (c, x))) (fun h => h) (R := 1) (duties_later X Wt (kcell (c, x))))
  isplitr; · iapply (rec_inv X Wt κ (c, x)); iexact HR
  iexact Hat

end Close

/-- The kernel's own semaphores: the local two, then the stages'. -/
abbrev KO : Type := Fin 2 ⊕ (Bool × Fin 3 × Fin 13)
abbrev osem : KO → SemLoc sig
  | .inl 0 => .dma l0
  | .inl 1 => .dma l1
  | .inr x => csem (some x)

theorem ownSems0_eq (c : Dev nD) : (Pipeline.ownSems0 (Ix := Unit) (Name := ℕ) (U := UU) (Lvl := ℕ) (Val := Elt F) (τ := τ) osem c : sProp 𝕄)
    = iprop((semVal ((c : Thread nD τ), .dma l0) 0 ∗ semVal ((c : Thread nD τ), .dma l1) 0)
        ∗ bigSep Finset.univ fun x : Bool × Fin 3 × Fin 13 => semVal (kcell (c, some x)) 0) := by
  unfold Pipeline.ownSems0
  rw [bigSep_univ_sum, bigSep_univ_eq_bigSepL (I := Fin 2) [0, 1] (by decide) (by decide)]; rfl
theorem unscopedSems0_eq (c : Dev nD) : (unscopedSems0 c : sProp 𝕄) = semVal (bcell c) 0 := by
  unfold unscopedSems0; rw [bigSep_eq_bigSepL_of_eq [SemLoc.reg barS] (by decide) (by decide)]; rfl
theorem kc_some (Φ : KC → sProp 𝕄) : bigSep Finset.univ Φ = iprop(Φ none ∗ bigSep Finset.univ (fun x => Φ (some x))) := by
  rw [show (Finset.univ : Finset KC) = insert none (Finset.univ.map Function.Embedding.some) from by ext x; cases x <;> simp,
    bigSep_insert (by simp), bigSep_map]
  rfl
/-- All of them, by the cells. -/
theorem sems0_eq (c : Dev nD) :
    iprop(Pipeline.ownSems0 (Ix := Unit) (Name := ℕ) (U := UU) (Lvl := ℕ) (Val := Elt F) (τ := τ) osem c ∗ unscopedSems0 c)
      = (iprop((semVal ((c : Thread nD τ), .dma l0) 0 ∗ semVal ((c : Thread nD τ), .dma l1) 0) ∗ bigSep Finset.univ fun x : KC => semVal (kcell (c, x)) 0) : sProp 𝕄) := by
  rw [ownSems0_eq, unscopedSems0_eq, kc_some]
  ac_rfl

theorem ownSemFacts : Pipeline.OwnSemFacts cfg0.spec osem := by decide +kernel

end Cert.KernelIdeal.Pf

end
-- ==== Proof.BodyEq.lean ====
/-
# The printed body is its phases
-/
module

public import proofs.«01_k».proof.Proof.Prog

@[expose] public section

noncomputable section

namespace Cert.KernelIdeal.Pf

open Cert.KernelIdeal Cert.KernelIdeal.Gen

open Idealize.ShloMosaic
open Idealize.ShloMosaic.TcCoe
open Idealize.SL.Sem

variable {F : FTy → Type} [FloatOps F]

set_option maxRecDepth 65536 in
/-- The printed body is those phases, one after another. -/
theorem body_printed : cc0_body (F := F) xM (Memref.isWhole_whole _) wM (Memref.isWhole_whole _) oM (Memref.isWhole_whole _) r1M (Memref.isWhole_whole _)
    r2M (Memref.isWhole_whole _) r3M (Memref.isWhole_whole _) vx (Memref.isWhole_whole _) vg (Memref.isWhole_whole _) va (Memref.isWhole_whole _)
    vb (Memref.isWhole_whole _) cc0_scratch4 cc0_scratch5 cc0_scratch6 =
    ((Prog.lift .deviceId : Prog (TpuEff nD τ sig (Elt F) Λ₀ .tc) (Dev nD)) >>= fun c => Pipeline.chain (printed c)) := by
  rw [cc0_body_eq_skeleton]
  unfold cc0_body_skel
  simp only [k0_part65_eq_skeleton, k0_part65_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel,
    printed, Pipeline.chain_cons, Pipeline.chain_nil, gemmLoop, addLoop, addTrip, sendP, waitP, hand, bind_assoc, pure_bind]
  chain_rfl

end Cert.KernelIdeal.Pf

end
-- ==== Proof.Run.lean ====
/-
# The run

Every device's body from the launch's resources to the result, and the launch: @main terminates, every device's result
holding the same values, its inputs unchanged and every semaphore at zero.
-/
module

public import proofs.«01_k».proof.Proof.Ends
public import proofs.«01_k».proof.Proof.BodyEq
public import Idealize.ShloMosaic.Lib.Tactic
public import Idealize.ShloMosaic.Lib.Pipeline.CollectiveSegs

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory @main runs from. -/
def s₀ : MemSt nD τ sig (Elt F) := ⟨m, fun _ => 0, ρ⟩

/-- A device's rows of activations and its weights, as staged. -/
def Xm (c : Dev nD) : XB F := m ((c : Thread nD τ).loc main_arg0)
def Wm (c : Dev nD) : WB F := (win0_0.blk (0 : Fin 1)).view.read (Elt F) (m ((c : Thread nD τ).loc main_arg1))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The states -/

/-- What the launch's global step gives a device. -/
def G' (c : Dev nD) : sProp 𝕄 :=
  iprop(∃ κ, Rec (Xm m) (Wm m) κ ∗ (ats c ∗ payToks c ∗ (semVal ((c : Thread nD τ), .dma l0) 0 ∗ semVal ((c : Thread nD τ), .dma l1) 0)))

def start (c : Dev nD) : sProp 𝕄 :=
  iprop(G' m c ∗ credsOf c ∗ levAts Lv lev ∗ (((c : Thread nD τ).loc main_arg0) ↦{fullShare} Xm m c)
    ∗ A3 (Any oM c 0 8192) ∗ A3 (land 0 c) ∗ A3 (land 1 c) ∗ A3 (land 2 c))
def rest (c : Dev nD) : sProp 𝕄 := iprop(Scr c cc0_scratch0 ∗ Scr c cc0_scratch1 ∗ Scr c cc0_scratch2 ∗ Scr c cc0_scratch3)
def fin (c : Dev nD) : sProp 𝕄 :=
  iprop(unscopedSems0 c ∗ (((c : Thread nD τ).loc main_arg0) ↦{fullShare} Xm m c) ∗ (((c : Thread nD τ).loc main_v1_0) ↦{fullShare} OUT (Xm m) (Wm m)))

def Φ₀ (c : Dev nD) : sProp 𝕄 := iprop(start m c ∗ rest c)
def Φ₁ (c : Dev nD) : sProp 𝕄 := iprop(fin m c ∗ Pipeline.ownSems0 osem c ∗ rest c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Wm m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 1)).fetch t = true := by rw [fin_N t]; rfl

theorem owns_whole_eq (c : Dev nD) (b : Ref sig .tc) (V : b.ty.Contents (Elt F)) :
    (owns (Ix := Unit) (Name := ℕ) (U := UU) (Lvl := ℕ) (c : Thread nD τ) (Memref.whole b) fullShare V : sProp 𝕄)
      = iprop(∃ f : Buf (Elt F) (((c : Dev nD) : Thread nD τ).loc b), ⌜f = V⌝ ∗ (((c : Thread nD τ).loc b) ↦{fullShare} f)) := by
  unfold owns; simp only [Memref.view_whole, View.read_whole, View.set_whole]

abbrev stg (c : Dev nD) (b : Ref sig .tc) (V : b.ty.Contents (Elt F)) : sProp 𝕄 :=
  iprop(∃ f : Buf (Elt F) (((c : Dev nD) : Thread nD τ).loc b), ⌜f = V⌝ ∗ (((c : Thread nD τ).loc b) ↦{fullShare} f))

def bodyPre (c : Dev nD) : sProp 𝕄 :=
  iprop(Φ₀ m c ∗ (dats m ρ 0 c).owesAt () t₀.castSucc ∗ (∃ d, stg c cc0_stg0_0 ((dats m ρ 0 c).before (0 : Fin 1) t₀ d)))
def bodyPost (c : Dev nD) : sProp 𝕄 :=
  iprop(Φ₁ m c ∗ (dats m ρ 0 c).owesAt () t₀.succ ∗ stg c cc0_stg0_0 (Wm m c))

/-- The body as the program has it. -/
abbrev theBody : Prog (TpuEff nD τ sig (Elt F) Λ₀ .tc) PUnit :=
  cc0_body xM (Memref.isWhole_whole _) wM (Memref.isWhole_whole _) oM (Memref.isWhole_whole _) r1M (Memref.isWhole_whole _) r2M (Memref.isWhole_whole _)
    r3M (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) cc0_scratch4 cc0_scratch5 cc0_scratch6

set_option maxHeartbeats 800000 in
theorem sound_body (c : Dev nD) : bodyPre m ρ c ⊢ WP c (theBody (F := F)) (fun _ => bodyPost m ρ c) := by
  unfold theBody WP
  rw [body_printed]
  simp only [Prog.lift, Prog.bind_op, Prog.bind_ret, wp_deviceId]
  rw [printed_eq]
  unfold bodyPre Φ₀ start G' rest
  iintro ⟨⟨⟨⟨%κ, #HR, Hat, Htk, Hl0, Hl1⟩, Hcr, #Hlv, Hx, Ho, Hr1, Hr2, Hr3⟩, S0, S1, S2, S3⟩, HO, ⟨%d0, %g0, %hg0, Hw⟩⟩
  have hw : g0 = Wm m c := by rw [hg0]; unfold Dat.before; rw [if_pos (fetch_0 t₀)]; rfl
  subst hw
  unfold Dat.owesAt Pipeline.owesWithin
  icases HO with ⟨%W, %hW, HO⟩
  rw [show (dats m ρ 0 c).owed t₀.castSucc = O₀ c from rfl]
  ihave HH := (start_res c) $$ [Hat Htk Hcr]
  · isplitl [Hat]; · iexact Hat
    isplitl [Htk]; · iexact Htk
    iexact Hcr
  icases HH with ⟨HH, HF⟩
  iapply (wp_fupd _ _ _ _ _)
  iapply (wp_phases (Xm m) (Wm m) κ c W (fun _ => iprop(|={Set.univ}=> bodyPost m ρ c))) $$ [HH HF HO Hx Hw Hl0 Hl1 S0 S1 S2 S3 Ho Hr1 Hr2 Hr3]
  · isplitr; · iexact Hlv
    isplitr; · iexact HR
    isplitl [HH]; · iexact HH
    isplitl [HF]; · iexact HF
    isplitl [HO]; · iexact HO
    isplitl [Hx Hw Hl0 Hl1 S0 S1 S2 S3]
    · unfold Bench
      iframe
    isplitl [Ho]; · iexact Ho
    isplitl [Hr1]; · iexact Hr1
    isplitl [Hr2]; · iexact Hr2
    iexact Hr3
  iintro ⟨Hat, HD, HB, HO, Hout⟩
  imod (close_cells (Xm m) (Wm m) κ c) $$ [Hat HD] with Hz
  · isplitr; · iexact HR
    isplitl [Hat]; · iexact Hat
    iexact HD
  ihave Hout := (out_all (Xm m) (Wm m) c) $$ Hout
  rw [owed_end]
  unfold Bench Owe
  icases HO with ⟨%W', HO⟩
  icases HB with ⟨S0, S1, S2, S3, Hl0, Hl1, Hx, Hw⟩
  ihave Hs := (Entails.of_eq (sems0_eq (F := F) c).symm) $$ [Hl0 Hl1 Hz]
  · isplitl [Hl0 Hl1]
    · isplitl [Hl0]; · iexact Hl0
      iexact Hl1
    iexact Hz
  icases Hs with ⟨Hos, Hus⟩
  imodintro
  unfold bodyPost Φ₁ fin rest Dat.owesAt Pipeline.owesWithin
  rw [show (dats m ρ 0 c).owed t₀.succ = 0 from rfl]
  isplitl [Hos Hus Hx Hout S0 S1 S2 S3]
  · isplitl [Hus Hx Hout]
    · isplitl [Hus]; · iexact Hus
      isplitl [Hx]; · iexact Hx
      iexact Hout
    isplitl [Hos]; · iexact Hos
    isplitl [S0]; · iexact S0
    isplitl [S1]; · iexact S1
    isplitl [S2]; · iexact S2
    iexact S3
  isplitl [HO]
  · iexists W'
    isplitr; · ipureintro; exact fun _ _ => Or.inl trivial
    iexact HO
  iexists _; isplitr; · (ipureintro; rfl)
  iexact Hw

theorem bigSep_W (Φ : Fin cfg0.W → sProp 𝕄) : bigSep Finset.univ Φ = iprop(Φ (0 : Fin 1)) := bigSep_W0 Φ

set_option maxRecDepth 4000 in
/-- The body obligation on a device. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

/-! ## The launch -/

theorem share_eq (c : Dev nD) (w : Fin cfg0.W) : (dats m ρ 0 c).share w = fullShare := by unfold Dat.share; split <;> rfl

def allCells : Finset (GSem nD τ sig) := Finset.univ.map ⟨kcell, kcell_injective⟩

/-- A duty of a device's cell: the barrier's three, each stage's two. -/
abbrev TT : Type := Fin 3 ⊕ (Bool × Fin 3 × Fin 13)
abbrev tokOf (cj : Dev nD × TT) : GSem nD τ sig × ℕ × Fin 3 := match cj.2 with
  | .inl a => (bcell cj.1, 0, a)
  | .inr x => (kcell (cj.1, some x), 0, 0)
theorem tokOf_injective : Function.Injective tokOf := by
  rintro ⟨c, a | x⟩ ⟨c', a' | x'⟩ h
  · obtain ⟨rfl, -⟩ := cell_dev (congrArg Prod.fst h)
    have : a = a' := congrArg (fun y : GSem nD τ sig × ℕ × Fin 3 => y.2.2) h
    rw [this]
  · cases (cell_dev (x := none) (y := some x') (congrArg Prod.fst h)).2
  · cases (cell_dev (x := some x) (y := none) (congrArg Prod.fst h)).2
  · obtain ⟨rfl, e⟩ := cell_dev (x := some x) (y := some x') (congrArg Prod.fst h)
    rw [Option.some.inj e]
def allToks : Finset (GSem nD τ sig × ℕ × Fin 3) := Finset.univ.map ⟨tokOf, tokOf_injective⟩

/-- What the launch deals a device. -/
def G (c : Dev nD) : sProp 𝕄 :=
  iprop((bigSep Finset.univ fun x : KC => roundState ER (Rd (Xm m) (Wm m)) (kcell (c, x)) 0)
    ∗ (ats c ∗ bigSep Finset.univ fun x : KC => reached ER (kcell (c, x)) 0) ∗ toks c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun x : KC => Φ (kcell (c, x)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum, bigSep_univ_prod, bigSep_univ_eq_bigSepL (I := Bool) [false, true] (by decide) (by decide), bigSep_sep']; rfl
  iintro HX
  imod (Rounds.fund ER (Rd (Xm m) (Wm m)) allCells allToks) $$ HX with ⟨Hst, Hr, Hat, Htok⟩
  imodintro
  ihave Hst' := (Entails.of_eq (hX fun g => roundState ER (Rd (Xm m) (Wm m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G ats; simp only [bigSep_sep']
  isplitl [Hst']; · iexact Hst'
  isplitl [Hat' Hr']
  · isplitl [Hat']; · iexact Hat'
    iexact Hr'
  iexact Htok'

/-- The local two semaphores. -/
def locals (c : Dev nD) : sProp 𝕄 := iprop(semVal ((c : Thread nD τ), .dma l0) 0 ∗ semVal ((c : Thread nD τ), .dma l1) 0)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : KC => iprop(∃ κ : ℕ, cellInv ER (Rd (Xm m) (Wm m)) κ (kcell (c, x))))
          ∗ (bigSep Finset.univ fun x : KC => reached ER (kcell (c, x)) 0) ∗ ats c ∗ toks c ∗ locals c) := by
  unfold G locals
  iintro ⟨Hos, Hus, Hst, ⟨Hat, Hr⟩, Htok⟩
  ihave Hv := (Entails.of_eq (sems0_eq (F := F) c)) $$ [Hos Hus]
  · isplitl [Hos] <;> iassumption
  icases Hv with ⟨Hl, Hv⟩
  imod (show iprop((bigSep Finset.univ fun x : KC => semVal (kcell (c, x)) 0) ∗ bigSep Finset.univ fun x : KC => roundState ER (Rd (Xm m) (Wm m)) (kcell (c, x)) 0)
      ⊢ (|={Set.univ}=> bigSep Finset.univ fun x : KC => iprop(∃ κ : ℕ, cellInv ER (Rd (Xm m) (Wm m)) κ (kcell (c, x))) : sProp 𝕄) from by
        rw [← bigSep_sep']
        exact (bigSep_mono fun x _ => (Rounds.body_intro ER (Rd (Xm m) (Wm m)) (kcell (c, x))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact Hl

theorem regroup :
    (bigSep Finset.univ fun c : Dev nD => iprop((bigSep Finset.univ fun x : KC => iprop(∃ κ : ℕ, cellInv ER (Rd (Xm m) (Wm m)) κ (kcell (c, x))))
          ∗ (bigSep Finset.univ fun x : KC => reached ER (kcell (c, x)) 0) ∗ ats c ∗ toks c ∗ locals c) : sProp 𝕄)
      ⊢ bigSep Finset.univ (G' m) := by
  simp only [bigSep_sep']
  rw [← bigSep_univ_prod (fun ck : Dev nD × KC => iprop(∃ κ : ℕ, cellInv ER (Rd (Xm m) (Wm m)) κ (kcell ck))),
    ← bigSep_univ_prod (fun ck : Dev nD × KC => (reached ER (kcell ck) 0 : sProp 𝕄))]
  iintro ⟨HI, #HR, Hat, Htok, Hl⟩
  ihave HK := (BI.bigSep_exists_pi Finset.univ (fun (ck : Dev nD × KC) (κ : ℕ) => (cellInv ER (Rd (Xm m) (Wm m)) κ (kcell ck) : sProp 𝕄))) $$ HI
  icases HK with ⟨%κ, #HI⟩
  ihave Htk := (toks_around (F := F)) $$ Htok
  have hone : ∀ c ∈ (Finset.univ : Finset (Dev nD)), iprop(Rec (Xm m) (Wm m) κ ∗ (ats c ∗ payToks c ∗ locals c)) ⊢ G' m c := fun c _ => by
    unfold G' locals; iintro H; iexists κ; iexact H
  iapply (bigSep_with_persistent (R := Rec (Xm m) (Wm m) κ) hone)
  isplitr
  · unfold Rec; isplitl; · iexact HI
    iexact HR
  · simp only [bigSep_sep']
    isplitl [Hat]; · iexact Hat
    isplitl [Htk]; · iexact Htk
    iexact Hl

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

def u₀ : UU :=
  (initOf (Pipeline.cells cfgs cellOf_inj) (Pipeline.launchToks cfgs cellOf_inj), (initOf allCells allToks, 1))

theorem own_split (a : UR sig nD τ) (b : UB) : (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

/-! ### The side conditions -/

theorem start_intro (c : Dev nD) :
    iprop(Pipeline.unscopedRestP Pipeline.Prefetch.none cfg0.spec c (fun b => m ((c : Thread nD τ).loc b)) ∗ levAts Lv lev
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho, H1, H2, H3⟩, Hlev, Hcr, -, HG⟩
  ihave Hc := (creds (F := F) c) $$ Hcr
  ihave Ho := (any_all oM (View.set_whole _) c _) $$ Ho
  ihave H1 := (any_all r1M (View.set_whole _) c _) $$ H1
  ihave H2 := (any_all r2M (View.set_whole _) c _) $$ H2
  ihave H3 := (any_all r3M (View.set_whole _) c _) $$ H3
  imodintro
  unfold start
  isplitl
  · isplitl [HG]; · iexact HG
    isplitl [Hc]; · iexact Hc
    isplitl [Hlev]; · iexact Hlev
    isplitl [Hx]; · iexact Hx
    isplitl [Ho]; · iexact Ho
    isplitl [H1]; · iexact H1
    isplitl [H2]; · iexact H2
    iexact H3
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ rest Scr
  iintro ⟨Hs, -, Hr⟩
  isplitl [Hs]; · iexact Hs
  iexact Hr

theorem phi1_exit (c : Dev nD) :
    (dats m ρ 0 c).Φ (Fin.last cfg0.N) ⊢ iprop(fin m c ∗ Pipeline.ownSems0 osem c ∗ Pipeline.scopedRest cfg0.spec c) := by
  rw [show (dats m ρ 0 c).Φ (Fin.last cfg0.N) = Φ₁ m c from rfl, scopedRest0_eq]
  unfold Φ₁ rest Scr
  iintro H; iexact H

theorem kof_stage (w : Fin cfg0.W) (s) : ∀ x : KC, csem x ≠ .dma ((cfg0.win w).sem s) := by
  fin_cases w; revert s; decide +kernel

/-- What is owed at the start is owed to cells above the staging's level. -/
theorem O₀_pos {c : Dev nD} {g' : GSem nD τ sig} {u : Unit} (h : 0 < O₀ c g' u) : ∃ (d : Dev nD) (x : KC), g' = kcell (d, x) ∧ 0 < lvOf (some x) := by
  have hb : ∀ a, 0 < (tallyAt (bcell (par a c)) () 1 : CellTallies nD τ sig Unit) g' u → g' = bcell (par a c) := fun a ha => by
    rw [tallyAt_apply] at ha
    by_contra hn
    rw [if_neg (fun h' => hn h'.1)] at ha
    exact absurd ha (Nat.lt_irrefl 0)
  unfold O₀ at h
  simp only [Pi.add_apply, Finsupp.add_apply] at h
  by_cases h1 : 0 < owed c 0 g' u
  · obtain ⟨x, -, rfl⟩ := owed_pos h1
    exact ⟨_, some (true, x.1, x.2), rfl, Nat.succ_pos _⟩
  by_cases h2 : 0 < (tallyAt (bcell (par 0 c)) () 1 : CellTallies nD τ sig Unit) g' u
  · exact ⟨_, none, hb 0 h2, Nat.one_pos⟩
  by_cases h3 : 0 < (tallyAt (bcell (par 1 c)) () 1 : CellTallies nD τ sig Unit) g' u
  · exact ⟨_, none, hb 1 h3, Nat.one_pos⟩
  · exact ⟨_, none, hb 2 (by omega), Nat.one_pos⟩

theorem mayWait_stage (c : Dev nD) (s : DmaSem sig) (hs : ∀ x : KC, csem x ≠ .dma s) (O : CellTallies nD τ sig Unit) (hO : O = O₀ c ∨ O = 0) :
    (levAts Lv lev : sProp 𝕄) ⊢ MayWait (c : Thread nD τ) (.dma s) () O := by
  rcases hO with rfl | rfl
  · refine MayOwe.of_cut (L := Lv) (lev := lev) 0 (fun p hp => by rw [Finset.mem_singleton.mp hp, Lv_tc]; exact Finset.mem_singleton_self _)
      (fun g u hg => ?_) (fun p hp => by rw [Finset.mem_singleton.mp hp]; exact le_of_eq (congrArg lvOf (kof_none hs))) (fun g u hg => ?_)
    · obtain ⟨d, x, rfl, -⟩ := O₀_pos hg
      rw [Lv_tc]; exact Finset.mem_singleton_self _
    · obtain ⟨d, x, rfl, hx⟩ := O₀_pos hg
      rw [lev_k]; exact hx
  · rw [MayWait_zero]; iintro -; iempintro

theorem waits (c : Dev nD) : (levAts Lv lev : sProp 𝕄) ⊢ Pipeline.cellsWaits cfgs (dats m ρ) () 0 c :=
  Pipeline.cellsWaits_intro cfgs (dats m ρ) () 0 c fun w s t =>
    mayWait_stage c _ (kof_stage w s) _ (by
      rcases t with ⟨_ | _, ht⟩
      · exact Or.inl rfl
      · exact Or.inr rfl)

/-! ### The run -/

/-- What holds of a device at the end. -/
def QD (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ s.mem ((c : Thread nD τ).loc main_v1_0) = OUT (Xm m) (Wm m)

theorem fin_read (c : Dev nD) (s' : Phys nD τ sig (Elt F)) :
    iprop(fin m c ∗ emp ∗ SI s') ⊢ (|={Set.univ}=> iprop(⌜QD m c s'.mem⌝ ∗ SI s') : sProp 𝕄) := by
  unfold fin
  iintro ⟨⟨Hu, Hx, Ho⟩, -, HSI⟩
  ihave %hx := (SI_pointsTo_agree (st := s')) $$ [HSI Hx]
  · isplitl [HSI] <;> iassumption
  ihave %ho := (SI_pointsTo_agree (st := s')) $$ [HSI Ho]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨hs, funext fun i => hx i (Finset.mem_univ _), funext fun i => ho i (Finset.mem_univ _)⟩
  iexact HSI

/-- What holds at the end of @main. -/
def QC : PUnit × MemSt nD τ sig (Elt F) → Prop := fun r =>
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1_0) = OUT (Xm m) (Wm m)) ∧ r.2.sem = fun _ => 0

set_option maxRecDepth 8000 in
/-- Over any float values, from any memory with zero counters: @main terminates, and in every final state each device's
    result is the same array, its inputs are unchanged and every semaphore is at zero. -/
theorem run_main : θ_run defs (onTc (τ := τ) (main (F := F))) (s₀ m ρ) (QC m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := Lv) (lv := lev) (hL := Lv_of_ne) (hwaits := waits m ρ)
    (G := G m) (G' := G' m) (u₀ := u₀)
    (hu₀ := by
      unfold u₀
      iintro Hu
      ihave H := (own_split _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fin m) (Z := fun _ => iprop(emp))
    (hX := start_intro m ρ) (hin := phi0_intro m ρ) (hout := phi1_exit m ρ)
    (QY := QD m) (hY := fin_read m)
    (hQ := fun _ h hs => ⟨fun c => ⟨(h c).2.2.2.1, ((h c).1 (0 : Fin 1)).trans ((dats (F := F) m ρ 0 c).arrAt_in (0 : Fin 1) rfl _), (h c).2.2.2.2⟩,
      sem_eq_zero hs fun c => (h c).2.2.1⟩)

end Cert.KernelIdeal.Pf

end
-- ==== Proof.Value.lean ====
/-
# The value over the extended reals

At the ideal instance a device's local product is the sum of its block's products, the three exchanges add the eight
devices' products up, and the kernel's result is that total by its logistic.
-/
module

public import proofs.«01_k».proof.Proof.Run
public import Idealize.ShloMosaic.Lib.MatmulPlain
public import Idealize.ShloMosaic.Lib.StackMember
public import Idealize.ShloMosaic.Lib.Layout

@[expose] public section

noncomputable section

namespace Cert.KernelIdeal.Pf

open Cert.KernelIdeal Cert.KernelIdeal.Gen

open Idealize.ShloMosaic
open Idealize.ShloMosaic.TcCoe
open Idealize.ShloMosaic.ValueIdx
open scoped BigOperators

/-! ## A device's product -/

/-- A device's product of row `i` by column `j`. -/
def PD (xf : XB Ideal) (wf : WB Ideal) (i : Fin 8192) (j : Fin 4096) : EReal :=
  ∑ k : Fin 1024, xf (ix2 i k) * wf (ix2 k j)

/-- The tile product of a column group, read at an index. -/
theorem payG_apply (g : Fin 3) (a : XV Ideal) (b : WV Ideal g) (r : Fin 512) (j : Fin (Wd g)) :
    payG (F := Ideal) g a b (ix2 r j) = ∑ k : Fin 1024, a (ix2 r k) * b (ix2 k j) := by
  match g with
  | 0 =>
    show k0_pay13 a b (ix2 r j) = _
    unfold k0_pay13
    simp only [shapeCast_self]
    exact (Ideal.matmul_plain_apply (M := 512) (K := 1024) (N := 1408) none a b (constant S512x1408 .f32 0x00000000#32) r j).trans
      (by show Ideal.ofBits .f32 0x00000000#32 + _ = _; rw [Ideal.ofBits_zero_f32, zero_add])
  | 1 =>
    show k0_pay14 a b (ix2 r j) = _
    unfold k0_pay14
    simp only [shapeCast_self]
    exact (Ideal.matmul_plain_apply (M := 512) (K := 1024) (N := 1408) none a b (constant S512x1408 .f32 0x00000000#32) r j).trans
      (by show Ideal.ofBits .f32 0x00000000#32 + _ = _; rw [Ideal.ofBits_zero_f32, zero_add])
  | 2 =>
    show k0_pay15 a b (ix2 r j) = _
    unfold k0_pay15
    simp only [shapeCast_self]
    exact (Ideal.matmul_plain_apply (M := 512) (K := 1024) (N := 1280) none a b (constant S512x1280 .f32 0x00000000#32) r j).trans
      (by show Ideal.ofBits .f32 0x00000000#32 + _ = _; rw [Ideal.ofBits_zero_f32, zero_add])

/-- A group's weights are the block's columns from the group's first. -/
theorem Sw_apply (wf : WB Ideal) (g : Fin 3) (k : Fin 1024) (j : Fin (Wd g)) (j' : Fin 4096) (h : j'.val = C0 g + j.val) :
    Sw wf g (ix2 k j) = wf (ix2 k j') := by
  unfold Sw
  show wf ((wR g).emb (ix2 k j)) = wf _
  congr 1
  refine ix_ext ?_ ?_
  · rw [Rect.emb_apply]; show 0 + 1 * k.val = k.val; omega
  · rw [Rect.emb_apply]; show C0 g + 1 * j.val = j'.val; omega

/-- The local product at a place inside its group's columns. -/
theorem LV_eq (g : Fin 3) (xf : XB Ideal) (wf : WB Ideal) (i : Fin 8192) (j : Fin 4096) (h0 : C0 g ≤ j.val) (h1 : j.val < C0 g + Wd g) :
    LV g xf wf i.val j.val = PD xf wf i j := by
  unfold LV PD
  have hm : (j.val - C0 g) % Wd g = j.val - C0 g := Nat.mod_eq_of_lt (by omega)
  refine (congrArg _ (ix_ext (x := ix (a := 512) (b := Wd g) (i.val % 512) ((j.val - C0 g) % Wd g) (Nat.mod_lt _ (by decide)) (Nat.mod_lt _ (Wd_pos g)))
    (y := ix2 ⟨i.val % 512, Nat.mod_lt _ (by decide)⟩ ⟨(j.val - C0 g) % Wd g, Nat.mod_lt _ (Wd_pos g)⟩) rfl rfl)).trans
    ((payG_apply g _ _ _ _).trans ?_)
  refine Finset.sum_congr rfl fun k _ => ?_
  rw [Sw_apply wf g k _ j (by show j.val = C0 g + (j.val - C0 g) % Wd g; omega)]
  congr 1
  unfold Sx
  congr 1
  have := i.isLt
  refine ix_ext ?_ ?_
  · show (512 * (i.val / 512) + i.val % 512) % 8192 = i.val; omega
  · rfl

/-! ## The eight devices' sum -/

/-- A device, and those reached from it over each set of axes, are the mesh. -/
theorem partners : ∀ (g : Fin 3) (c : Dev nD),
    ({c, p1 g c, p2 g c, p1 g (p2 g c), p3 g c, p1 g (p3 g c), p2 g (p3 g c), p1 g (p2 g (p3 g c))} : Multiset (Dev nD))
      = (Finset.univ : Finset (Dev nD)).val := by decide +kernel

/-- What the three exchanges add up is the sum over the devices. -/
theorem sum_partners (f : Dev nD → EReal) (g : Fin 3) (c : Dev nD) :
    ((f c + f (p1 g c)) + (f (p2 g c) + f (p1 g (p2 g c)))) + ((f (p3 g c) + f (p1 g (p3 g c))) + (f (p2 g (p3 g c)) + f (p1 g (p2 g (p3 g c)))))
      = ∑ d : Dev nD, f d := by
  show _ = ((Finset.univ : Finset (Dev nD)).val.map f).sum
  rw [← partners g c]
  simp only [Multiset.insert_eq_cons, Multiset.map_cons, Multiset.sum_cons, Multiset.map_singleton, Multiset.sum_singleton, add_assoc]

variable (X : Dev nD → XB Ideal) (Wt : Dev nD → WB Ideal)

/-- The sum over the devices of their products. -/
def TOT (i : Fin 8192) (j : Fin 4096) : EReal := ∑ d : Dev nD, PD (X d) (Wt d) i j

/-- The silu as the kernel computes it. -/
def sig (y : EReal) : EReal := y * Ideal.logistic y

/-- What a device ends with in its rows, in its group's columns. -/
theorem Q3_eq (g : Fin 3) (c : Dev nD) (i : Fin 8192) (j : Fin 4096) (h0 : C0 g ≤ j.val) (h1 : j.val < C0 g + Wd g) :
    Q3 X Wt g c i.val j.val = sig (TOT X Wt i j) := by
  have e : (FloatOps.addf (Q2 X Wt g c i.val j.val) (Q2 X Wt g (p3 g c) i.val j.val) : EReal) = TOT X Wt i j := by
    unfold TOT
    rw [← sum_partners (fun d => PD (X d) (Wt d) i j) g c]
    simp only [← LV_eq g _ _ i j h0 h1]
    rfl
  unfold Q3 siluV sig
  rw [← e]
  rfl

/-- **The kernel's result**: every place the silu of the total product there. -/
theorem OUT_apply (x : S8192x4096.Idx) : OUT X Wt x = sig (TOT X Wt (x 0) (x 1)) := by
  unfold OUT FIN
  have h := (x 1).isLt
  have h' : (x 1).val < 4096 := h
  refine Q3_eq X Wt (grp (x 1).val) _ (x 0) (x 1) ?_ ?_ <;> unfold grp <;> split_ifs <;> simp only [C0, Wd] <;> omega

end Cert.KernelIdeal.Pf

end
-- ==== Proof.Meets.lean ====
/-
# The kernel meets the reference

The reference's product over all 8192 terms is the sum of the devices' products of their 1024, and where a total is
within the clip the reference's quotient is the kernel's product by the logistic.
-/
module

public import proofs.«01_k».proof.Defs
public import proofs.«01_k».proof.Proof.Value
public import Idealize.ShloMosaic.Lib.IdealHost
public import Idealize.ShloMosaic.Lib.Pipeline.ValueKit.Geometry
public import proofs.«01_k».proof.Proof.Gen.ReferenceIdeal.Run
public import proofs.«01_k».proof.Proof.Gen.Pre_small_sums_KernelIdeal
public import proofs.«01_k».proof.Proof.Gen.Pre_small_sums_ReferenceIdeal

@[expose] public section

noncomputable section

namespace Cert.KernelIdeal.Pf

open Cert.KernelIdeal Cert.KernelIdeal.Gen

open Idealize.ShloMosaic
open Idealize.ShloMosaic.TcCoe
open Idealize.ShloMosaic.ValueIdx
open scoped BigOperators

/-! ## The whole product by blocks -/

/-- The whole arrays' product of row `i` by column `j`. -/
def WD (x : Vec Ideal ⟨2, ![8192, 8192]⟩ .f32) (w : Vec Ideal ⟨2, ![8192, 4096]⟩ .f32) (i : Fin 8192) (j : Fin 4096) : EReal :=
  ∑ k : Fin 8192, x (ix2 i k) * w (ix2 k j)

/-- Eight blocks' products add up to the whole's. -/
theorem blocks_sum (x : Vec Ideal ⟨2, ![8192, 8192]⟩ .f32) (w : Vec Ideal ⟨2, ![8192, 4096]⟩ .f32) (i : Fin 8192) (j : Fin 4096) :
    TOT (fun d => Layout.block ⟨2, ![8192, 1024]⟩ ⟨2, ![8192, 8192]⟩ 1 8 d x) (fun d => Layout.block ⟨2, ![1024, 4096]⟩ ⟨2, ![8192, 4096]⟩ 0 8 d w) i j
      = WD x w i j := by
  unfold TOT WD PD
  rw [← Equiv.sum_comp (finProdFinEquiv (m := 8) (n := 1024)), Fintype.sum_prod_type]
  refine Finset.sum_congr rfl fun d _ => Finset.sum_congr rfl fun k _ => ?_
  simp only [Layout.block_apply]
  congr 2
  · refine ix_ext rfl ?_
    show d.val * 1024 + k.val = (finProdFinEquiv (d, k)).val
    rw [finProdFinEquiv_apply_val]; show d.val * 1024 + k.val = k.val + 1024 * d.val; omega
  · refine ix_ext ?_ rfl
    show d.val * 1024 + k.val = (finProdFinEquiv (d, k)).val
    rw [finProdFinEquiv_apply_val]; show d.val * 1024 + k.val = k.val + 1024 * d.val; omega

/-- The window of the weights is the whole array. -/
theorem Wm_eq (m : (ℓ : Loc nD τ Cert.KernelIdeal.sig) → Buf (Elt Ideal) ℓ) (c : Dev nD) :
    Wm m c = m ((c : Thread nD τ).loc main_arg1) := by
  funext x
  unfold Wm
  show m ((c : Thread nD τ).loc main_arg1) ((win0_0.blk (0 : Fin 1)).view.emb x) = _
  congr 1
  refine ix_ext ?_ ?_
  · show ((win0_0.rect (0 : Fin 1)).emb x 0 : ℕ) = x 0
    exact win0_0.rect_emb_val_of_index_zero (0 : Fin 1) 0 rfl x
  · show ((win0_0.rect (0 : Fin 1)).emb x 1 : ℕ) = x 1
    exact win0_0.rect_emb_val_of_index_zero (0 : Fin 1) 1 rfl x

/-! ## The epilogue -/

/-- The reference's clipped quotient of a total. -/
def clipped (y : EReal) : EReal :=
  Ideal.div y (1 + Ideal.exp (-(min ((60 : ℝ) : EReal) (max ((-60 : ℝ) : EReal) y))))

/-- Within the clip the quotient is the product by the logistic. -/
theorem clipped_eq (r : ℝ) (h : |r| ≤ 60) : clipped (r : EReal) = sig (r : EReal) := by
  obtain ⟨h0, h1⟩ := abs_le.mp h
  unfold clipped sig
  rw [max_eq_right (by exact_mod_cast h0), min_eq_right (by exact_mod_cast h1), Ideal.logistic_coe]
  have hp : (1 + Real.exp (-r) : ℝ) ≠ 0 := by positivity
  rw [← EReal.coe_neg, Ideal.exp_coe, ← EReal.coe_one, ← EReal.coe_add, Ideal.div_coe hp, one_div]

/-- A sum of eight reals of magnitude at most 7.5 is a real within the clip. -/
theorem small_sum (f : Dev nD → EReal) (h : ∀ d, max (f d) (-(f d)) ≤ ((7.5 : ℝ) : EReal)) : ∃ r : ℝ, ∑ d, f d = (r : EReal) ∧ |r| ≤ 60 := by
  have hr : ∀ d, ∃ r : ℝ, f d = (r : EReal) ∧ |r| ≤ 7.5 := by
    intro d
    have hd := h d
    obtain ⟨ha, hb⟩ := max_le_iff.mp hd
    induction hf : f d using EReal.rec with
    | bot => rw [hf] at hb; simp at hb
    | top => rw [hf] at ha; simp at ha
    | coe r =>
      rw [hf] at ha hb
      refine ⟨r, rfl, abs_le.mpr ⟨?_, by exact_mod_cast ha⟩⟩
      have : -r ≤ 7.5 := by exact_mod_cast hb
      linarith
  choose r hr using hr
  refine ⟨∑ d, r d, ?_, ?_⟩
  · exact (Finset.sum_congr rfl fun d _ => (hr d).1).trans (map_sum (⟨⟨((↑) : ℝ → EReal), rfl⟩, EReal.coe_add⟩ : ℝ →+ EReal) r _).symm
  · refine (Finset.abs_sum_le_sum_abs _ _).trans ((Finset.sum_le_sum fun d _ => (hr d).2).trans ?_)
    rw [Finset.sum_const, Finset.card_univ]
    show (Fintype.card (Fin 8)) • (7.5 : ℝ) ≤ 60
    rw [Fintype.card_fin]; norm_num

/-! ## The claim -/

/-- A decision whose bit is one holds. -/
theorem of_ofBool {p : Prop} [Decidable p] (h : BitVec.ofBool (decide p) = 1#1) : p := by
  by_contra hn
  rw [decide_eq_false hn] at h
  exact absurd h (by decide)

/-- The precondition at a device bounds its products. -/
theorem small_pre {m : (ℓ : Loc nD τ Cert.KernelIdeal.sig) → Buf (Elt Ideal) ℓ} (h : Cert.Pre_KernelIdeal_small_sums_KernelIdeal m)
    (c : Dev nD) (i : Fin 8192) (j : Fin 4096) :
    max (PD (m ((c : Thread nD τ).loc main_arg0)) (m ((c : Thread nD τ).loc main_arg1)) i j)
      (-(PD (m ((c : Thread nD τ).loc main_arg0)) (m ((c : Thread nD τ).loc main_arg1)) i j)) ≤ ((7.5 : ℝ) : EReal) := by
  have e := congrFun (h c) (ix2 i j)
  have d := StackMember.dotGeneral_plain_apply (m := 8192) (k := 1024) (n := 4096) (φ₁ := .f32) (φ₂ := .f32) none
    (m ((c : Thread nD τ).loc main_arg0)) (m ((c : Thread nD τ).loc main_arg1)) i j
  have e4 : Ideal.ofBits .f32 0x40F00000#32 = ((7.5 : ℝ) : EReal) := by
    simp [Ideal.ofBits, Ideal.ieee, -EReal.coe_mul, -EReal.coe_neg]; norm_num
  unfold PD
  rw [← d, ← e4]
  have e' : BitVec.ofBool (decide _) = 1#1 := e
  exact of_ofBool e'

/-- The reference's epilogue of an array, read at a place. -/
theorem epilogue_apply (P : FVec Ideal Cert.ReferenceIdeal.S8192x4096 .f32) (y : Cert.ReferenceIdeal.S8192x4096.Idx) :
    (Host.divf P
      (addf (broadcastInDim Cert.ReferenceIdeal.S8192x4096 ![] Cert.ReferenceIdeal.Gen.bcast_S_S8192x4096 (constant Cert.ReferenceIdeal.S_ .f32 0x3F800000#32))
        (Host.exp (Host.negf (minimumf (broadcastInDim Cert.ReferenceIdeal.S8192x4096 ![] Cert.ReferenceIdeal.Gen.bcast_S_S8192x4096 (id (constant Cert.ReferenceIdeal.S_ .f32 0x42700000#32)))
          (maximumf (broadcastInDim Cert.ReferenceIdeal.S8192x4096 ![] Cert.ReferenceIdeal.Gen.bcast_S_S8192x4096 (id (constant Cert.ReferenceIdeal.S_ .f32 0xC2700000#32))) P))))) : FVec Ideal Cert.ReferenceIdeal.S8192x4096 .f32) y
      = clipped (P y) := by
  have e1 : Ideal.ofBits .f32 0x3F800000#32 = 1 := Ideal.ofBits_one_f32
  have e2 : Ideal.ofBits .f32 0x42700000#32 = ((60 : ℝ) : EReal) := by
    simp [Ideal.ofBits, Ideal.ieee, -EReal.coe_mul, -EReal.coe_neg]; norm_num
  have e3 : Ideal.ofBits .f32 0xC2700000#32 = ((-60 : ℝ) : EReal) := by
    simp [Ideal.ofBits, Ideal.ieee, -EReal.coe_mul, -EReal.coe_neg]; norm_num
  unfold clipped
  rw [← e1, ← e2, ← e3]
  rfl

/-- The reference's product, read at a place. -/
theorem product_apply (x : FVec Ideal Cert.ReferenceIdeal.S8192x8192 .f32) (w : FVec Ideal Cert.ReferenceIdeal.S8192x4096 .f32) (i : Fin 8192) (j : Fin 4096) :
    (Host.dotGeneral Cert.ReferenceIdeal.dot_S8192x8192_S8192x4096_S8192x4096_1_0_0_1_n_n none x w : FVec Ideal Cert.ReferenceIdeal.S8192x4096 .f32) (ix2 i j)
      = WD x w i j :=
  StackMember.dotGeneral_plain_apply (m := 8192) (k := 8192) (n := 4096) (φ₁ := .f32) (φ₂ := .f32) none x w i j

/-- **The kernel's result on every device is the reference's.** -/
theorem meets : Cert.algebraic_KernelIdeal_ReferenceIdeal_pre_small_sums_KernelIdeal := by
  intro m g m' g' hp hm
  refine ⟨_, (θ_run _ _ _).mono (fun r h c => ?_) (run_main (F := Ideal) m g),
    (θ_run _ _ _).mono (fun r h => h 0) (Cert.ReferenceIdeal.Value.run (F := Ideal) m' g')⟩
  obtain ⟨h0, h1, h2⟩ := h.1 c
  refine ⟨h2.trans ?_, h0, h1⟩
  funext y
  rw [OUT_apply]
  obtain ⟨i, j, rfl⟩ : ∃ (i : Fin 8192) (j : Fin 4096), y = ix2 i j := ⟨y 0, y 1, eq_ix2 y⟩
  let x₀ : Vec Ideal ⟨2, ![8192, 8192]⟩ .f32 := m' (((0 : Dev Cert.ReferenceIdeal.nD) : Thread Cert.ReferenceIdeal.nD Cert.ReferenceIdeal.τ).loc Cert.ReferenceIdeal.main_arg0)
  let w₀ : Vec Ideal ⟨2, ![8192, 4096]⟩ .f32 := m' (((0 : Dev Cert.ReferenceIdeal.nD) : Thread Cert.ReferenceIdeal.nD Cert.ReferenceIdeal.τ).loc Cert.ReferenceIdeal.main_arg1)
  refine Eq.trans ?_ ((epilogue_apply _ (ix2 i j)).trans (congrArg clipped (product_apply x₀ w₀ i j))).symm
  have hx : Xm m = fun d => Layout.block ⟨2, ![8192, 1024]⟩ ⟨2, ![8192, 8192]⟩ 1 8 d x₀ := funext fun d => (hm d).1
  have hw : Wm m = fun d => Layout.block ⟨2, ![1024, 4096]⟩ ⟨2, ![8192, 4096]⟩ 0 8 d w₀ := funext fun d => (Wm_eq m d).trans (hm d).2
  obtain ⟨s, hs, hb⟩ := small_sum (fun d => PD (Xm m d) (Wm m d) i j) (fun d => by rw [Wm_eq]; exact small_pre hp d i j)
  have ht : TOT (Xm m) (Wm m) i j = WD x₀ w₀ i j := by rw [hx, hw]; exact blocks_sum _ _ i j
  rw [← ht]
  show sig (TOT (Xm m) (Wm m) i j) = _
  rw [show TOT (Xm m) (Wm m) i j = (s : EReal) from hs]
  exact (clipped_eq s hb).symm

end Cert.KernelIdeal.Pf

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_small_sums_KernelIdeal
public import proofs.«01_k».proof.Proof.Gen.Pre_small_sums_ReferenceIdeal
public import proofs.«01_k».proof.Proof.Run
public import proofs.«01_k».proof.Proof.Meets
public import Idealize.ShloMosaic.Lib.Quiescent
public import Idealize.ShloMosaic.Adequacy
public import Idealize.ShloMosaic.Init

@[expose] public section

noncomputable section

namespace Cert.Proof

open Idealize.ShloMosaic Idealize.SL.Sem

variable {F : FTy → Type} [FloatOps F]

/-- The two prints of the kernel have one body table. -/
theorem kernels_same : Cert.Kernel.defs₀ (F := F) = Cert.KernelIdeal.defs₀ := by
  unfold Cert.Kernel.defs₀ Cert.KernelIdeal.defs₀
  refine congrArg Defs.onTc ?_
  funext l a
  match l, a with
  | 0, (t, s) => rfl

/-- The two prints of the kernel have one table with the pipeline's entries. -/
theorem defs_same : Cert.Kernel.defs (F := F) = Cert.KernelIdeal.defs :=
  congrArg (Pipeline.defs (Cert.KernelIdeal.pcfgs (F := F))) kernels_same

/-- The kernel at the float words leaves its arguments as they were and every semaphore at zero. -/
theorem frame_kernel : Cert.quiescent_Kernel := fun m ρ _ => by
  rw [show Cert.Kernel.defs (F := Bits) = Cert.KernelIdeal.defs from defs_same]
  exact (θ_run (Cert.KernelIdeal.defs (F := Bits)) _ _).mono
    (fun _ (h : Cert.KernelIdeal.Pf.QC (F := Bits) m _) => ⟨fun c => ⟨(h.1 c).1, (h.1 c).2.1⟩, h.2⟩)
    (Cert.KernelIdeal.Pf.run_main (F := Bits) m ρ)

/-- The same of the kernel at the ideal instance. -/
theorem frame_kernelIdeal : Cert.quiescent_KernelIdeal := fun m ρ _ =>
  (θ_run Cert.KernelIdeal.defs _ _).mono (fun _ h => ⟨fun c => ⟨(h.1 c).1, (h.1 c).2.1⟩, h.2⟩)
    (Cert.KernelIdeal.Pf.run_main (F := Ideal) m ρ)

/-- The reference's run leaves its arguments as they were; it has no semaphore. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- All the claims together. -/
theorem claim : Cert.Claim := ⟨Cert.Kernel.Gen.facts, Cert.KernelIdeal.Gen.facts, Cert.ReferenceIdeal.Gen.facts,
  Cert.Pre_small_sums_KernelIdeal.Gen.facts, Cert.Pre_small_sums_ReferenceIdeal.Gen.facts,
  frame_kernel, frame_kernelIdeal, fun m ρ _ => frame_kernelIdeal m ρ trivial, frame_reference,
  fun m ρ _ => frame_reference m ρ trivial, trivial, Cert.KernelIdeal.Pf.meets⟩

end Cert.Proof

end
